-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanReferenceIdeal (m : (ℓ : Loc Cert.ScanReferenceIdeal.nD Cert.ScanReferenceIdeal.τ Cert.ScanReferenceIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesIdeal_x_finite [hPre_x_finite : Cert.Pre_x_finite.Facts] (m : (ℓ : Loc Cert.TablesIdeal.nD Cert.TablesIdeal.τ Cert.TablesIdeal.sig) → Buf (Elt Ideal) ℓ) : Prop :=
  ∀ c : Dev Cert.TablesIdeal.nD,
    (Cert.Pre_x_finite.fn (F := Ideal) (m ((c.tc : Thread Cert.TablesIdeal.nD Cert.TablesIdeal.τ).loc Cert.TablesIdeal.main_arg0)) (m ((c.tc : Thread Cert.TablesIdeal.nD Cert.TablesIdeal.τ).loc Cert.TablesIdeal.main_arg1)) (m ((c.tc : Thread Cert.TablesIdeal.nD Cert.TablesIdeal.τ).loc Cert.TablesIdeal.main_arg2))) = (fun _ => 1#1)

def Pre_TablesReferenceIdeal (m : (ℓ : Loc Cert.TablesReferenceIdeal.nD Cert.TablesReferenceIdeal.τ Cert.TablesReferenceIdeal.sig) → Buf (Elt Ideal) ℓ) : Prop :=
  True

def Pre_TablesReferenceIdeal_x_finite [hPre_x_finite : Cert.Pre_x_finite.Facts] (m : (ℓ : Loc Cert.TablesReferenceIdeal.nD Cert.TablesReferenceIdeal.τ Cert.TablesReferenceIdeal.sig) → Buf (Elt Ideal) ℓ) : Prop :=
  ∀ c : Dev Cert.TablesReferenceIdeal.nD,
    (Cert.Pre_x_finite.fn (F := Ideal) (m ((c.tc : Thread Cert.TablesReferenceIdeal.nD Cert.TablesReferenceIdeal.τ).loc Cert.TablesReferenceIdeal.main_arg0)) (m ((c.tc : Thread Cert.TablesReferenceIdeal.nD Cert.TablesReferenceIdeal.τ).loc Cert.TablesReferenceIdeal.main_arg1)) (m ((c.tc : Thread Cert.TablesReferenceIdeal.nD Cert.TablesReferenceIdeal.τ).loc Cert.TablesReferenceIdeal.main_arg2))) = (fun _ => 1#1)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0)
      ∧ r.2.mem ((c.tc : Thread Cert.Tables.nD Cert.Tables.τ).loc Cert.Tables.main_arg1) = m ((c.tc : Thread Cert.Tables.nD Cert.Tables.τ).loc Cert.Tables.main_arg1)
      ∧ r.2.mem ((c.tc : Thread Cert.Tables.nD Cert.Tables.τ).loc Cert.Tables.main_arg2) = m ((c.tc : Thread Cert.Tables.nD Cert.Tables.τ).loc Cert.Tables.main_arg2))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
      ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1)
      ∧ r.2.mem ((c.tc : Thread Cert.TablesIdeal.nD Cert.TablesIdeal.τ).loc Cert.TablesIdeal.main_arg2) = m ((c.tc : Thread Cert.TablesIdeal.nD Cert.TablesIdeal.τ).loc Cert.TablesIdeal.main_arg2))
      ∧ r.2.sem = fun _ => 0)

def quiescent_TablesIdeal_pre_x_finite [hTablesIdeal : Cert.TablesIdeal.Facts] [hPre_x_finite : Cert.Pre_x_finite.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal_x_finite m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
      ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1)
      ∧ r.2.mem ((c.tc : Thread Cert.TablesIdeal.nD Cert.TablesIdeal.τ).loc Cert.TablesIdeal.main_arg2) = m ((c.tc : Thread Cert.TablesIdeal.nD Cert.TablesIdeal.τ).loc Cert.TablesIdeal.main_arg2))
      ∧ r.2.sem = fun _ => 0)

def quiescent_TablesReferenceIdeal [hTablesReferenceIdeal : Cert.TablesReferenceIdeal.Facts] : Prop :=
  ∀ (m : (ℓ : Loc Cert.TablesReferenceIdeal.nD Cert.TablesReferenceIdeal.τ Cert.TablesReferenceIdeal.sig) → Buf (Elt Ideal) ℓ) (g : Dev Cert.TablesReferenceIdeal.nD → PrngReg), Pre_TablesReferenceIdeal m →
    θ_run (Cert.TablesReferenceIdeal.defs (F := Ideal)) (onTc (τ := Cert.TablesReferenceIdeal.τ) (Cert.TablesReferenceIdeal.main (F := Ideal))) ⟨m, fun _ => 0, g⟩ (fun r => (∀ c : Dev Cert.TablesReferenceIdeal.nD,
      r.2.mem ((c.tc : Thread Cert.TablesReferenceIdeal.nD Cert.TablesReferenceIdeal.τ).loc Cert.TablesReferenceIdeal.main_arg0) = m ((c.tc : Thread Cert.TablesReferenceIdeal.nD Cert.TablesReferenceIdeal.τ).loc Cert.TablesReferenceIdeal.main_arg0)
      ∧ r.2.mem ((c.tc : Thread Cert.TablesReferenceIdeal.nD Cert.TablesReferenceIdeal.τ).loc Cert.TablesReferenceIdeal.main_arg1) = m ((c.tc : Thread Cert.TablesReferenceIdeal.nD Cert.TablesReferenceIdeal.τ).loc Cert.TablesReferenceIdeal.main_arg1)
      ∧ r.2.mem ((c.tc : Thread Cert.TablesReferenceIdeal.nD Cert.TablesReferenceIdeal.τ).loc Cert.TablesReferenceIdeal.main_arg2) = m ((c.tc : Thread Cert.TablesReferenceIdeal.nD Cert.TablesReferenceIdeal.τ).loc Cert.TablesReferenceIdeal.main_arg2))
      ∧ r.2.sem = fun _ => 0)

def quiescent_TablesReferenceIdeal_pre_x_finite [hTablesReferenceIdeal : Cert.TablesReferenceIdeal.Facts] [hPre_x_finite : Cert.Pre_x_finite.Facts] : Prop :=
  ∀ (m : (ℓ : Loc Cert.TablesReferenceIdeal.nD Cert.TablesReferenceIdeal.τ Cert.TablesReferenceIdeal.sig) → Buf (Elt Ideal) ℓ) (g : Dev Cert.TablesReferenceIdeal.nD → PrngReg), Pre_TablesReferenceIdeal_x_finite m →
    θ_run (Cert.TablesReferenceIdeal.defs (F := Ideal)) (onTc (τ := Cert.TablesReferenceIdeal.τ) (Cert.TablesReferenceIdeal.main (F := Ideal))) ⟨m, fun _ => 0, g⟩ (fun r => (∀ c : Dev Cert.TablesReferenceIdeal.nD,
      r.2.mem ((c.tc : Thread Cert.TablesReferenceIdeal.nD Cert.TablesReferenceIdeal.τ).loc Cert.TablesReferenceIdeal.main_arg0) = m ((c.tc : Thread Cert.TablesReferenceIdeal.nD Cert.TablesReferenceIdeal.τ).loc Cert.TablesReferenceIdeal.main_arg0)
      ∧ r.2.mem ((c.tc : Thread Cert.TablesReferenceIdeal.nD Cert.TablesReferenceIdeal.τ).loc Cert.TablesReferenceIdeal.main_arg1) = m ((c.tc : Thread Cert.TablesReferenceIdeal.nD Cert.TablesReferenceIdeal.τ).loc Cert.TablesReferenceIdeal.main_arg1)
      ∧ r.2.mem ((c.tc : Thread Cert.TablesReferenceIdeal.nD Cert.TablesReferenceIdeal.τ).loc Cert.TablesReferenceIdeal.main_arg2) = m ((c.tc : Thread Cert.TablesReferenceIdeal.nD Cert.TablesReferenceIdeal.τ).loc Cert.TablesReferenceIdeal.main_arg2))
      ∧ r.2.sem = fun _ => 0)

def preserves_Scan_ScanIdeal : Prop :=
  True

def algebraic_ScanIdeal_ScanReferenceIdeal [hScanIdeal : Cert.ScanIdeal.Facts] [hScanReferenceIdeal : Cert.ScanReferenceIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)) →
    ∃ (v0 : (c : Dev Cert.ScanIdeal.nD) → Buf (Elt Ideal) ((c.tc : Thread Cert.ScanIdeal.nD Cert.ScanIdeal.τ).loc Cert.ScanIdeal.main_v0)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v51) = v0 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3))

def preserves_Tables_TablesIdeal : Prop :=
  True

def algebraic_TablesIdeal_TablesReferenceIdeal_pre_x_finite [hTablesIdeal : Cert.TablesIdeal.Facts] [hTablesReferenceIdeal : Cert.TablesReferenceIdeal.Facts] [hPre_x_finite : Cert.Pre_x_finite.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesReferenceIdeal.nD Cert.TablesReferenceIdeal.τ Cert.TablesReferenceIdeal.sig) → Buf (Elt Ideal) ℓ) (g' : Dev Cert.TablesReferenceIdeal.nD → PrngReg), Pre_TablesIdeal_x_finite m →
    (∀ c : Dev Cert.TablesIdeal.nD,
      m' ((c.tc : Thread Cert.TablesReferenceIdeal.nD Cert.TablesReferenceIdeal.τ).loc Cert.TablesReferenceIdeal.main_arg0) = m ((c.tc : Thread Cert.TablesIdeal.nD Cert.TablesIdeal.τ).loc Cert.TablesIdeal.main_arg0)
      ∧ m' ((c.tc : Thread Cert.TablesReferenceIdeal.nD Cert.TablesReferenceIdeal.τ).loc Cert.TablesReferenceIdeal.main_arg1) = m ((c.tc : Thread Cert.TablesIdeal.nD Cert.TablesIdeal.τ).loc Cert.TablesIdeal.main_arg1)
      ∧ m' ((c.tc : Thread Cert.TablesReferenceIdeal.nD Cert.TablesReferenceIdeal.τ).loc Cert.TablesReferenceIdeal.main_arg2) = m ((c.tc : Thread Cert.TablesIdeal.nD Cert.TablesIdeal.τ).loc Cert.TablesIdeal.main_arg2)) →
    ∃ (v0 : (c : Dev Cert.TablesIdeal.nD) → Buf (Elt Ideal) ((c.tc : Thread Cert.TablesIdeal.nD Cert.TablesIdeal.τ).loc Cert.TablesIdeal.main_v4_1)) (v1 : (c : Dev Cert.TablesIdeal.nD) → Buf (Elt Ideal) ((c.tc : Thread Cert.TablesIdeal.nD Cert.TablesIdeal.τ).loc Cert.TablesIdeal.main_v4_2)) (v2 : (c : Dev Cert.TablesIdeal.nD) → Buf (Elt Ideal) ((c.tc : Thread Cert.TablesIdeal.nD Cert.TablesIdeal.τ).loc Cert.TablesIdeal.main_v4_3)) (v3 : (c : Dev Cert.TablesIdeal.nD) → Buf (Elt Ideal) ((c.tc : Thread Cert.TablesIdeal.nD Cert.TablesIdeal.τ).loc Cert.TablesIdeal.main_v4_0)) (v4 : (c : Dev Cert.TablesIdeal.nD) → Buf (Elt Ideal) ((c.tc : Thread Cert.TablesIdeal.nD Cert.TablesIdeal.τ).loc Cert.TablesIdeal.main_v4_4)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v4_1) = v0 c
          ∧ r.2.mem ((c.tc : Thread Cert.TablesIdeal.nD Cert.TablesIdeal.τ).loc Cert.TablesIdeal.main_v4_2) = v1 c
          ∧ r.2.mem ((c.tc : Thread Cert.TablesIdeal.nD Cert.TablesIdeal.τ).loc Cert.TablesIdeal.main_v4_3) = v2 c
          ∧ r.2.mem ((c.tc : Thread Cert.TablesIdeal.nD Cert.TablesIdeal.τ).loc Cert.TablesIdeal.main_v4_0) = v3 c
          ∧ r.2.mem ((c.tc : Thread Cert.TablesIdeal.nD Cert.TablesIdeal.τ).loc Cert.TablesIdeal.main_v4_4) = v4 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
          ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1)
          ∧ r.2.mem ((c.tc : Thread Cert.TablesIdeal.nD Cert.TablesIdeal.τ).loc Cert.TablesIdeal.main_arg2) = m ((c.tc : Thread Cert.TablesIdeal.nD Cert.TablesIdeal.τ).loc Cert.TablesIdeal.main_arg2))
      ∧ θ_run (Cert.TablesReferenceIdeal.defs (F := Ideal)) (onTc (τ := Cert.TablesReferenceIdeal.τ) (Cert.TablesReferenceIdeal.main (F := Ideal))) ⟨m', fun _ => 0, g'⟩ (fun r => ∀ c : Dev Cert.TablesReferenceIdeal.nD,
          r.2.mem ((c.tc : Thread Cert.TablesReferenceIdeal.nD Cert.TablesReferenceIdeal.τ).loc Cert.TablesReferenceIdeal.main_v40) = v0 c
          ∧ r.2.mem ((c.tc : Thread Cert.TablesReferenceIdeal.nD Cert.TablesReferenceIdeal.τ).loc Cert.TablesReferenceIdeal.main_v42) = v1 c
          ∧ r.2.mem ((c.tc : Thread Cert.TablesReferenceIdeal.nD Cert.TablesReferenceIdeal.τ).loc Cert.TablesReferenceIdeal.main_v25) = v2 c
          ∧ r.2.mem ((c.tc : Thread Cert.TablesReferenceIdeal.nD Cert.TablesReferenceIdeal.τ).loc Cert.TablesReferenceIdeal.main_v61) = v3 c
          ∧ r.2.mem ((c.tc : Thread Cert.TablesReferenceIdeal.nD Cert.TablesReferenceIdeal.τ).loc Cert.TablesReferenceIdeal.main_v64) = v4 c
          ∧ r.2.mem ((c.tc : Thread Cert.TablesReferenceIdeal.nD Cert.TablesReferenceIdeal.τ).loc Cert.TablesReferenceIdeal.main_arg0) = m' ((c.tc : Thread Cert.TablesReferenceIdeal.nD Cert.TablesReferenceIdeal.τ).loc Cert.TablesReferenceIdeal.main_arg0)
          ∧ r.2.mem ((c.tc : Thread Cert.TablesReferenceIdeal.nD Cert.TablesReferenceIdeal.τ).loc Cert.TablesReferenceIdeal.main_arg1) = m' ((c.tc : Thread Cert.TablesReferenceIdeal.nD Cert.TablesReferenceIdeal.τ).loc Cert.TablesReferenceIdeal.main_arg1)
          ∧ r.2.mem ((c.tc : Thread Cert.TablesReferenceIdeal.nD Cert.TablesReferenceIdeal.τ).loc Cert.TablesReferenceIdeal.main_arg2) = m' ((c.tc : Thread Cert.TablesReferenceIdeal.nD Cert.TablesReferenceIdeal.τ).loc Cert.TablesReferenceIdeal.main_arg2))

def Claim : Prop :=
  ∃ (hScan : Cert.Scan.Facts) (hScanIdeal : Cert.ScanIdeal.Facts) (hScanReferenceIdeal : Cert.ScanReferenceIdeal.Facts) (hTables : Cert.Tables.Facts) (hTablesIdeal : Cert.TablesIdeal.Facts) (hTablesReferenceIdeal : Cert.TablesReferenceIdeal.Facts) (hPre_x_finite : Cert.Pre_x_finite.Facts),
    quiescent_Scan (hScan := hScan)
    ∧ quiescent_ScanIdeal (hScanIdeal := hScanIdeal)
    ∧ quiescent_ScanReferenceIdeal (hScanReferenceIdeal := hScanReferenceIdeal)
    ∧ quiescent_Tables (hTables := hTables)
    ∧ quiescent_TablesIdeal (hTablesIdeal := hTablesIdeal)
    ∧ quiescent_TablesIdeal_pre_x_finite (hTablesIdeal := hTablesIdeal) (hPre_x_finite := hPre_x_finite)
    ∧ quiescent_TablesReferenceIdeal (hTablesReferenceIdeal := hTablesReferenceIdeal)
    ∧ quiescent_TablesReferenceIdeal_pre_x_finite (hTablesReferenceIdeal := hTablesReferenceIdeal) (hPre_x_finite := hPre_x_finite)
    ∧ preserves_Scan_ScanIdeal
    ∧ algebraic_ScanIdeal_ScanReferenceIdeal (hScanIdeal := hScanIdeal) (hScanReferenceIdeal := hScanReferenceIdeal)
    ∧ preserves_Tables_TablesIdeal
    ∧ algebraic_TablesIdeal_TablesReferenceIdeal_pre_x_finite (hTablesIdeal := hTablesIdeal) (hTablesReferenceIdeal := hTablesReferenceIdeal) (hPre_x_finite := hPre_x_finite)
-- ==== Pre_x_finite.lean ====
abbrev S160x1024 : Shape := ⟨2, ![160, 1024]⟩
abbrev S128x256x8 : Shape := ⟨3, ![128, 256, 8]⟩
abbrev S128 : Shape := ⟨1, ![128]⟩
abbrev S_ : Shape := ⟨0, ![]⟩

class Facts : Prop where
  bitsLt_bf16_f32 : FTy.bits .bf16 < FTy.bits .f32
  bcast_S_S160x1024 : S_.BroadcastsInDim S160x1024 (![] : Fin 0 → Fin S160x1024.rank)
  reducesTo_S160x1024_S_d0_1 : S160x1024.ReducesTo [0, 1] S_
  h_S_ : 0 < S_.numel

variable [Facts]

def fn {F : FTy → Type} [FloatOps F] (main_arg0 : FVec F S160x1024 .bf16) (main_arg1 : FVec F S128x256x8 .fp8e4m3) (main_arg2 : FVec F S128 .f32) : IVec S_ 1 :=
  let main_v0 : FVec F S160x1024 .f32 := (extf .f32 · bitsLt_bf16_f32) main_arg0
  let main_v1 : FVec F S160x1024 .f32 := Host.absf main_v0
  let main_cst : FVec F S_ .f32 := constant S_ .f32 0x7F800000#32
  let main_v2 : FVec F S160x1024 .f32 := broadcastInDim S160x1024 ![] bcast_S_S160x1024 main_cst
  let main_v3 : IVec S160x1024 1 := cmpf .olt main_v1 main_v2
  let main_c : IVec S_ 1 := constantI S_ 1 1#1
  let main_v4 : IVec S_ 1 := (fun x v => Host.reduce IntOp.andi x v reducesTo_S160x1024_S_d0_1 h_S_) main_v3 main_c
  main_v4
-- ==== Scan.lean ====
abbrev S128x2x40x128 : Shape := ⟨4, ![128, 2, 40, 128]⟩
abbrev S160x128 : Shape := ⟨2, ![160, 128]⟩
abbrev S196608x128 : Shape := ⟨2, ![196608, 128]⟩
abbrev S160x196608 : Shape := ⟨2, ![160, 196608]⟩
abbrev S512x128 : Shape := ⟨2, ![512, 128]⟩
abbrev S160x512 : Shape := ⟨2, ![160, 512]⟩
abbrev S4x4x32x128 : Shape := ⟨4, ![4, 4, 32, 128]⟩
abbrev S128x512 : Shape := ⟨2, ![128, 512]⟩
abbrev S128x128 : Shape := ⟨2, ![128, 128]⟩
abbrev S4x32x128 : Shape := ⟨3, ![4, 32, 128]⟩
abbrev S1x4x32x128 : Shape := ⟨4, ![1, 4, 32, 128]⟩
abbrev S8x128 : Shape := ⟨2, ![8, 128]⟩
abbrev S1x1x1x128 : Shape := ⟨4, ![1, 1, 1, 128]⟩
abbrev S1x128 : Shape := ⟨2, ![1, 128]⟩
abbrev S1x1x8x128 : Shape := ⟨4, ![1, 1, 8, 128]⟩
abbrev S8x128x1 : Shape := ⟨3, ![8, 128, 1]⟩

abbrev nBuf : Space → Nat
  | .hbm => 5
  | .vmem => 8
  | .smem => 0
  | _ => 0

abbrev bufTy : (tb : Table) → Fin (tcTables nBuf tb) → BufTy
  | .hbm, ⟨0, _⟩ => ⟨S128x2x40x128, .i32⟩
  | .hbm, ⟨1, _⟩ => ⟨S160x128, .f32⟩
  | .hbm, ⟨2, _⟩ => ⟨S160x128, .f32⟩
  | .hbm, ⟨3, _⟩ => ⟨S196608x128, .i8⟩
  | .hbm, ⟨4, _⟩ => ⟨S160x196608, .bf16⟩
  | .local _ .vmem, ⟨0, _⟩ => ⟨S128x2x40x128, .i32⟩
  | .local _ .vmem, ⟨1, _⟩ => ⟨S160x128, .f32⟩
  | .local _ .vmem, ⟨2, _⟩ => ⟨S160x128, .f32⟩
  | .local _ .vmem, ⟨3, _⟩ => ⟨S512x128, .i8⟩
  | .local _ .vmem, ⟨4, _⟩ => ⟨S512x128, .i8⟩
  | .local _ .vmem, ⟨5, _⟩ => ⟨S160x512, .bf16⟩
  | .local _ .vmem, ⟨6, _⟩ => ⟨S160x512, .bf16⟩
  | .local _ .vmem, ⟨7, _⟩ => ⟨S4x4x32x128, .i32⟩
  | _, _ => ⟨S128x2x40x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![384], ![false]⟩

@[reducible] def k0_t1_loop : Scf.Loop 32 :=
  let c0_i32_14 : BitVec 32 := 0#32
  let c4_i32 : BitVec 32 := 4#32
  let v24 : BitVec 32 := Scalar.addi c0_i32_14 c4_i32
  let c1_i32 : BitVec 32 := 1#32
  ⟨c0_i32_14, v24, c1_i32⟩
def k0_mult1 (k0_t1 : Fin k0_t1_loop.trips) : BitVec 32 :=
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  v25
@[reducible] def k0_t2_loop : Scf.Loop 32 :=
  let c0_i32_16 : BitVec 32 := 0#32
  let c4_i32_17 : BitVec 32 := 4#32
  let v27 : BitVec 32 := Scalar.addi c0_i32_16 c4_i32_17
  let c1_i32_18 : BitVec 32 := 1#32
  ⟨c0_i32_16, v27, c1_i32_18⟩
def k0_off1 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v246 : Index := Scalar.indexCast arg7
  let c0_i32_16 : BitVec 32 := 0#32
  let c1_i32_18 : BitVec 32 := 1#32
  let arg8 : BitVec 32 := Scf.iv c0_i32_16 c1_i32_18 k0_t2
  let v247 : Index := Scalar.indexCast arg8
  let c0_124 : Index := 0#32
  let c0_125 : Index := 0#32
  ![v246.toNat, v247.toNat, 0, 0]
def k0_off2 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v256 : Index := Scalar.indexCast v245
  let c1_127 : Index := 1#32
  let c0_128 : Index := 0#32
  let c0_129 : Index := 0#32
  ![v256.toNat, 1, 0, 0]
def k0_off3 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v267 : Index := Scalar.indexCast v245
  let c0_132 : Index := 0#32
  let c0_133 : Index := 0#32
  let c0_134 : Index := 0#32
  ![v267.toNat, 0, 0, 0]
def k0_off4 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v285 : Index := Scalar.indexCast v245
  let c1_138 : Index := 1#32
  let c8_139 : Index := 8#32
  let c0_140 : Index := 0#32
  ![v285.toNat, 1, 8, 0]
def k0_off5 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v296 : Index := Scalar.indexCast v245
  let c0_143 : Index := 0#32
  let c8_144 : Index := 8#32
  let c0_145 : Index := 0#32
  ![v296.toNat, 0, 8, 0]
def k0_off6 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v314 : Index := Scalar.indexCast v245
  let c1_150 : Index := 1#32
  let c16_151 : Index := 16#32
  let c0_152 : Index := 0#32
  ![v314.toNat, 1, 16, 0]
def k0_off7 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v325 : Index := Scalar.indexCast v245
  let c0_155 : Index := 0#32
  let c16_156 : Index := 16#32
  let c0_157 : Index := 0#32
  ![v325.toNat, 0, 16, 0]
def k0_off8 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v343 : Index := Scalar.indexCast v245
  let c1_162 : Index := 1#32
  let c24_163 : Index := 24#32
  let c0_164 : Index := 0#32
  ![v343.toNat, 1, 24, 0]
def k0_off9 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v354 : Index := Scalar.indexCast v245
  let c0_167 : Index := 0#32
  let c24_168 : Index := 24#32
  let c0_169 : Index := 0#32
  ![v354.toNat, 0, 24, 0]
def k0_off10 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v372 : Index := Scalar.indexCast v245
  let c1_174 : Index := 1#32
  let c32_175 : Index := 32#32
  let c0_176 : Index := 0#32
  ![v372.toNat, 1, 32, 0]
def k0_off11 (k0_t2 : Fin k0_t2_loop.trips) (c0_i32_123 : BitVec 32) : Fin 4 → Nat :=
  let c0_i32_16 : BitVec 32 := 0#32
  let c1_i32_18 : BitVec 32 := 1#32
  let arg8 : BitVec 32 := Scf.iv c0_i32_16 c1_i32_18 k0_t2
  let c32_i32 : BitVec 32 := 32#32
  let v244 : BitVec 32 := Scalar.muli arg8 c32_i32
  let v245 : BitVec 32 := Scalar.addi v244 c0_i32_123
  let v383 : Index := Scalar.indexCast v245
  let c0_179 : Index := 0#32
  let c32_180 : Index := 32#32
  let c0_181 : Index := 0#32
  ![v383.toNat, 0, 32, 0]
def k0_off12 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v403 : Index := Scalar.indexCast arg7
  let c0_i32_16 : BitVec 32 := 0#32
  let c1_i32_18 : BitVec 32 := 1#32
  let arg8 : BitVec 32 := Scf.iv c0_i32_16 c1_i32_18 k0_t2
  let v404 : Index := Scalar.indexCast arg8
  let c1_188 : Index := 1#32
  let c0_189 : Index := 0#32
  ![v403.toNat, v404.toNat, 1, 0]
def k0_off13 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v560 : Index := Scalar.indexCast arg7
  let c0_i32_16 : BitVec 32 := 0#32
  let c1_i32_18 : BitVec 32 := 1#32
  let arg8 : BitVec 32 := Scf.iv c0_i32_16 c1_i32_18 k0_t2
  let v561 : Index := Scalar.indexCast arg8
  let c2_253 : Index := 2#32
  let c0_254 : Index := 0#32
  ![v560.toNat, v561.toNat, 2, 0]
def k0_off14 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v717 : Index := Scalar.indexCast arg7
  let c0_i32_16 : BitVec 32 := 0#32
  let c1_i32_18 : BitVec 32 := 1#32
  let arg8 : BitVec 32 := Scf.iv c0_i32_16 c1_i32_18 k0_t2
  let v718 : Index := Scalar.indexCast arg8
  let c3_318 : Index := 3#32
  let c0_319 : Index := 0#32
  ![v717.toNat, v718.toNat, 3, 0]
def k0_off15 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v874 : Index := Scalar.indexCast arg7
  let c0_i32_16 : BitVec 32 := 0#32
  let c1_i32_18 : BitVec 32 := 1#32
  let arg8 : BitVec 32 := Scf.iv c0_i32_16 c1_i32_18 k0_t2
  let v875 : Index := Scalar.indexCast arg8
  let c4 : Index := 4#32
  let c0_384 : Index := 0#32
  ![v874.toNat, v875.toNat, 4, 0]
def k0_off16 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1031 : Index := Scalar.indexCast arg7
  let c0_i32_16 : BitVec 32 := 0#32
  let c1_i32_18 : BitVec 32 := 1#32
  let arg8 : BitVec 32 := Scf.iv c0_i32_16 c1_i32_18 k0_t2
  let v1032 : Index := Scalar.indexCast arg8
  let c5 : Index := 5#32
  let c0_448 : Index := 0#32
  ![v1031.toNat, v1032.toNat, 5, 0]
def k0_off17 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1188 : Index := Scalar.indexCast arg7
  let c0_i32_16 : BitVec 32 := 0#32
  let c1_i32_18 : BitVec 32 := 1#32
  let arg8 : BitVec 32 := Scf.iv c0_i32_16 c1_i32_18 k0_t2
  let v1189 : Index := Scalar.indexCast arg8
  let c6 : Index := 6#32
  let c0_512 : Index := 0#32
  ![v1188.toNat, v1189.toNat, 6, 0]
def k0_off18 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1345 : Index := Scalar.indexCast arg7
  let c0_i32_16 : BitVec 32 := 0#32
  let c1_i32_18 : BitVec 32 := 1#32
  let arg8 : BitVec 32 := Scf.iv c0_i32_16 c1_i32_18 k0_t2
  let v1346 : Index := Scalar.indexCast arg8
  let c7 : Index := 7#32
  let c0_576 : Index := 0#32
  ![v1345.toNat, v1346.toNat, 7, 0]
def k0_off19 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1502 : Index := Scalar.indexCast arg7
  let c0_i32_16 : BitVec 32 := 0#32
  let c1_i32_18 : BitVec 32 := 1#32
  let arg8 : BitVec 32 := Scf.iv c0_i32_16 c1_i32_18 k0_t2
  let v1503 : Index := Scalar.indexCast arg8
  let c8_641 : Index := 8#32
  let c0_642 : Index := 0#32
  ![v1502.toNat, v1503.toNat, 8, 0]
def k0_off20 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1659 : Index := Scalar.indexCast arg7
  let c0_i32_16 : BitVec 32 := 0#32
  let c1_i32_18 : BitVec 32 := 1#32
  let arg8 : BitVec 32 := Scf.iv c0_i32_16 c1_i32_18 k0_t2
  let v1660 : Index := Scalar.indexCast arg8
  let c9 : Index := 9#32
  let c0_706 : Index := 0#32
  ![v1659.toNat, v1660.toNat, 9, 0]
def k0_off21 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1816 : Index := Scalar.indexCast arg7
  let c0_i32_16 : BitVec 32 := 0#32
  let c1_i32_18 : BitVec 32 := 1#32
  let arg8 : BitVec 32 := Scf.iv c0_i32_16 c1_i32_18 k0_t2
  let v1817 : Index := Scalar.indexCast arg8
  let c10 : Index := 10#32
  let c0_770 : Index := 0#32
  ![v1816.toNat, v1817.toNat, 10, 0]
def k0_off22 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v1973 : Index := Scalar.indexCast arg7
  let c0_i32_16 : BitVec 32 := 0#32
  let c1_i32_18 : BitVec 32 := 1#32
  let arg8 : BitVec 32 := Scf.iv c0_i32_16 c1_i32_18 k0_t2
  let v1974 : Index := Scalar.indexCast arg8
  let c11 : Index := 11#32
  let c0_834 : Index := 0#32
  ![v1973.toNat, v1974.toNat, 11, 0]
def k0_off23 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v2130 : Index := Scalar.indexCast arg7
  let c0_i32_16 : BitVec 32 := 0#32
  let c1_i32_18 : BitVec 32 := 1#32
  let arg8 : BitVec 32 := Scf.iv c0_i32_16 c1_i32_18 k0_t2
  let v2131 : Index := Scalar.indexCast arg8
  let c12 : Index := 12#32
  let c0_898 : Index := 0#32
  ![v2130.toNat, v2131.toNat, 12, 0]
def k0_off24 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v2287 : Index := Scalar.indexCast arg7
  let c0_i32_16 : BitVec 32 := 0#32
  let c1_i32_18 : BitVec 32 := 1#32
  let arg8 : BitVec 32 := Scf.iv c0_i32_16 c1_i32_18 k0_t2
  let v2288 : Index := Scalar.indexCast arg8
  let c13 : Index := 13#32
  let c0_962 : Index := 0#32
  ![v2287.toNat, v2288.toNat, 13, 0]
def k0_off25 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v2444 : Index := Scalar.indexCast arg7
  let c0_i32_16 : BitVec 32 := 0#32
  let c1_i32_18 : BitVec 32 := 1#32
  let arg8 : BitVec 32 := Scf.iv c0_i32_16 c1_i32_18 k0_t2
  let v2445 : Index := Scalar.indexCast arg8
  let c14 : Index := 14#32
  let c0_1026 : Index := 0#32
  ![v2444.toNat, v2445.toNat, 14, 0]
def k0_off26 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v2601 : Index := Scalar.indexCast arg7
  let c0_i32_16 : BitVec 32 := 0#32
  let c1_i32_18 : BitVec 32 := 1#32
  let arg8 : BitVec 32 := Scf.iv c0_i32_16 c1_i32_18 k0_t2
  let v2602 : Index := Scalar.indexCast arg8
  let c15 : Index := 15#32
  let c0_1090 : Index := 0#32
  ![v2601.toNat, v2602.toNat, 15, 0]
def k0_off27 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v2758 : Index := Scalar.indexCast arg7
  let c0_i32_16 : BitVec 32 := 0#32
  let c1_i32_18 : BitVec 32 := 1#32
  let arg8 : BitVec 32 := Scf.iv c0_i32_16 c1_i32_18 k0_t2
  let v2759 : Index := Scalar.indexCast arg8
  let c16_1155 : Index := 16#32
  let c0_1156 : Index := 0#32
  ![v2758.toNat, v2759.toNat, 16, 0]
def k0_off28 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v2915 : Index := Scalar.indexCast arg7
  let c0_i32_16 : BitVec 32 := 0#32
  let c1_i32_18 : BitVec 32 := 1#32
  let arg8 : BitVec 32 := Scf.iv c0_i32_16 c1_i32_18 k0_t2
  let v2916 : Index := Scalar.indexCast arg8
  let c17 : Index := 17#32
  let c0_1220 : Index := 0#32
  ![v2915.toNat, v2916.toNat, 17, 0]
def k0_off29 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v3072 : Index := Scalar.indexCast arg7
  let c0_i32_16 : BitVec 32 := 0#32
  let c1_i32_18 : BitVec 32 := 1#32
  let arg8 : BitVec 32 := Scf.iv c0_i32_16 c1_i32_18 k0_t2
  let v3073 : Index := Scalar.indexCast arg8
  let c18 : Index := 18#32
  let c0_1284 : Index := 0#32
  ![v3072.toNat, v3073.toNat, 18, 0]
def k0_off30 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v3229 : Index := Scalar.indexCast arg7
  let c0_i32_16 : BitVec 32 := 0#32
  let c1_i32_18 : BitVec 32 := 1#32
  let arg8 : BitVec 32 := Scf.iv c0_i32_16 c1_i32_18 k0_t2
  let v3230 : Index := Scalar.indexCast arg8
  let c19 : Index := 19#32
  let c0_1348 : Index := 0#32
  ![v3229.toNat, v3230.toNat, 19, 0]
def k0_off31 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v3386 : Index := Scalar.indexCast arg7
  let c0_i32_16 : BitVec 32 := 0#32
  let c1_i32_18 : BitVec 32 := 1#32
  let arg8 : BitVec 32 := Scf.iv c0_i32_16 c1_i32_18 k0_t2
  let v3387 : Index := Scalar.indexCast arg8
  let c20 : Index := 20#32
  let c0_1412 : Index := 0#32
  ![v3386.toNat, v3387.toNat, 20, 0]
def k0_off32 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v3543 : Index := Scalar.indexCast arg7
  let c0_i32_16 : BitVec 32 := 0#32
  let c1_i32_18 : BitVec 32 := 1#32
  let arg8 : BitVec 32 := Scf.iv c0_i32_16 c1_i32_18 k0_t2
  let v3544 : Index := Scalar.indexCast arg8
  let c21 : Index := 21#32
  let c0_1476 : Index := 0#32
  ![v3543.toNat, v3544.toNat, 21, 0]
def k0_off33 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v3700 : Index := Scalar.indexCast arg7
  let c0_i32_16 : BitVec 32 := 0#32
  let c1_i32_18 : BitVec 32 := 1#32
  let arg8 : BitVec 32 := Scf.iv c0_i32_16 c1_i32_18 k0_t2
  let v3701 : Index := Scalar.indexCast arg8
  let c22 : Index := 22#32
  let c0_1540 : Index := 0#32
  ![v3700.toNat, v3701.toNat, 22, 0]
def k0_off34 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v3857 : Index := Scalar.indexCast arg7
  let c0_i32_16 : BitVec 32 := 0#32
  let c1_i32_18 : BitVec 32 := 1#32
  let arg8 : BitVec 32 := Scf.iv c0_i32_16 c1_i32_18 k0_t2
  let v3858 : Index := Scalar.indexCast arg8
  let c23 : Index := 23#32
  let c0_1604 : Index := 0#32
  ![v3857.toNat, v3858.toNat, 23, 0]
def k0_off35 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4014 : Index := Scalar.indexCast arg7
  let c0_i32_16 : BitVec 32 := 0#32
  let c1_i32_18 : BitVec 32 := 1#32
  let arg8 : BitVec 32 := Scf.iv c0_i32_16 c1_i32_18 k0_t2
  let v4015 : Index := Scalar.indexCast arg8
  let c24_1668 : Index := 24#32
  let c0_1669 : Index := 0#32
  ![v4014.toNat, v4015.toNat, 24, 0]
def k0_off36 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4171 : Index := Scalar.indexCast arg7
  let c0_i32_16 : BitVec 32 := 0#32
  let c1_i32_18 : BitVec 32 := 1#32
  let arg8 : BitVec 32 := Scf.iv c0_i32_16 c1_i32_18 k0_t2
  let v4172 : Index := Scalar.indexCast arg8
  let c25 : Index := 25#32
  let c0_1733 : Index := 0#32
  ![v4171.toNat, v4172.toNat, 25, 0]
def k0_off37 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4328 : Index := Scalar.indexCast arg7
  let c0_i32_16 : BitVec 32 := 0#32
  let c1_i32_18 : BitVec 32 := 1#32
  let arg8 : BitVec 32 := Scf.iv c0_i32_16 c1_i32_18 k0_t2
  let v4329 : Index := Scalar.indexCast arg8
  let c26 : Index := 26#32
  let c0_1797 : Index := 0#32
  ![v4328.toNat, v4329.toNat, 26, 0]
def k0_off38 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4485 : Index := Scalar.indexCast arg7
  let c0_i32_16 : BitVec 32 := 0#32
  let c1_i32_18 : BitVec 32 := 1#32
  let arg8 : BitVec 32 := Scf.iv c0_i32_16 c1_i32_18 k0_t2
  let v4486 : Index := Scalar.indexCast arg8
  let c27 : Index := 27#32
  let c0_1861 : Index := 0#32
  ![v4485.toNat, v4486.toNat, 27, 0]
def k0_off39 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4642 : Index := Scalar.indexCast arg7
  let c0_i32_16 : BitVec 32 := 0#32
  let c1_i32_18 : BitVec 32 := 1#32
  let arg8 : BitVec 32 := Scf.iv c0_i32_16 c1_i32_18 k0_t2
  let v4643 : Index := Scalar.indexCast arg8
  let c28 : Index := 28#32
  let c0_1925 : Index := 0#32
  ![v4642.toNat, v4643.toNat, 28, 0]
def k0_off40 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4799 : Index := Scalar.indexCast arg7
  let c0_i32_16 : BitVec 32 := 0#32
  let c1_i32_18 : BitVec 32 := 1#32
  let arg8 : BitVec 32 := Scf.iv c0_i32_16 c1_i32_18 k0_t2
  let v4800 : Index := Scalar.indexCast arg8
  let c29 : Index := 29#32
  let c0_1989 : Index := 0#32
  ![v4799.toNat, v4800.toNat, 29, 0]
def k0_off41 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v4956 : Index := Scalar.indexCast arg7
  let c0_i32_16 : BitVec 32 := 0#32
  let c1_i32_18 : BitVec 32 := 1#32
  let arg8 : BitVec 32 := Scf.iv c0_i32_16 c1_i32_18 k0_t2
  let v4957 : Index := Scalar.indexCast arg8
  let c30 : Index := 30#32
  let c0_2053 : Index := 0#32
  ![v4956.toNat, v4957.toNat, 30, 0]
def k0_off42 (k0_t1 : Fin k0_t1_loop.trips) (k0_t2 : Fin k0_t2_loop.trips) : Fin 4 → Nat :=
  let c0_i32_14 : BitVec 32 := 0#32
  let c1_i32 : BitVec 32 := 1#32
  let arg7 : BitVec 32 := Scf.iv c0_i32_14 c1_i32 k0_t1
  let v5113 : Index := Scalar.indexCast arg7
  let c0_i32_16 : BitVec 32 := 0#32
  let c1_i32_18 : BitVec 32 := 1#32
  let arg8 : BitVec 32 := Scf.iv c0_i32_16 c1_i32_18 k0_t2
  let v5114 : Index := Scalar.indexCast arg8
  let c31 : Index := 31#32
  let c0_2117 : Index := 0#32
  ![v5113.toNat, v5114.toNat, 31, 0]
def k0_off43 (k0_t1 : Fin k0_t1_loop.trips) : Fin 2 → Nat :=
  let c0_26 : Index := 0#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v46 : Index := Scalar.indexCast v26
  ![0, v46.toNat]
def k0_off44 (k0_t1 : Fin k0_t1_loop.trips) : Fin 2 → Nat :=
  let c40_30 : Index := 40#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v54 : Index := Scalar.indexCast v26
  ![40, v54.toNat]
def k0_off45 (k0_t1 : Fin k0_t1_loop.trips) : Fin 2 → Nat :=
  let c80_34 : Index := 80#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v62 : Index := Scalar.indexCast v26
  ![80, v62.toNat]
def k0_off46 (k0_t1 : Fin k0_t1_loop.trips) : Fin 2 → Nat :=
  let c120_38 : Index := 120#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v70 : Index := Scalar.indexCast v26
  ![120, v70.toNat]
def k0_off47 (k0_t1 : Fin k0_t1_loop.trips) : Fin 2 → Nat :=
  let c8_47 : Index := 8#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v89 : Index := Scalar.indexCast v26
  ![8, v89.toNat]
def k0_off48 (k0_t1 : Fin k0_t1_loop.trips) : Fin 2 → Nat :=
  let c48_51 : Index := 48#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v97 : Index := Scalar.indexCast v26
  ![48, v97.toNat]
def k0_off49 (k0_t1 : Fin k0_t1_loop.trips) : Fin 2 → Nat :=
  let c88_55 : Index := 88#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v105 : Index := Scalar.indexCast v26
  ![88, v105.toNat]
def k0_off50 (k0_t1 : Fin k0_t1_loop.trips) : Fin 2 → Nat :=
  let c128_59 : Index := 128#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v113 : Index := Scalar.indexCast v26
  ![128, v113.toNat]
def k0_off51 (k0_t1 : Fin k0_t1_loop.trips) : Fin 2 → Nat :=
  let c16_68 : Index := 16#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v132 : Index := Scalar.indexCast v26
  ![16, v132.toNat]
def k0_off52 (k0_t1 : Fin k0_t1_loop.trips) : Fin 2 → Nat :=
  let c56_72 : Index := 56#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v140 : Index := Scalar.indexCast v26
  ![56, v140.toNat]
def k0_off53 (k0_t1 : Fin k0_t1_loop.trips) : Fin 2 → Nat :=
  let c96_76 : Index := 96#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v148 : Index := Scalar.indexCast v26
  ![96, v148.toNat]
def k0_off54 (k0_t1 : Fin k0_t1_loop.trips) : Fin 2 → Nat :=
  let c136_80 : Index := 136#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v156 : Index := Scalar.indexCast v26
  ![136, v156.toNat]
def k0_off55 (k0_t1 : Fin k0_t1_loop.trips) : Fin 2 → Nat :=
  let c24_89 : Index := 24#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v175 : Index := Scalar.indexCast v26
  ![24, v175.toNat]
def k0_off56 (k0_t1 : Fin k0_t1_loop.trips) : Fin 2 → Nat :=
  let c64_93 : Index := 64#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v183 : Index := Scalar.indexCast v26
  ![64, v183.toNat]
def k0_off57 (k0_t1 : Fin k0_t1_loop.trips) : Fin 2 → Nat :=
  let c104_97 : Index := 104#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v191 : Index := Scalar.indexCast v26
  ![104, v191.toNat]
def k0_off58 (k0_t1 : Fin k0_t1_loop.trips) : Fin 2 → Nat :=
  let c144_101 : Index := 144#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v199 : Index := Scalar.indexCast v26
  ![144, v199.toNat]
def k0_off59 (k0_t1 : Fin k0_t1_loop.trips) : Fin 2 → Nat :=
  let c32_110 : Index := 32#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v218 : Index := Scalar.indexCast v26
  ![32, v218.toNat]
def k0_off60 (k0_t1 : Fin k0_t1_loop.trips) : Fin 2 → Nat :=
  let c72_114 : Index := 72#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v226 : Index := Scalar.indexCast v26
  ![72, v226.toNat]
def k0_off61 (k0_t1 : Fin k0_t1_loop.trips) : Fin 2 → Nat :=
  let c112_118 : Index := 112#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v234 : Index := Scalar.indexCast v26
  ![112, v234.toNat]
def k0_off62 (k0_t1 : Fin k0_t1_loop.trips) : Fin 2 → Nat :=
  let c152_122 : Index := 152#32
  let c0_i32_14 : BitVec 32 := 0#32
  let c1_i32 : BitVec 32 := 1#32
  let arg7 : BitVec 32 := Scf.iv c0_i32_14 c1_i32 k0_t1
  let c128_i32 : BitVec 32 := 128#32
  let v25 : BitVec 32 := Scalar.muli arg7 c128_i32
  let v26 : BitVec 32 := v25
  let v242 : Index := Scalar.indexCast v26
  ![152, v242.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2x40x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScanReferenceIdeal.lean ====
abbrev S128x2x40x128 : Shape := ⟨4, ![128, 2, 40, 128]⟩
abbrev S160x128 : Shape := ⟨2, ![160, 128]⟩
abbrev S196608x128 : Shape := ⟨2, ![196608, 128]⟩
abbrev S_ : Shape := ⟨0, ![]⟩
abbrev S1x128x2x40x128 : Shape := ⟨5, ![1, 128, 2, 40, 128]⟩
abbrev S4x128x2x40x128 : Shape := ⟨5, ![4, 128, 2, 40, 128]⟩
abbrev S4x40x128x2x128 : Shape := ⟨5, ![4, 40, 128, 2, 128]⟩
abbrev S160x128x256 : Shape := ⟨3, ![160, 128, 256]⟩
abbrev S128 : Shape := ⟨1, ![128]⟩
abbrev S1x128 : Shape := ⟨2, ![1, 128]⟩
abbrev S196608x128x1 : Shape := ⟨3, ![196608, 128, 1]⟩
abbrev S196608x128x2 : Shape := ⟨3, ![196608, 128, 2]⟩
abbrev S160x196608x128 : Shape := ⟨3, ![160, 196608, 128]⟩
abbrev S160x196608 : Shape := ⟨2, ![160, 196608]⟩
abbrev S1x160x1x128 : Shape := ⟨4, ![1, 160, 1, 128]⟩
abbrev S1x160x1536x128 : Shape := ⟨4, ![1, 160, 1536, 128]⟩

abbrev nBuf : Space → Nat
  | .hbm => 69
  | .vmem => 0
  | .smem => 0
  | _ => 0

abbrev bufTy : (tb : Table) → Fin (tcTables nBuf tb) → BufTy
  | .hbm, ⟨0, _⟩ => ⟨S128x2x40x128, .i32⟩
  | .hbm, ⟨1, _⟩ => ⟨S160x128, .f32⟩
  | .hbm, ⟨2, _⟩ => ⟨S160x128, .f32⟩
  | .hbm, ⟨3, _⟩ => ⟨S196608x128, .i8⟩
  | .hbm, ⟨4, _⟩ => ⟨S_, .i32⟩
  | .hbm, ⟨5, _⟩ => ⟨S128x2x40x128, .i32⟩
  | .hbm, ⟨6, _⟩ => ⟨S128x2x40x128, .i32⟩
  | .hbm, ⟨7, _⟩ => ⟨S_, .i32⟩
  | .hbm, ⟨8, _⟩ => ⟨S128x2x40x128, .i32⟩
  | .hbm, ⟨9, _⟩ => ⟨S128x2x40x128, .i32⟩
  | .hbm, ⟨10, _⟩ => ⟨S_, .i32⟩
  | .hbm, ⟨11, _⟩ => ⟨S128x2x40x128, .i32⟩
  | .hbm, ⟨12, _⟩ => ⟨S128x2x40x128, .i32⟩
  | .hbm, ⟨13, _⟩ => ⟨S_, .i32⟩
  | .hbm, ⟨14, _⟩ => ⟨S128x2x40x128, .i32⟩
  | .hbm, ⟨15, _⟩ => ⟨S128x2x40x128, .i32⟩
  | .hbm, ⟨16, _⟩ => ⟨S_, .i32⟩
  | .hbm, ⟨17, _⟩ => ⟨S128x2x40x128, .i32⟩
  | .hbm, ⟨18, _⟩ => ⟨S128x2x40x128, .i32⟩
  | .hbm, ⟨19, _⟩ => ⟨S_, .i32⟩
  | .hbm, ⟨20, _⟩ => ⟨S128x2x40x128, .i32⟩
  | .hbm, ⟨21, _⟩ => ⟨S128x2x40x128, .i32⟩
  | .hbm, ⟨22, _⟩ => ⟨S_, .i32⟩
  | .hbm, ⟨23, _⟩ => ⟨S128x2x40x128, .i32⟩
  | .hbm, ⟨24, _⟩ => ⟨S128x2x40x128, .i32⟩
  | .hbm, ⟨25, _⟩ => ⟨S_, .i32⟩
  | .hbm, ⟨26, _⟩ => ⟨S128x2x40x128, .i32⟩
  | .hbm, ⟨27, _⟩ => ⟨S128x2x40x128, .i32⟩
  | .hbm, ⟨28, _⟩ => ⟨S1x128x2x40x128, .i32⟩
  | .hbm, ⟨29, _⟩ => ⟨S1x128x2x40x128, .i32⟩
  | .hbm, ⟨30, _⟩ => ⟨S1x128x2x40x128, .i32⟩
  | .hbm, ⟨31, _⟩ => ⟨S1x128x2x40x128, .i32⟩
  | .hbm, ⟨32, _⟩ => ⟨S4x128x2x40x128, .i32⟩
  | .hbm, ⟨33, _⟩ => ⟨S4x40x128x2x128, .i32⟩
  | .hbm, ⟨34, _⟩ => ⟨S160x128x256, .i32⟩
  | .hbm, ⟨35, _⟩ => ⟨S196608x128, .i32⟩
  | .hbm, ⟨36, _⟩ => ⟨S128, .i32⟩
  | .hbm, ⟨37, _⟩ => ⟨S1x128, .i32⟩
  | .hbm, ⟨38, _⟩ => ⟨S_, .i32⟩
  | .hbm, ⟨39, _⟩ => ⟨S1x128, .i32⟩
  | .hbm, ⟨40, _⟩ => ⟨S1x128, .i1⟩
  | .hbm, ⟨41, _⟩ => ⟨S_, .i32⟩
  | .hbm, ⟨42, _⟩ => ⟨S1x128, .i32⟩
  | .hbm, ⟨43, _⟩ => ⟨S1x128, .i32⟩
  | .hbm, ⟨44, _⟩ => ⟨S1x128, .i32⟩
  | .hbm, ⟨45, _⟩ => ⟨S_, .i32⟩
  | .hbm, ⟨46, _⟩ => ⟨S196608x128, .i32⟩
  | .hbm, ⟨47, _⟩ => ⟨S196608x128, .i1⟩
  | .hbm, ⟨48, _⟩ => ⟨S_, .i32⟩
  | .hbm, ⟨49, _⟩ => ⟨S196608x128, .i32⟩
  | .hbm, ⟨50, _⟩ => ⟨S196608x128, .i32⟩
  | .hbm, ⟨51, _⟩ => ⟨S196608x128, .i32⟩
  | .hbm, ⟨52, _⟩ => ⟨S196608x128, .i32⟩
  | .hbm, ⟨53, _⟩ => ⟨S196608x128x1, .i32⟩
  | .hbm, ⟨54, _⟩ => ⟨S196608x128x1, .i32⟩
  | .hbm, ⟨55, _⟩ => ⟨S196608x128x2, .i32⟩
  | .hbm, ⟨56, _⟩ => ⟨S160x196608x128, .i32⟩
  | .hbm, ⟨57, _⟩ => ⟨S_, .i32⟩
  | .hbm, ⟨58, _⟩ => ⟨S160x196608, .i32⟩
  | .hbm, ⟨59, _⟩ => ⟨S1x160x1x128, .f32⟩
  | .hbm, ⟨60, _⟩ => ⟨S1x160x1536x128, .f32⟩
  | .hbm, ⟨61, _⟩ => ⟨S160x196608, .f32⟩
  | .hbm, ⟨62, _⟩ => ⟨S1x160x1x128, .f32⟩
  | .hbm, ⟨63, _⟩ => ⟨S1x160x1536x128, .f32⟩
  | .hbm, ⟨64, _⟩ => ⟨S160x196608, .f32⟩
  | .hbm, ⟨65, _⟩ => ⟨S160x196608, .f32⟩
  | .hbm, ⟨66, _⟩ => ⟨S160x196608, .f32⟩
  | .hbm, ⟨67, _⟩ => ⟨S160x196608, .f32⟩
  | .hbm, ⟨68, _⟩ => ⟨S160x196608, .bf16⟩
  | _, _ => ⟨S128x2x40x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Tables.lean ====
abbrev S160x1024 : Shape := ⟨2, ![160, 1024]⟩
abbrev S128x256x8 : Shape := ⟨3, ![128, 256, 8]⟩
abbrev S128 : Shape := ⟨1, ![128]⟩
abbrev S128x8x256 : Shape := ⟨3, ![128, 8, 256]⟩
abbrev S1024x256 : Shape := ⟨2, ![1024, 256]⟩
abbrev S160x8x128 : Shape := ⟨3, ![160, 8, 128]⟩
abbrev S8x160x128 : Shape := ⟨3, ![8, 160, 128]⟩
abbrev S128x2x40x128 : Shape := ⟨4, ![128, 2, 40, 128]⟩
abbrev S160x128x256 : Shape := ⟨3, ![160, 128, 256]⟩
abbrev S160x128 : Shape := ⟨2, ![160, 128]⟩
abbrev S2x160x128 : Shape := ⟨3, ![2, 160, 128]⟩
abbrev S256x256 : Shape := ⟨2, ![256, 256]⟩
abbrev S32x2x40x128 : Shape := ⟨4, ![32, 2, 40, 128]⟩
abbrev S160x32x256 : Shape := ⟨3, ![160, 32, 256]⟩
abbrev S128x160x256 : Shape := ⟨3, ![128, 160, 256]⟩
abbrev S128x128 : Shape := ⟨2, ![128, 128]⟩
abbrev S1x160x128 : Shape := ⟨3, ![1, 160, 128]⟩
abbrev S128x256 : Shape := ⟨2, ![128, 256]⟩
abbrev S1 : Shape := ⟨1, ![1]⟩
abbrev S160x256 : Shape := ⟨2, ![160, 256]⟩
abbrev S8x256 : Shape := ⟨2, ![8, 256]⟩
abbrev S256 : Shape := ⟨1, ![256]⟩
abbrev S1x256 : Shape := ⟨2, ![1, 256]⟩
abbrev S160x1 : Shape := ⟨2, ![160, 1]⟩
abbrev S1x160x256 : Shape := ⟨3, ![1, 160, 256]⟩
abbrev S160 : Shape := ⟨1, ![160]⟩
abbrev S40x256 : Shape := ⟨2, ![40, 256]⟩
abbrev S40x128 : Shape := ⟨2, ![40, 128]⟩
abbrev S1x1x40x128 : Shape := ⟨4, ![1, 1, 40, 128]⟩
abbrev S160x1x256 : Shape := ⟨3, ![160, 1, 256]⟩

abbrev nBuf : Space → Nat
  | .hbm => 12
  | .vmem => 14
  | .smem => 1
  | _ => 0

abbrev bufTy : (tb : Table) → Fin (tcTables nBuf tb) → BufTy
  | .hbm, ⟨0, _⟩ => ⟨S160x1024, .bf16⟩
  | .hbm, ⟨1, _⟩ => ⟨S128x256x8, .fp8e4m3⟩
  | .hbm, ⟨2, _⟩ => ⟨S128, .f32⟩
  | .hbm, ⟨3, _⟩ => ⟨S128x8x256, .fp8e4m3⟩
  | .hbm, ⟨4, _⟩ => ⟨S1024x256, .fp8e4m3⟩
  | .hbm, ⟨5, _⟩ => ⟨S160x8x128, .bf16⟩
  | .hbm, ⟨6, _⟩ => ⟨S8x160x128, .bf16⟩
  | .hbm, ⟨7, _⟩ => ⟨S128x2x40x128, .i32⟩
  | .hbm, ⟨8, _⟩ => ⟨S160x128x256, .i8⟩
  | .hbm, ⟨9, _⟩ => ⟨S160x128, .f32⟩
  | .hbm, ⟨10, _⟩ => ⟨S160x128, .f32⟩
  | .hbm, ⟨11, _⟩ => ⟨S160x128, .f32⟩
  | .local _ .vmem, ⟨0, _⟩ => ⟨S2x160x128, .bf16⟩
  | .local _ .vmem, ⟨1, _⟩ => ⟨S2x160x128, .bf16⟩
  | .local _ .vmem, ⟨2, _⟩ => ⟨S256x256, .fp8e4m3⟩
  | .local _ .vmem, ⟨3, _⟩ => ⟨S256x256, .fp8e4m3⟩
  | .local _ .vmem, ⟨4, _⟩ => ⟨S32x2x40x128, .i32⟩
  | .local _ .vmem, ⟨5, _⟩ => ⟨S32x2x40x128, .i32⟩
  | .local _ .vmem, ⟨6, _⟩ => ⟨S160x32x256, .i8⟩
  | .local _ .vmem, ⟨7, _⟩ => ⟨S160x32x256, .i8⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S128x160x256, .f32⟩
  | .local _ .vmem, ⟨12, _⟩ => ⟨S160x128, .f32⟩
  | .local _ .vmem, ⟨13, _⟩ => ⟨S160x128, .f32⟩
  | .local _ .smem, ⟨0, _⟩ => ⟨S128, .f32⟩
  | _, _ => ⟨S160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) (c0_i32_27 : BitVec 32) : Fin 1 → Nat :=
  let arg1 : BitVec 32 := BitVec.ofNat 32 (i 1).val
  let c32_i32 : BitVec 32 := 32#32
  let v83 : BitVec 32 := Scalar.muli arg1 c32_i32
  let v84 : BitVec 32 := Scalar.addi v83 c0_i32_27
  let v85 : Index := Scalar.indexCast v84
  ![v85.toNat]
def k0_off2 (i : grid0.Coords) (c0_i32_34 : BitVec 32) : Fin 3 → Nat :=
  let arg1 : BitVec 32 := BitVec.ofNat 32 (i 1).val
  let c32_i32_33 : BitVec 32 := 32#32
  let v109 : BitVec 32 := Scalar.muli arg1 c32_i32_33
  let v110 : BitVec 32 := Scalar.addi v109 c0_i32_34
  let v111 : Index := Scalar.indexCast v110
  let c0_35 : Index := 0#32
  let c0_36 : Index := 0#32
  ![v111.toNat, 0, 0]
def k0_cond3 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_4 : BitVec 32 := 0#32
  let v11 : BitVec 1 := Scalar.cmpi .ne v10 c0_i32_4
  v11

def k0_off3 (i : grid0.Coords) (c0_i32_15 : BitVec 32) : Fin 3 → Nat :=
  let arg1 : BitVec 32 := BitVec.ofNat 32 (i 1).val
  let c32_i32 : BitVec 32 := 32#32
  let v24 : BitVec 32 := Scalar.muli arg1 c32_i32
  let v25 : BitVec 32 := Scalar.addi v24 c0_i32_15
  let v32 : Index := Scalar.indexCast v25
  let c0_18 : Index := 0#32
  let c0_19 : Index := 0#32
  ![v32.toNat, 0, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x160x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x2x40x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S160x32x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== TablesReferenceIdeal.lean ====
abbrev S160x1024 : Shape := ⟨2, ![160, 1024]⟩
abbrev S128x256x8 : Shape := ⟨3, ![128, 256, 8]⟩
abbrev S128 : Shape := ⟨1, ![128]⟩
abbrev S160x128x8 : Shape := ⟨3, ![160, 128, 8]⟩
abbrev S128x256x160 : Shape := ⟨3, ![128, 256, 160]⟩
abbrev S160x128x256 : Shape := ⟨3, ![160, 128, 256]⟩
abbrev S1x128x1 : Shape := ⟨3, ![1, 128, 1]⟩
abbrev S_ : Shape := ⟨0, ![]⟩
abbrev S160x128 : Shape := ⟨2, ![160, 128]⟩
abbrev S128x1 : Shape := ⟨2, ![128, 1]⟩
abbrev S128x256 : Shape := ⟨2, ![128, 256]⟩
abbrev S160x128x1 : Shape := ⟨3, ![160, 128, 1]⟩
abbrev S1x128x256 : Shape := ⟨3, ![1, 128, 256]⟩
abbrev S160 : Shape := ⟨1, ![160]⟩
abbrev S160x1x1 : Shape := ⟨3, ![160, 1, 1]⟩
abbrev S160x1 : Shape := ⟨2, ![160, 1]⟩
abbrev S4x40x128x2x128 : Shape := ⟨5, ![4, 40, 128, 2, 128]⟩
abbrev S1x40x128x2x128 : Shape := ⟨5, ![1, 40, 128, 2, 128]⟩
abbrev S40x128x2x128 : Shape := ⟨4, ![40, 128, 2, 128]⟩
abbrev S128x2x40x128 : Shape := ⟨4, ![128, 2, 40, 128]⟩

abbrev nBuf : Space → Nat
  | .hbm => 86
  | .vmem => 2
  | .smem => 0
  | _ => 0

abbrev bufTy : (tb : Table) → Fin (tcTables nBuf tb) → BufTy
  | .hbm, ⟨0, _⟩ => ⟨S160x1024, .bf16⟩
  | .hbm, ⟨1, _⟩ => ⟨S128x256x8, .fp8e4m3⟩
  | .hbm, ⟨2, _⟩ => ⟨S128, .f32⟩
  | .hbm, ⟨3, _⟩ => ⟨S128x256x8, .f32⟩
  | .hbm, ⟨4, _⟩ => ⟨S160x128x8, .bf16⟩
  | .hbm, ⟨5, _⟩ => ⟨S128x256x8, .bf16⟩
  | .hbm, ⟨6, _⟩ => ⟨S128x256x160, .f32⟩
  | .hbm, ⟨7, _⟩ => ⟨S160x128x256, .f32⟩
  | .hbm, ⟨8, _⟩ => ⟨S1x128x1, .f32⟩
  | .hbm, ⟨9, _⟩ => ⟨S160x128x256, .f32⟩
  | .hbm, ⟨10, _⟩ => ⟨S160x128x256, .f32⟩
  | .hbm, ⟨11, _⟩ => ⟨S160x128x8, .f32⟩
  | .hbm, ⟨12, _⟩ => ⟨S160x128x8, .f32⟩
  | .hbm, ⟨13, _⟩ => ⟨S_, .f32⟩
  | .hbm, ⟨14, _⟩ => ⟨S160x128, .f32⟩
  | .hbm, ⟨15, _⟩ => ⟨S128x1, .f32⟩
  | .hbm, ⟨16, _⟩ => ⟨S128x1, .f32⟩
  | .hbm, ⟨17, _⟩ => ⟨S128x256x8, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S160x128x1, .f32⟩
  | .hbm, ⟨23, _⟩ => ⟨S1x128x256, .f32⟩
  | .hbm, ⟨24, _⟩ => ⟨S160x128x256, .f32⟩
  | .hbm, ⟨25, _⟩ => ⟨S160x128x256, .f32⟩
  | .hbm, ⟨26, _⟩ => ⟨S160x128x256, .f32⟩
  | .hbm, ⟨27, _⟩ => ⟨S_, .f32⟩
  | .hbm, ⟨28, _⟩ => ⟨S160x128x256, .f32⟩
  | .hbm, ⟨29, _⟩ => ⟨S160x128x256, .f32⟩
  | .hbm, ⟨30, _⟩ => ⟨S160x128x256, .f32⟩
  | .hbm, ⟨31, _⟩ => ⟨S_, .f32⟩
  | .hbm, ⟨32, _⟩ => ⟨S160x128, .f32⟩
  | .hbm, ⟨33, _⟩ => ⟨S160x128x1, .f32⟩
  | .hbm, ⟨34, _⟩ => ⟨S160x128x256, .f32⟩
  | .hbm, ⟨35, _⟩ => ⟨S160x128x256, .f32⟩
  | .hbm, ⟨36, _⟩ => ⟨S_, .f32⟩
  | .hbm, ⟨37, _⟩ => ⟨S160, .f32⟩
  | .hbm, ⟨38, _⟩ => ⟨S_, .f32⟩
  | .hbm, ⟨39, _⟩ => ⟨S160, .f32⟩
  | .hbm, ⟨40, _⟩ => ⟨S160, .f32⟩
  | .hbm, ⟨41, _⟩ => ⟨S_, .f32⟩
  | .hbm, ⟨42, _⟩ => ⟨S160, .f32⟩
  | .hbm, ⟨43, _⟩ => ⟨S160, .f32⟩
  | .hbm, ⟨44, _⟩ => ⟨S160x1x1, .f32⟩
  | .hbm, ⟨45, _⟩ => ⟨S160x128x256, .f32⟩
  | .hbm, ⟨46, _⟩ => ⟨S160x128x256, .f32⟩
  | .hbm, ⟨47, _⟩ => ⟨S160x128x256, .f32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S160x128x256, .f32⟩
  | .hbm, ⟨52, _⟩ => ⟨S160x128x256, .f32⟩
  | .hbm, ⟨53, _⟩ => ⟨S_, .f32⟩
  | .hbm, ⟨54, _⟩ => ⟨S160x128x256, .f32⟩
  | .hbm, ⟨55, _⟩ => ⟨S160x128x256, .f32⟩
  | .hbm, ⟨56, _⟩ => ⟨S160x128x256, .i32⟩
  | .hbm, ⟨57, _⟩ => ⟨S160x128x256, .i8⟩
  | .hbm, ⟨58, _⟩ => ⟨S160x1, .f32⟩
  | .hbm, ⟨59, _⟩ => ⟨S160x128, .f32⟩
  | .hbm, ⟨60, _⟩ => ⟨S4x40x128x2x128, .i32⟩
  | .hbm, ⟨61, _⟩ => ⟨S1x40x128x2x128, .i32⟩
  | .hbm, ⟨62, _⟩ => ⟨S40x128x2x128, .i32⟩
  | .hbm, ⟨63, _⟩ => ⟨S1x40x128x2x128, .i32⟩
  | .hbm, ⟨64, _⟩ => ⟨S40x128x2x128, .i32⟩
  | .hbm, ⟨65, _⟩ => ⟨S_, .i32⟩
  | .hbm, ⟨66, _⟩ => ⟨S40x128x2x128, .i32⟩
  | .hbm, ⟨67, _⟩ => ⟨S40x128x2x128, .i32⟩
  | .hbm, ⟨68, _⟩ => ⟨S40x128x2x128, .i32⟩
  | .hbm, ⟨69, _⟩ => ⟨S1x40x128x2x128, .i32⟩
  | .hbm, ⟨70, _⟩ => ⟨S40x128x2x128, .i32⟩
  | .hbm, ⟨71, _⟩ => ⟨S_, .i32⟩
  | .hbm, ⟨72, _⟩ => ⟨S40x128x2x128, .i32⟩
  | .hbm, ⟨73, _⟩ => ⟨S40x128x2x128, .i32⟩
  | .hbm, ⟨74, _⟩ => ⟨S40x128x2x128, .i32⟩
  | .hbm, ⟨75, _⟩ => ⟨S1x40x128x2x128, .i32⟩
  | .hbm, ⟨76, _⟩ => ⟨S40x128x2x128, .i32⟩
  | .hbm, ⟨77, _⟩ => ⟨S_, .i32⟩
  | .hbm, ⟨78, _⟩ => ⟨S40x128x2x128, .i32⟩
  | .hbm, ⟨79, _⟩ => ⟨S40x128x2x128, .i32⟩
  | .hbm, ⟨80, _⟩ => ⟨S40x128x2x128, .i32⟩
  | .hbm, ⟨81, _⟩ => ⟨S128x2x40x128, .i32⟩
  | .hbm, ⟨82, _⟩ => ⟨S_, .f32⟩
  | .hbm, ⟨83, _⟩ => ⟨S160, .f32⟩
  | .hbm, ⟨84, _⟩ => ⟨S160x1, .f32⟩
  | .hbm, ⟨85, _⟩ => ⟨S160x128, .f32⟩
  | .local _ .vmem, ⟨0, _⟩ => ⟨S128x256x8, .fp8e4m3⟩
  | .local _ .vmem, ⟨1, _⟩ => ⟨S128x256x8, .f32⟩
  | _, _ => ⟨S160x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_c_6 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x256x8 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.ScanOuter.lean ====
/- The outer loop of the scan kernel, over the four column blocks of one grid point: what one trip writes into the
   output's buffer (one trip runs the inner loop over the sub-space chunks by that loop's invariant and then stores its
   twenty tiles), and the loop's invariant: before trip `k` the output holds the tiles of the trips before `k`. -/
module

public import proofs.«01_k».proof.Proof.Gen.Scan.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Scan.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scan.Gen

variable {F : FTy → Type} [FloatOps F]

/-- The resource algebra of the instances: the frame kit's. -/
local notation "𝕄G" => MT nD τ sig Unit (Elt F) ℕ (UR sig nD τ) ℕ

/-- One trip's resources: what the region reads (arg1, arg2, arg3, arg6) at its contents, what it
   writes (arg5) at any. -/
abbrev Trip_k0_t1 (c : Dev nD) (arg1 : Memref sig .tc .vmem S128x2x40x128 .i32) (arg2 : Memref sig .tc .vmem S160x128 .f32) (arg3 : Memref sig .tc .vmem S160x128 .f32) (arg6 : Memref sig .tc .vmem S4x4x32x128 .i32) (arg5 : Memref sig .tc .vmem S160x512 .bf16) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (f_arg5 : BufTy.Contents (Elt F) arg5.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg6.view.loc (c : Thread nD τ) ↦[arg6.view.set]{fullShare} X_arg6) ∗ (arg5.view.loc (c : Thread nD τ) ↦[arg5.view.set]{fullShare} f_arg5))

/-- ONE TRIP of `k0_t1_loop` at a symbolic `k`, run by `sl_exec` (its rectangles' offsets closed
   forms of `k`, their geometry linear arithmetic): the pieces it writes into arg5 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) :
    { L_arg5 : List (View.Piece (Elt F) S160x512 .bf16) // ∀ (E : Set ℕ) (f_arg5 : BufTy.Contents (Elt F) arg5.view.ty),
      Trip_k0_t1 (F := F) c arg1 arg2 arg3 arg6 arg5 X_arg1 X_arg2 X_arg3 X_arg6 f_arg5
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => Trip_k0_t1 (F := F) c arg1 arg2 arg3 arg6 arg5 X_arg1 X_arg2 X_arg3 X_arg6 (arg5.view.writes (Elt F) f_arg5 L_arg5)) } := by
  have hk : k.val < 4 := Nat.lt_of_lt_of_le k.isLt k0_t1_abs.2.1
  refine ⟨?_, fun E f_arg5 => ?run⟩
  case run =>
    unfold k0_t1_body
    iintro ⟨HR_arg1, HR_arg2, HR_arg3, HR_arg6, HW_arg5⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) : List (View.Piece (Elt F) S160x512 .bf16) :=
  (trip_k0_t1 (F := F) 𝒱 c bd i arg1 harg1 arg2 harg2 arg3 harg3 arg4 harg4 arg5 harg5 arg6 harg6 X_arg1 X_arg2 X_arg3 X_arg6 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : ℕ) (prev : List (View.Piece (Elt F) S160x512 .bf16)) : List (View.Piece (Elt F) S160x512 .bf16) :=
  if h : k < k0_t1_loop.trips then
    (tripL_k0_t1 (F := F) 𝒱 c bd i arg1 harg1 arg2 harg2 arg3 harg3 arg4 harg4 arg5 harg5 arg6 harg6 X_arg1 X_arg2 X_arg3 X_arg6 ⟨k, h⟩) ++ prev
  else prev

/-- The pieces of the trips before `k` (last first), per written memref. -/
def pb_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) : ℕ → List (View.Piece (Elt F) S160x512 .bf16)
  | 0 => []
  | k + 1 => pb_k0_t1Step 𝒱 c bd i arg1 harg1 arg2 harg2 arg3 harg3 arg4 harg4 arg5 harg5 arg6 harg6 X_arg1 X_arg2 X_arg3 X_arg6 k (pb_k0_t1 𝒱 c bd i arg1 harg1 arg2 harg2 arg3 harg3 arg4 harg4 arg5 harg5 arg6 harg6 X_arg1 X_arg2 X_arg3 X_arg6 k)

theorem pb_k0_t1_succ (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) :
    pb_k0_t1 (F := F) 𝒱 c bd i arg1 harg1 arg2 harg2 arg3 harg3 arg4 harg4 arg5 harg5 arg6 harg6 X_arg1 X_arg2 X_arg3 X_arg6 (k.val + 1)
      = (tripL_k0_t1 (F := F) 𝒱 c bd i arg1 harg1 arg2 harg2 arg3 harg3 arg4 harg4 arg5 harg5 arg6 harg6 X_arg1 X_arg2 X_arg3 X_arg6 k) ++ (pb_k0_t1 (F := F) 𝒱 c bd i arg1 harg1 arg2 harg2 arg3 harg3 arg4 harg4 arg5 harg5 arg6 harg6 X_arg1 X_arg2 X_arg3 X_arg6 k.val) := by
  rw [pb_k0_t1.eq_2]; unfold pb_k0_t1Step; exact dif_pos k.isLt

/-- THE INVARIANT before trip `k`: arg1, arg2, arg3, arg6 read at `X_·`; arg5 holding the pieces of
   the trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (G_arg5 : BufTy.Contents (Elt F) arg5.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg6.view.loc (c : Thread nD τ) ↦[arg6.view.set]{fullShare} X_arg6) ∗ (∃ f, (arg5.view.loc (c : Thread nD τ) ↦[arg5.view.set]{fullShare} f) ∗ ⌜f = arg5.view.writes (Elt F) G_arg5 (pb_k0_t1 (F := F) 𝒱 c bd i arg1 harg1 arg2 harg2 arg3 harg3 arg4 harg4 arg5 harg5 arg6 harg6 X_arg1 X_arg2 X_arg3 X_arg6 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (G_arg5 : BufTy.Contents (Elt F) arg5.view.ty) :
    LoopInvTy_k0_t1 (F := F) Unit ℕ (UR sig nD τ) ℕ 𝒱 c bd E i arg1 harg1 arg2 harg2 arg3 harg3 arg4 harg4 arg5 harg5 arg6 harg6 where
  inv := inv_k0_t1 (F := F) 𝒱 c bd i arg1 harg1 arg2 harg2 arg3 harg3 arg4 harg4 arg5 harg5 arg6 harg6 X_arg1 X_arg2 X_arg3 X_arg6 G_arg5
  step k acc := by
    iintro ⟨HR_arg1, HR_arg2, HR_arg3, HR_arg6, ⟨%f_arg5, HW_arg5, %h_arg5⟩⟩
    iapply (wp_wand_r Idealize.ShloMosaic.frame (wpE (defs₀ (F := F)) 𝒱 (c : Thread nD τ) bd) E)
    isplitl [HR_arg1 HR_arg2 HR_arg3 HR_arg6 HW_arg5]
    · iapply ((trip_k0_t1 (F := F) 𝒱 c bd i arg1 harg1 arg2 harg2 arg3 harg3 arg4 harg4 arg5 harg5 arg6 harg6 X_arg1 X_arg2 X_arg3 X_arg6 k).2 E f_arg5)
      isplitl [HR_arg1]; · iexact HR_arg1
      isplitl [HR_arg2]; · iexact HR_arg2
      isplitl [HR_arg3]; · iexact HR_arg3
      isplitl [HR_arg6]; · iexact HR_arg6
      iexact HW_arg5
    · iintro %_ ⟨HR_arg1, HR_arg2, HR_arg3, HR_arg6, HW_arg5⟩
      isplitl [HR_arg1]; · iexact HR_arg1
      isplitl [HR_arg2]; · iexact HR_arg2
      isplitl [HR_arg3]; · iexact HR_arg3
      isplitl [HR_arg6]; · iexact HR_arg6
      rw [pb_k0_t1_succ]
      iexists _; isplitl [HW_arg5]; · iexact HW_arg5
      ipureintro; rw [h_arg5, ← View.writes_append]

end Cert.Scan.Run

end
-- ==== Proof.ScanBody.lean ====
/- The run of the scan kernel's body at one grid point, on any staging buffers: the pieces it leaves in the output's
   buffer are the witness the run finds. -/
module

public import proofs.«01_k».proof.Proof.ScanOuter
public import proofs.«01_k».proof.Proof.Gen.Scan.Frame
public import proofs.«01_k».proof.Proof.Gen.Scan.Launch
public import proofs.«01_k».proof.Proof.Gen.Scan.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.Scan.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scan.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 4, through which its contents are stated (`View.read_writes_of_cover`: the
    choice does not matter). -/
abbrev VO0_4 : View sig .tc .vmem S160x512 .bf16 := (Memref.whole cc0_stg4_0 : Memref sig .tc .vmem S160x512 .bf16).view
/-- Each window's current staging memref at point `t`, spelled as the pipeline passes it (`bodyAt0`), and its wholeness. -/
abbrev ms0_0 (t : Fin cfg0.N) : Memref sig .tc .vmem S128x2x40x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S160x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S160x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S160x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S4x4x32x128 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) :
    { L4 : List (View.Piece (Elt F) S160x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ d, owns (c : Thread nD τ) arg6 fullShare d)) -∗ K ⟨⟩))
          ⊢ wp frame (wpE (defs₀ (F := F)) Variants.none c none) E (cc0_scan i arg1 harg1 arg2 harg2 arg3 harg3 arg4 harg4 arg5 harg5 arg6 harg6) K } := by
  refine ⟨?_, fun E K => ?run⟩
  case run =>
    simp only [cc0_scan_eq_skeleton]; unfold cc0_scan_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _, _; isplitr; swap; · iexact HS0
    ipureintro; rfl

end Cert.Scan.Run

end
-- ==== Proof.ScanFrame.lean ====
/- The frame of the scan program: the kernel's body at every grid point leaves its inputs as they were and the output's
   buffer at what its run wrote; from that the pipeline's launch theorem gives termination and unchanged arguments. -/
module

public import proofs.«01_k».proof.Proof.ScanBody
public import Idealize.ShloMosaic.Lib.Claim

@[expose] public section

set_option maxRecDepth 16384
set_option maxHeartbeats 4000000

noncomputable section

namespace Cert.Scan.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scan.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (80 stores of `S8x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) (y : S160x512.Idx) :
    ∃ pc ∈ (kernelRun0_A c i arg1 harg1 arg2 harg2 arg3 harg3 arg4 harg4 arg5 harg5 arg6 harg6 x0 x1 x2 x3).1, y ∈ pc.1.set :=
  View.cover_of_tiledL (kernelRun0_A c i arg1 harg1 arg2 harg2 arg3 harg3 arg4 harg4 arg5 harg5 arg6 harg6 x0 x1 x2 x3).1 S8x128.size (by sl_kernel_rfl) y

/-- What the run leaves in output 4's staging buffer: its pieces read back over junk. -/
def out0_A_4 (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) : Vec F S160x512 .bf16 :=
  VO0_4.read (Elt F) (VO0_4.writes (Elt F) VO0_4.junk (kernelRun0_A c i arg1 harg1 arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt0 (c : Dev nD) (t : Fin cfg0.N) : Vec F S160x512 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Scan`'s statement (Defs.lean) at any `F` — Proof.lean cites it at `Bits`:
    `theorem Cert.Proof.claim : Cert.Claim := ⟨Cert.Scan.Gen.facts, fun m ρ _ => Cert.Scan.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Scan.Run

end
-- ==== Proof.ScanIdealOuter.lean ====
/- The outer loop of the scan kernel, over the four column blocks of one grid point: what one trip writes into the
   output's buffer (one trip runs the inner loop over the sub-space chunks by that loop's invariant and then stores its
   twenty tiles), and the loop's invariant: before trip `k` the output holds the tiles of the trips before `k`. -/
module

public import proofs.«01_k».proof.Proof.Gen.ScanIdeal.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.ScanIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal.Gen

variable {F : FTy → Type} [FloatOps F]

/-- The resource algebra of the instances: the frame kit's. -/
local notation "𝕄G" => MT nD τ sig Unit (Elt F) ℕ (UR sig nD τ) ℕ

/-- One trip's resources: what the region reads (arg1, arg2, arg3, arg6) at its contents, what it
   writes (arg5) at any. -/
abbrev Trip_k0_t1 (c : Dev nD) (arg1 : Memref sig .tc .vmem S128x2x40x128 .i32) (arg2 : Memref sig .tc .vmem S160x128 .f32) (arg3 : Memref sig .tc .vmem S160x128 .f32) (arg6 : Memref sig .tc .vmem S4x4x32x128 .i32) (arg5 : Memref sig .tc .vmem S160x512 .bf16) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (f_arg5 : BufTy.Contents (Elt F) arg5.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg6.view.loc (c : Thread nD τ) ↦[arg6.view.set]{fullShare} X_arg6) ∗ (arg5.view.loc (c : Thread nD τ) ↦[arg5.view.set]{fullShare} f_arg5))

/-- ONE TRIP of `k0_t1_loop` at a symbolic `k`, run by `sl_exec` (its rectangles' offsets closed
   forms of `k`, their geometry linear arithmetic): the pieces it writes into arg5 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) :
    { L_arg5 : List (View.Piece (Elt F) S160x512 .bf16) // ∀ (E : Set ℕ) (f_arg5 : BufTy.Contents (Elt F) arg5.view.ty),
      Trip_k0_t1 (F := F) c arg1 arg2 arg3 arg6 arg5 X_arg1 X_arg2 X_arg3 X_arg6 f_arg5
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => Trip_k0_t1 (F := F) c arg1 arg2 arg3 arg6 arg5 X_arg1 X_arg2 X_arg3 X_arg6 (arg5.view.writes (Elt F) f_arg5 L_arg5)) } := by
  have hk : k.val < 4 := Nat.lt_of_lt_of_le k.isLt k0_t1_abs.2.1
  refine ⟨?_, fun E f_arg5 => ?run⟩
  case run =>
    unfold k0_t1_body
    iintro ⟨HR_arg1, HR_arg2, HR_arg3, HR_arg6, HW_arg5⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) : List (View.Piece (Elt F) S160x512 .bf16) :=
  (trip_k0_t1 (F := F) 𝒱 c bd i arg1 harg1 arg2 harg2 arg3 harg3 arg4 harg4 arg5 harg5 arg6 harg6 X_arg1 X_arg2 X_arg3 X_arg6 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : ℕ) (prev : List (View.Piece (Elt F) S160x512 .bf16)) : List (View.Piece (Elt F) S160x512 .bf16) :=
  if h : k < k0_t1_loop.trips then
    (tripL_k0_t1 (F := F) 𝒱 c bd i arg1 harg1 arg2 harg2 arg3 harg3 arg4 harg4 arg5 harg5 arg6 harg6 X_arg1 X_arg2 X_arg3 X_arg6 ⟨k, h⟩) ++ prev
  else prev

/-- The pieces of the trips before `k` (last first), per written memref. -/
def pb_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) : ℕ → List (View.Piece (Elt F) S160x512 .bf16)
  | 0 => []
  | k + 1 => pb_k0_t1Step 𝒱 c bd i arg1 harg1 arg2 harg2 arg3 harg3 arg4 harg4 arg5 harg5 arg6 harg6 X_arg1 X_arg2 X_arg3 X_arg6 k (pb_k0_t1 𝒱 c bd i arg1 harg1 arg2 harg2 arg3 harg3 arg4 harg4 arg5 harg5 arg6 harg6 X_arg1 X_arg2 X_arg3 X_arg6 k)

theorem pb_k0_t1_succ (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) :
    pb_k0_t1 (F := F) 𝒱 c bd i arg1 harg1 arg2 harg2 arg3 harg3 arg4 harg4 arg5 harg5 arg6 harg6 X_arg1 X_arg2 X_arg3 X_arg6 (k.val + 1)
      = (tripL_k0_t1 (F := F) 𝒱 c bd i arg1 harg1 arg2 harg2 arg3 harg3 arg4 harg4 arg5 harg5 arg6 harg6 X_arg1 X_arg2 X_arg3 X_arg6 k) ++ (pb_k0_t1 (F := F) 𝒱 c bd i arg1 harg1 arg2 harg2 arg3 harg3 arg4 harg4 arg5 harg5 arg6 harg6 X_arg1 X_arg2 X_arg3 X_arg6 k.val) := by
  rw [pb_k0_t1.eq_2]; unfold pb_k0_t1Step; exact dif_pos k.isLt

/-- THE INVARIANT before trip `k`: arg1, arg2, arg3, arg6 read at `X_·`; arg5 holding the pieces of
   the trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (G_arg5 : BufTy.Contents (Elt F) arg5.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg6.view.loc (c : Thread nD τ) ↦[arg6.view.set]{fullShare} X_arg6) ∗ (∃ f, (arg5.view.loc (c : Thread nD τ) ↦[arg5.view.set]{fullShare} f) ∗ ⌜f = arg5.view.writes (Elt F) G_arg5 (pb_k0_t1 (F := F) 𝒱 c bd i arg1 harg1 arg2 harg2 arg3 harg3 arg4 harg4 arg5 harg5 arg6 harg6 X_arg1 X_arg2 X_arg3 X_arg6 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (G_arg5 : BufTy.Contents (Elt F) arg5.view.ty) :
    LoopInvTy_k0_t1 (F := F) Unit ℕ (UR sig nD τ) ℕ 𝒱 c bd E i arg1 harg1 arg2 harg2 arg3 harg3 arg4 harg4 arg5 harg5 arg6 harg6 where
  inv := inv_k0_t1 (F := F) 𝒱 c bd i arg1 harg1 arg2 harg2 arg3 harg3 arg4 harg4 arg5 harg5 arg6 harg6 X_arg1 X_arg2 X_arg3 X_arg6 G_arg5
  step k acc := by
    iintro ⟨HR_arg1, HR_arg2, HR_arg3, HR_arg6, ⟨%f_arg5, HW_arg5, %h_arg5⟩⟩
    iapply (wp_wand_r Idealize.ShloMosaic.frame (wpE (defs₀ (F := F)) 𝒱 (c : Thread nD τ) bd) E)
    isplitl [HR_arg1 HR_arg2 HR_arg3 HR_arg6 HW_arg5]
    · iapply ((trip_k0_t1 (F := F) 𝒱 c bd i arg1 harg1 arg2 harg2 arg3 harg3 arg4 harg4 arg5 harg5 arg6 harg6 X_arg1 X_arg2 X_arg3 X_arg6 k).2 E f_arg5)
      isplitl [HR_arg1]; · iexact HR_arg1
      isplitl [HR_arg2]; · iexact HR_arg2
      isplitl [HR_arg3]; · iexact HR_arg3
      isplitl [HR_arg6]; · iexact HR_arg6
      iexact HW_arg5
    · iintro %_ ⟨HR_arg1, HR_arg2, HR_arg3, HR_arg6, HW_arg5⟩
      isplitl [HR_arg1]; · iexact HR_arg1
      isplitl [HR_arg2]; · iexact HR_arg2
      isplitl [HR_arg3]; · iexact HR_arg3
      isplitl [HR_arg6]; · iexact HR_arg6
      rw [pb_k0_t1_succ]
      iexists _; isplitl [HW_arg5]; · iexact HW_arg5
      ipureintro; rw [h_arg5, ← View.writes_append]

end Cert.ScanIdeal.Run

end
-- ==== Proof.ScanIdealBody.lean ====
/- The run of the scan kernel's body at one grid point, on any staging buffers: the pieces it leaves in the output's
   buffer are the witness the run finds. -/
module

public import proofs.«01_k».proof.Proof.ScanIdealOuter
public import proofs.«01_k».proof.Proof.Gen.ScanIdeal.Frame
public import proofs.«01_k».proof.Proof.Gen.ScanIdeal.Launch
public import proofs.«01_k».proof.Proof.Gen.ScanIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.ScanIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 4, through which its contents are stated (`View.read_writes_of_cover`: the
    choice does not matter). -/
abbrev VO0_4 : View sig .tc .vmem S160x512 .bf16 := (Memref.whole cc0_stg4_0 : Memref sig .tc .vmem S160x512 .bf16).view
/-- Each window's current staging memref at point `t`, spelled as the pipeline passes it (`bodyAt0`), and its wholeness. -/
abbrev ms0_0 (t : Fin cfg0.N) : Memref sig .tc .vmem S128x2x40x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S160x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S160x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S160x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S4x4x32x128 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) :
    { L4 : List (View.Piece (Elt F) S160x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ d, owns (c : Thread nD τ) arg6 fullShare d)) -∗ K ⟨⟩))
          ⊢ wp frame (wpE (defs₀ (F := F)) Variants.none c none) E (cc0_scan i arg1 harg1 arg2 harg2 arg3 harg3 arg4 harg4 arg5 harg5 arg6 harg6) K } := by
  refine ⟨?_, fun E K => ?run⟩
  case run =>
    simp only [cc0_scan_eq_skeleton]; unfold cc0_scan_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _, _; isplitr; swap; · iexact HS0
    ipureintro; rfl

end Cert.ScanIdeal.Run

end
-- ==== Proof.ScanIdealFrame.lean ====
/- The frame of the scan program: the kernel's body at every grid point leaves its inputs as they were and the output's
   buffer at what its run wrote; from that the pipeline's launch theorem gives termination and unchanged arguments. -/
module

public import proofs.«01_k».proof.Proof.ScanIdealBody
public import Idealize.ShloMosaic.Lib.Claim

@[expose] public section

set_option maxRecDepth 16384
set_option maxHeartbeats 4000000

noncomputable section

namespace Cert.ScanIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (80 stores of `S8x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) (y : S160x512.Idx) :
    ∃ pc ∈ (kernelRun0_A c i arg1 harg1 arg2 harg2 arg3 harg3 arg4 harg4 arg5 harg5 arg6 harg6 x0 x1 x2 x3).1, y ∈ pc.1.set :=
  View.cover_of_tiledL (kernelRun0_A c i arg1 harg1 arg2 harg2 arg3 harg3 arg4 harg4 arg5 harg5 arg6 harg6 x0 x1 x2 x3).1 S8x128.size (by sl_kernel_rfl) y

/-- What the run leaves in output 4's staging buffer: its pieces read back over junk. -/
def out0_A_4 (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) : Vec F S160x512 .bf16 :=
  VO0_4.read (Elt F) (VO0_4.writes (Elt F) VO0_4.junk (kernelRun0_A c i arg1 harg1 arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt0 (c : Dev nD) (t : Fin cfg0.N) : Vec F S160x512 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_ScanIdeal`'s statement (Defs.lean) at any `F` — Proof.lean cites it at `Bits`:
    `theorem Cert.Proof.claim : Cert.Claim := ⟨Cert.ScanIdeal.Gen.facts, fun m ρ _ => Cert.ScanIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ScanIdeal.Run

end
-- ==== Proof.ScanIdealBlocks.lean ====
/- What the output array of the scan holds after the run, block by block: block `t` of the final array is what grid
   point `t` wrote back. -/
module

public import proofs.«01_k».proof.Proof.ScanIdealFrame
public import Idealize.ShloMosaic.Lib.Pipeline.Value

@[expose] public section

set_option maxRecDepth 16384
set_option maxHeartbeats 4000000

noncomputable section

namespace Cert.ScanIdeal.Value

open Cert.ScanIdeal Cert.ScanIdeal.Gen Cert.ScanIdeal.Run Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`), read through the window's block. -/
theorem flushed4 (c : Dev nD) (t : Fin cfg0.N) :
    (dats m 0 c).flushed 4 t = (cfg0.win 4).cut (grid0.coords t) (outsAt0 m c t) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)) := by
  simp only [flushed4, outsAt0]

/-- The block index on axis 1 is the point's position in the pipeline's order, `t.val` (decided over the 384 points), -/
theorem idx_pt4 : ∀ t : Fin cfg0.N, win0_4.index t ⟨1, by decide⟩ = t.val :=
  (by decide +kernel : ∀ t : Fin grid0.N, win0_4.index t ⟨1, by decide⟩ = t.val)

/-- so the index map sends distinct grid points to distinct block indices. -/
theorem idx_inj4 : ∀ t t' : Fin cfg0.N, win0_4.index t = win0_4.index t' → t = t' :=
  fun t t' h => Fin.ext (by rw [← idx_pt4 t, ← idx_pt4 t', h])

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S160x196608.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.ScanIdeal.Value

end
-- ==== Proof.ScanIdealTrip.lean ====
module
public import proofs.«01_k».proof.Proof.ScanIdealBody
/-!
# One trip of the scan's inner loop

A trip of the inner loop walks over 32 sub-spaces. For each it looks 128 codes up in the packed tables
and adds the words found to ten accumulators: for each of five groups of eight table rows, the sum of the
even bytes and the sum of the words shifted down by one byte. This module says just that: a trip is a
fold over the list of the 32 loads, the same step each time.
-/
@[expose] public section
set_option maxRecDepth 16384
noncomputable section
open Idealize.ShloMosaic Cert.ScanIdeal Cert.ScanIdeal.Gen Cert.ScanIdeal.Run
namespace Cert.ScanIdeal.Value
variable {F : FTy → Type} [FloatOps F]

/-- What one look-up reads: the row of codes, and the upper and lower half of the packed table. -/
abbrev Look (F : FTy → Type) : Type := Vec F S1x1x1x128 .i32 × Vec F S1x1x8x128 .i32 × Vec F S1x1x8x128 .i32

/-- A row of 128 codes loaded from the scratch. -/
def rowAt (arg6 : Memref sig .tc .vmem S4x4x32x128 .i32) (X : BufTy.Contents (Elt F) arg6.view.ty) (off : Fin 4 → ℕ)
    (h : ∀ a, off a + S1x1x1x128.size a ≤ S4x4x32x128.size a) : Vec F S1x1x1x128 .i32 :=
  View.readAt (Elt F) arg6.view (Rect.unit (s := S4x4x32x128) off S1x1x1x128.size h).toLoadRect X
/-- Eight rows of one half of one packed table. -/
def tileAt (arg1 : Memref sig .tc .vmem S128x2x40x128 .i32) (X : BufTy.Contents (Elt F) arg1.view.ty) (off : Fin 4 → ℕ)
    (h : ∀ a, off a + S1x1x8x128.size a ≤ S128x2x40x128.size a) : Vec F S1x1x8x128 .i32 :=
  View.readAt (Elt F) arg1.view (Rect.unit (s := S128x2x40x128) off S1x1x8x128.size h).toLoadRect X

/-- One look-up's part of the even-byte sums. -/
def evenStep (a : IVec S8x128 32) (s : Look F) : IVec S8x128 32 := k0_pay12 (F := F) a s.1 s.2.1 s.2.2
/-- One look-up's part of the shifted-word sums. -/
def restStep (a : IVec S8x128 32) (s : Look F) : IVec S8x128 32 := k0_pay13 (F := F) a s.1 s.2.1 s.2.2

section
variable (arg1 : Memref sig .tc .vmem S128x2x40x128 .i32) (arg6 : Memref sig .tc .vmem S4x4x32x128 .i32)
  (k1 : Fin k0_t1_loop.trips) (X_arg1 : BufTy.Contents (Elt F) arg1.view.ty) (X_arg6 : BufTy.Contents (Elt F) arg6.view.ty)
  (k : Fin k0_t2_loop.trips)
/-- The 32 look-ups of a trip in table rows 0 to 7. -/
def looks0 : List (Look F) :=
  [(rowAt arg6 X_arg6 (k0_off1 k1 k) (k0_off1_inb k1 k), tileAt arg1 X_arg1 (k0_off2 k 0#32) (k0_off2_inb k 0), tileAt arg1 X_arg1 (k0_off3 k 0#32) (k0_off3_inb k 0)),
   (rowAt arg6 X_arg6 (k0_off12 k1 k) (k0_off12_inb k1 k), tileAt arg1 X_arg1 (k0_off2 k 1#32) (k0_off2_inb k 1), tileAt arg1 X_arg1 (k0_off3 k 1#32) (k0_off3_inb k 1)),
   (rowAt arg6 X_arg6 (k0_off13 k1 k) (k0_off13_inb k1 k), tileAt arg1 X_arg1 (k0_off2 k 2#32) (k0_off2_inb k 2), tileAt arg1 X_arg1 (k0_off3 k 2#32) (k0_off3_inb k 2)),
   (rowAt arg6 X_arg6 (k0_off14 k1 k) (k0_off14_inb k1 k), tileAt arg1 X_arg1 (k0_off2 k 3#32) (k0_off2_inb k 3), tileAt arg1 X_arg1 (k0_off3 k 3#32) (k0_off3_inb k 3)),
   (rowAt arg6 X_arg6 (k0_off15 k1 k) (k0_off15_inb k1 k), tileAt arg1 X_arg1 (k0_off2 k 4#32) (k0_off2_inb k 4), tileAt arg1 X_arg1 (k0_off3 k 4#32) (k0_off3_inb k 4)),
   (rowAt arg6 X_arg6 (k0_off16 k1 k) (k0_off16_inb k1 k), tileAt arg1 X_arg1 (k0_off2 k 5#32) (k0_off2_inb k 5), tileAt arg1 X_arg1 (k0_off3 k 5#32) (k0_off3_inb k 5)),
   (rowAt arg6 X_arg6 (k0_off17 k1 k) (k0_off17_inb k1 k), tileAt arg1 X_arg1 (k0_off2 k 6#32) (k0_off2_inb k 6), tileAt arg1 X_arg1 (k0_off3 k 6#32) (k0_off3_inb k 6)),
   (rowAt arg6 X_arg6 (k0_off18 k1 k) (k0_off18_inb k1 k), tileAt arg1 X_arg1 (k0_off2 k 7#32) (k0_off2_inb k 7), tileAt arg1 X_arg1 (k0_off3 k 7#32) (k0_off3_inb k 7)),
   (rowAt arg6 X_arg6 (k0_off19 k1 k) (k0_off19_inb k1 k), tileAt arg1 X_arg1 (k0_off2 k 8#32) (k0_off2_inb k 8), tileAt arg1 X_arg1 (k0_off3 k 8#32) (k0_off3_inb k 8)),
   (rowAt arg6 X_arg6 (k0_off20 k1 k) (k0_off20_inb k1 k), tileAt arg1 X_arg1 (k0_off2 k 9#32) (k0_off2_inb k 9), tileAt arg1 X_arg1 (k0_off3 k 9#32) (k0_off3_inb k 9)),
   (rowAt arg6 X_arg6 (k0_off21 k1 k) (k0_off21_inb k1 k), tileAt arg1 X_arg1 (k0_off2 k 10#32) (k0_off2_inb k 10), tileAt arg1 X_arg1 (k0_off3 k 10#32) (k0_off3_inb k 10)),
   (rowAt arg6 X_arg6 (k0_off22 k1 k) (k0_off22_inb k1 k), tileAt arg1 X_arg1 (k0_off2 k 11#32) (k0_off2_inb k 11), tileAt arg1 X_arg1 (k0_off3 k 11#32) (k0_off3_inb k 11)),
   (rowAt arg6 X_arg6 (k0_off23 k1 k) (k0_off23_inb k1 k), tileAt arg1 X_arg1 (k0_off2 k 12#32) (k0_off2_inb k 12), tileAt arg1 X_arg1 (k0_off3 k 12#32) (k0_off3_inb k 12)),
   (rowAt arg6 X_arg6 (k0_off24 k1 k) (k0_off24_inb k1 k), tileAt arg1 X_arg1 (k0_off2 k 13#32) (k0_off2_inb k 13), tileAt arg1 X_arg1 (k0_off3 k 13#32) (k0_off3_inb k 13)),
   (rowAt arg6 X_arg6 (k0_off25 k1 k) (k0_off25_inb k1 k), tileAt arg1 X_arg1 (k0_off2 k 14#32) (k0_off2_inb k 14), tileAt arg1 X_arg1 (k0_off3 k 14#32) (k0_off3_inb k 14)),
   (rowAt arg6 X_arg6 (k0_off26 k1 k) (k0_off26_inb k1 k), tileAt arg1 X_arg1 (k0_off2 k 15#32) (k0_off2_inb k 15), tileAt arg1 X_arg1 (k0_off3 k 15#32) (k0_off3_inb k 15)),
   (rowAt arg6 X_arg6 (k0_off27 k1 k) (k0_off27_inb k1 k), tileAt arg1 X_arg1 (k0_off2 k 16#32) (k0_off2_inb k 16), tileAt arg1 X_arg1 (k0_off3 k 16#32) (k0_off3_inb k 16)),
   (rowAt arg6 X_arg6 (k0_off28 k1 k) (k0_off28_inb k1 k), tileAt arg1 X_arg1 (k0_off2 k 17#32) (k0_off2_inb k 17), tileAt arg1 X_arg1 (k0_off3 k 17#32) (k0_off3_inb k 17)),
   (rowAt arg6 X_arg6 (k0_off29 k1 k) (k0_off29_inb k1 k), tileAt arg1 X_arg1 (k0_off2 k 18#32) (k0_off2_inb k 18), tileAt arg1 X_arg1 (k0_off3 k 18#32) (k0_off3_inb k 18)),
   (rowAt arg6 X_arg6 (k0_off30 k1 k) (k0_off30_inb k1 k), tileAt arg1 X_arg1 (k0_off2 k 19#32) (k0_off2_inb k 19), tileAt arg1 X_arg1 (k0_off3 k 19#32) (k0_off3_inb k 19)),
   (rowAt arg6 X_arg6 (k0_off31 k1 k) (k0_off31_inb k1 k), tileAt arg1 X_arg1 (k0_off2 k 20#32) (k0_off2_inb k 20), tileAt arg1 X_arg1 (k0_off3 k 20#32) (k0_off3_inb k 20)),
   (rowAt arg6 X_arg6 (k0_off32 k1 k) (k0_off32_inb k1 k), tileAt arg1 X_arg1 (k0_off2 k 21#32) (k0_off2_inb k 21), tileAt arg1 X_arg1 (k0_off3 k 21#32) (k0_off3_inb k 21)),
   (rowAt arg6 X_arg6 (k0_off33 k1 k) (k0_off33_inb k1 k), tileAt arg1 X_arg1 (k0_off2 k 22#32) (k0_off2_inb k 22), tileAt arg1 X_arg1 (k0_off3 k 22#32) (k0_off3_inb k 22)),
   (rowAt arg6 X_arg6 (k0_off34 k1 k) (k0_off34_inb k1 k), tileAt arg1 X_arg1 (k0_off2 k 23#32) (k0_off2_inb k 23), tileAt arg1 X_arg1 (k0_off3 k 23#32) (k0_off3_inb k 23)),
   (rowAt arg6 X_arg6 (k0_off35 k1 k) (k0_off35_inb k1 k), tileAt arg1 X_arg1 (k0_off2 k 24#32) (k0_off2_inb k 24), tileAt arg1 X_arg1 (k0_off3 k 24#32) (k0_off3_inb k 24)),
   (rowAt arg6 X_arg6 (k0_off36 k1 k) (k0_off36_inb k1 k), tileAt arg1 X_arg1 (k0_off2 k 25#32) (k0_off2_inb k 25), tileAt arg1 X_arg1 (k0_off3 k 25#32) (k0_off3_inb k 25)),
   (rowAt arg6 X_arg6 (k0_off37 k1 k) (k0_off37_inb k1 k), tileAt arg1 X_arg1 (k0_off2 k 26#32) (k0_off2_inb k 26), tileAt arg1 X_arg1 (k0_off3 k 26#32) (k0_off3_inb k 26)),
   (rowAt arg6 X_arg6 (k0_off38 k1 k) (k0_off38_inb k1 k), tileAt arg1 X_arg1 (k0_off2 k 27#32) (k0_off2_inb k 27), tileAt arg1 X_arg1 (k0_off3 k 27#32) (k0_off3_inb k 27)),
   (rowAt arg6 X_arg6 (k0_off39 k1 k) (k0_off39_inb k1 k), tileAt arg1 X_arg1 (k0_off2 k 28#32) (k0_off2_inb k 28), tileAt arg1 X_arg1 (k0_off3 k 28#32) (k0_off3_inb k 28)),
   (rowAt arg6 X_arg6 (k0_off40 k1 k) (k0_off40_inb k1 k), tileAt arg1 X_arg1 (k0_off2 k 29#32) (k0_off2_inb k 29), tileAt arg1 X_arg1 (k0_off3 k 29#32) (k0_off3_inb k 29)),
   (rowAt arg6 X_arg6 (k0_off41 k1 k) (k0_off41_inb k1 k), tileAt arg1 X_arg1 (k0_off2 k 30#32) (k0_off2_inb k 30), tileAt arg1 X_arg1 (k0_off3 k 30#32) (k0_off3_inb k 30)),
   (rowAt arg6 X_arg6 (k0_off42 k1 k) (k0_off42_inb k1 k), tileAt arg1 X_arg1 (k0_off2 k 31#32) (k0_off2_inb k 31), tileAt arg1 X_arg1 (k0_off3 k 31#32) (k0_off3_inb k 31))]

/-- The 32 look-ups of a trip in table rows 8 to 15. -/
def looks1 : List (Look F) :=
  [(rowAt arg6 X_arg6 (k0_off1 k1 k) (k0_off1_inb k1 k), tileAt arg1 X_arg1 (k0_off4 k 0#32) (k0_off4_inb k 0), tileAt arg1 X_arg1 (k0_off5 k 0#32) (k0_off5_inb k 0)),
   (rowAt arg6 X_arg6 (k0_off12 k1 k) (k0_off12_inb k1 k), tileAt arg1 X_arg1 (k0_off4 k 1#32) (k0_off4_inb k 1), tileAt arg1 X_arg1 (k0_off5 k 1#32) (k0_off5_inb k 1)),
   (rowAt arg6 X_arg6 (k0_off13 k1 k) (k0_off13_inb k1 k), tileAt arg1 X_arg1 (k0_off4 k 2#32) (k0_off4_inb k 2), tileAt arg1 X_arg1 (k0_off5 k 2#32) (k0_off5_inb k 2)),
   (rowAt arg6 X_arg6 (k0_off14 k1 k) (k0_off14_inb k1 k), tileAt arg1 X_arg1 (k0_off4 k 3#32) (k0_off4_inb k 3), tileAt arg1 X_arg1 (k0_off5 k 3#32) (k0_off5_inb k 3)),
   (rowAt arg6 X_arg6 (k0_off15 k1 k) (k0_off15_inb k1 k), tileAt arg1 X_arg1 (k0_off4 k 4#32) (k0_off4_inb k 4), tileAt arg1 X_arg1 (k0_off5 k 4#32) (k0_off5_inb k 4)),
   (rowAt arg6 X_arg6 (k0_off16 k1 k) (k0_off16_inb k1 k), tileAt arg1 X_arg1 (k0_off4 k 5#32) (k0_off4_inb k 5), tileAt arg1 X_arg1 (k0_off5 k 5#32) (k0_off5_inb k 5)),
   (rowAt arg6 X_arg6 (k0_off17 k1 k) (k0_off17_inb k1 k), tileAt arg1 X_arg1 (k0_off4 k 6#32) (k0_off4_inb k 6), tileAt arg1 X_arg1 (k0_off5 k 6#32) (k0_off5_inb k 6)),
   (rowAt arg6 X_arg6 (k0_off18 k1 k) (k0_off18_inb k1 k), tileAt arg1 X_arg1 (k0_off4 k 7#32) (k0_off4_inb k 7), tileAt arg1 X_arg1 (k0_off5 k 7#32) (k0_off5_inb k 7)),
   (rowAt arg6 X_arg6 (k0_off19 k1 k) (k0_off19_inb k1 k), tileAt arg1 X_arg1 (k0_off4 k 8#32) (k0_off4_inb k 8), tileAt arg1 X_arg1 (k0_off5 k 8#32) (k0_off5_inb k 8)),
   (rowAt arg6 X_arg6 (k0_off20 k1 k) (k0_off20_inb k1 k), tileAt arg1 X_arg1 (k0_off4 k 9#32) (k0_off4_inb k 9), tileAt arg1 X_arg1 (k0_off5 k 9#32) (k0_off5_inb k 9)),
   (rowAt arg6 X_arg6 (k0_off21 k1 k) (k0_off21_inb k1 k), tileAt arg1 X_arg1 (k0_off4 k 10#32) (k0_off4_inb k 10), tileAt arg1 X_arg1 (k0_off5 k 10#32) (k0_off5_inb k 10)),
   (rowAt arg6 X_arg6 (k0_off22 k1 k) (k0_off22_inb k1 k), tileAt arg1 X_arg1 (k0_off4 k 11#32) (k0_off4_inb k 11), tileAt arg1 X_arg1 (k0_off5 k 11#32) (k0_off5_inb k 11)),
   (rowAt arg6 X_arg6 (k0_off23 k1 k) (k0_off23_inb k1 k), tileAt arg1 X_arg1 (k0_off4 k 12#32) (k0_off4_inb k 12), tileAt arg1 X_arg1 (k0_off5 k 12#32) (k0_off5_inb k 12)),
   (rowAt arg6 X_arg6 (k0_off24 k1 k) (k0_off24_inb k1 k), tileAt arg1 X_arg1 (k0_off4 k 13#32) (k0_off4_inb k 13), tileAt arg1 X_arg1 (k0_off5 k 13#32) (k0_off5_inb k 13)),
   (rowAt arg6 X_arg6 (k0_off25 k1 k) (k0_off25_inb k1 k), tileAt arg1 X_arg1 (k0_off4 k 14#32) (k0_off4_inb k 14), tileAt arg1 X_arg1 (k0_off5 k 14#32) (k0_off5_inb k 14)),
   (rowAt arg6 X_arg6 (k0_off26 k1 k) (k0_off26_inb k1 k), tileAt arg1 X_arg1 (k0_off4 k 15#32) (k0_off4_inb k 15), tileAt arg1 X_arg1 (k0_off5 k 15#32) (k0_off5_inb k 15)),
   (rowAt arg6 X_arg6 (k0_off27 k1 k) (k0_off27_inb k1 k), tileAt arg1 X_arg1 (k0_off4 k 16#32) (k0_off4_inb k 16), tileAt arg1 X_arg1 (k0_off5 k 16#32) (k0_off5_inb k 16)),
   (rowAt arg6 X_arg6 (k0_off28 k1 k) (k0_off28_inb k1 k), tileAt arg1 X_arg1 (k0_off4 k 17#32) (k0_off4_inb k 17), tileAt arg1 X_arg1 (k0_off5 k 17#32) (k0_off5_inb k 17)),
   (rowAt arg6 X_arg6 (k0_off29 k1 k) (k0_off29_inb k1 k), tileAt arg1 X_arg1 (k0_off4 k 18#32) (k0_off4_inb k 18), tileAt arg1 X_arg1 (k0_off5 k 18#32) (k0_off5_inb k 18)),
   (rowAt arg6 X_arg6 (k0_off30 k1 k) (k0_off30_inb k1 k), tileAt arg1 X_arg1 (k0_off4 k 19#32) (k0_off4_inb k 19), tileAt arg1 X_arg1 (k0_off5 k 19#32) (k0_off5_inb k 19)),
   (rowAt arg6 X_arg6 (k0_off31 k1 k) (k0_off31_inb k1 k), tileAt arg1 X_arg1 (k0_off4 k 20#32) (k0_off4_inb k 20), tileAt arg1 X_arg1 (k0_off5 k 20#32) (k0_off5_inb k 20)),
   (rowAt arg6 X_arg6 (k0_off32 k1 k) (k0_off32_inb k1 k), tileAt arg1 X_arg1 (k0_off4 k 21#32) (k0_off4_inb k 21), tileAt arg1 X_arg1 (k0_off5 k 21#32) (k0_off5_inb k 21)),
   (rowAt arg6 X_arg6 (k0_off33 k1 k) (k0_off33_inb k1 k), tileAt arg1 X_arg1 (k0_off4 k 22#32) (k0_off4_inb k 22), tileAt arg1 X_arg1 (k0_off5 k 22#32) (k0_off5_inb k 22)),
   (rowAt arg6 X_arg6 (k0_off34 k1 k) (k0_off34_inb k1 k), tileAt arg1 X_arg1 (k0_off4 k 23#32) (k0_off4_inb k 23), tileAt arg1 X_arg1 (k0_off5 k 23#32) (k0_off5_inb k 23)),
   (rowAt arg6 X_arg6 (k0_off35 k1 k) (k0_off35_inb k1 k), tileAt arg1 X_arg1 (k0_off4 k 24#32) (k0_off4_inb k 24), tileAt arg1 X_arg1 (k0_off5 k 24#32) (k0_off5_inb k 24)),
   (rowAt arg6 X_arg6 (k0_off36 k1 k) (k0_off36_inb k1 k), tileAt arg1 X_arg1 (k0_off4 k 25#32) (k0_off4_inb k 25), tileAt arg1 X_arg1 (k0_off5 k 25#32) (k0_off5_inb k 25)),
   (rowAt arg6 X_arg6 (k0_off37 k1 k) (k0_off37_inb k1 k), tileAt arg1 X_arg1 (k0_off4 k 26#32) (k0_off4_inb k 26), tileAt arg1 X_arg1 (k0_off5 k 26#32) (k0_off5_inb k 26)),
   (rowAt arg6 X_arg6 (k0_off38 k1 k) (k0_off38_inb k1 k), tileAt arg1 X_arg1 (k0_off4 k 27#32) (k0_off4_inb k 27), tileAt arg1 X_arg1 (k0_off5 k 27#32) (k0_off5_inb k 27)),
   (rowAt arg6 X_arg6 (k0_off39 k1 k) (k0_off39_inb k1 k), tileAt arg1 X_arg1 (k0_off4 k 28#32) (k0_off4_inb k 28), tileAt arg1 X_arg1 (k0_off5 k 28#32) (k0_off5_inb k 28)),
   (rowAt arg6 X_arg6 (k0_off40 k1 k) (k0_off40_inb k1 k), tileAt arg1 X_arg1 (k0_off4 k 29#32) (k0_off4_inb k 29), tileAt arg1 X_arg1 (k0_off5 k 29#32) (k0_off5_inb k 29)),
   (rowAt arg6 X_arg6 (k0_off41 k1 k) (k0_off41_inb k1 k), tileAt arg1 X_arg1 (k0_off4 k 30#32) (k0_off4_inb k 30), tileAt arg1 X_arg1 (k0_off5 k 30#32) (k0_off5_inb k 30)),
   (rowAt arg6 X_arg6 (k0_off42 k1 k) (k0_off42_inb k1 k), tileAt arg1 X_arg1 (k0_off4 k 31#32) (k0_off4_inb k 31), tileAt arg1 X_arg1 (k0_off5 k 31#32) (k0_off5_inb k 31))]

/-- The 32 look-ups of a trip in table rows 16 to 23. -/
def looks2 : List (Look F) :=
  [(rowAt arg6 X_arg6 (k0_off1 k1 k) (k0_off1_inb k1 k), tileAt arg1 X_arg1 (k0_off6 k 0#32) (k0_off6_inb k 0), tileAt arg1 X_arg1 (k0_off7 k 0#32) (k0_off7_inb k 0)),
   (rowAt arg6 X_arg6 (k0_off12 k1 k) (k0_off12_inb k1 k), tileAt arg1 X_arg1 (k0_off6 k 1#32) (k0_off6_inb k 1), tileAt arg1 X_arg1 (k0_off7 k 1#32) (k0_off7_inb k 1)),
   (rowAt arg6 X_arg6 (k0_off13 k1 k) (k0_off13_inb k1 k), tileAt arg1 X_arg1 (k0_off6 k 2#32) (k0_off6_inb k 2), tileAt arg1 X_arg1 (k0_off7 k 2#32) (k0_off7_inb k 2)),
   (rowAt arg6 X_arg6 (k0_off14 k1 k) (k0_off14_inb k1 k), tileAt arg1 X_arg1 (k0_off6 k 3#32) (k0_off6_inb k 3), tileAt arg1 X_arg1 (k0_off7 k 3#32) (k0_off7_inb k 3)),
   (rowAt arg6 X_arg6 (k0_off15 k1 k) (k0_off15_inb k1 k), tileAt arg1 X_arg1 (k0_off6 k 4#32) (k0_off6_inb k 4), tileAt arg1 X_arg1 (k0_off7 k 4#32) (k0_off7_inb k 4)),
   (rowAt arg6 X_arg6 (k0_off16 k1 k) (k0_off16_inb k1 k), tileAt arg1 X_arg1 (k0_off6 k 5#32) (k0_off6_inb k 5), tileAt arg1 X_arg1 (k0_off7 k 5#32) (k0_off7_inb k 5)),
   (rowAt arg6 X_arg6 (k0_off17 k1 k) (k0_off17_inb k1 k), tileAt arg1 X_arg1 (k0_off6 k 6#32) (k0_off6_inb k 6), tileAt arg1 X_arg1 (k0_off7 k 6#32) (k0_off7_inb k 6)),
   (rowAt arg6 X_arg6 (k0_off18 k1 k) (k0_off18_inb k1 k), tileAt arg1 X_arg1 (k0_off6 k 7#32) (k0_off6_inb k 7), tileAt arg1 X_arg1 (k0_off7 k 7#32) (k0_off7_inb k 7)),
   (rowAt arg6 X_arg6 (k0_off19 k1 k) (k0_off19_inb k1 k), tileAt arg1 X_arg1 (k0_off6 k 8#32) (k0_off6_inb k 8), tileAt arg1 X_arg1 (k0_off7 k 8#32) (k0_off7_inb k 8)),
   (rowAt arg6 X_arg6 (k0_off20 k1 k) (k0_off20_inb k1 k), tileAt arg1 X_arg1 (k0_off6 k 9#32) (k0_off6_inb k 9), tileAt arg1 X_arg1 (k0_off7 k 9#32) (k0_off7_inb k 9)),
   (rowAt arg6 X_arg6 (k0_off21 k1 k) (k0_off21_inb k1 k), tileAt arg1 X_arg1 (k0_off6 k 10#32) (k0_off6_inb k 10), tileAt arg1 X_arg1 (k0_off7 k 10#32) (k0_off7_inb k 10)),
   (rowAt arg6 X_arg6 (k0_off22 k1 k) (k0_off22_inb k1 k), tileAt arg1 X_arg1 (k0_off6 k 11#32) (k0_off6_inb k 11), tileAt arg1 X_arg1 (k0_off7 k 11#32) (k0_off7_inb k 11)),
   (rowAt arg6 X_arg6 (k0_off23 k1 k) (k0_off23_inb k1 k), tileAt arg1 X_arg1 (k0_off6 k 12#32) (k0_off6_inb k 12), tileAt arg1 X_arg1 (k0_off7 k 12#32) (k0_off7_inb k 12)),
   (rowAt arg6 X_arg6 (k0_off24 k1 k) (k0_off24_inb k1 k), tileAt arg1 X_arg1 (k0_off6 k 13#32) (k0_off6_inb k 13), tileAt arg1 X_arg1 (k0_off7 k 13#32) (k0_off7_inb k 13)),
   (rowAt arg6 X_arg6 (k0_off25 k1 k) (k0_off25_inb k1 k), tileAt arg1 X_arg1 (k0_off6 k 14#32) (k0_off6_inb k 14), tileAt arg1 X_arg1 (k0_off7 k 14#32) (k0_off7_inb k 14)),
   (rowAt arg6 X_arg6 (k0_off26 k1 k) (k0_off26_inb k1 k), tileAt arg1 X_arg1 (k0_off6 k 15#32) (k0_off6_inb k 15), tileAt arg1 X_arg1 (k0_off7 k 15#32) (k0_off7_inb k 15)),
   (rowAt arg6 X_arg6 (k0_off27 k1 k) (k0_off27_inb k1 k), tileAt arg1 X_arg1 (k0_off6 k 16#32) (k0_off6_inb k 16), tileAt arg1 X_arg1 (k0_off7 k 16#32) (k0_off7_inb k 16)),
   (rowAt arg6 X_arg6 (k0_off28 k1 k) (k0_off28_inb k1 k), tileAt arg1 X_arg1 (k0_off6 k 17#32) (k0_off6_inb k 17), tileAt arg1 X_arg1 (k0_off7 k 17#32) (k0_off7_inb k 17)),
   (rowAt arg6 X_arg6 (k0_off29 k1 k) (k0_off29_inb k1 k), tileAt arg1 X_arg1 (k0_off6 k 18#32) (k0_off6_inb k 18), tileAt arg1 X_arg1 (k0_off7 k 18#32) (k0_off7_inb k 18)),
   (rowAt arg6 X_arg6 (k0_off30 k1 k) (k0_off30_inb k1 k), tileAt arg1 X_arg1 (k0_off6 k 19#32) (k0_off6_inb k 19), tileAt arg1 X_arg1 (k0_off7 k 19#32) (k0_off7_inb k 19)),
   (rowAt arg6 X_arg6 (k0_off31 k1 k) (k0_off31_inb k1 k), tileAt arg1 X_arg1 (k0_off6 k 20#32) (k0_off6_inb k 20), tileAt arg1 X_arg1 (k0_off7 k 20#32) (k0_off7_inb k 20)),
   (rowAt arg6 X_arg6 (k0_off32 k1 k) (k0_off32_inb k1 k), tileAt arg1 X_arg1 (k0_off6 k 21#32) (k0_off6_inb k 21), tileAt arg1 X_arg1 (k0_off7 k 21#32) (k0_off7_inb k 21)),
   (rowAt arg6 X_arg6 (k0_off33 k1 k) (k0_off33_inb k1 k), tileAt arg1 X_arg1 (k0_off6 k 22#32) (k0_off6_inb k 22), tileAt arg1 X_arg1 (k0_off7 k 22#32) (k0_off7_inb k 22)),
   (rowAt arg6 X_arg6 (k0_off34 k1 k) (k0_off34_inb k1 k), tileAt arg1 X_arg1 (k0_off6 k 23#32) (k0_off6_inb k 23), tileAt arg1 X_arg1 (k0_off7 k 23#32) (k0_off7_inb k 23)),
   (rowAt arg6 X_arg6 (k0_off35 k1 k) (k0_off35_inb k1 k), tileAt arg1 X_arg1 (k0_off6 k 24#32) (k0_off6_inb k 24), tileAt arg1 X_arg1 (k0_off7 k 24#32) (k0_off7_inb k 24)),
   (rowAt arg6 X_arg6 (k0_off36 k1 k) (k0_off36_inb k1 k), tileAt arg1 X_arg1 (k0_off6 k 25#32) (k0_off6_inb k 25), tileAt arg1 X_arg1 (k0_off7 k 25#32) (k0_off7_inb k 25)),
   (rowAt arg6 X_arg6 (k0_off37 k1 k) (k0_off37_inb k1 k), tileAt arg1 X_arg1 (k0_off6 k 26#32) (k0_off6_inb k 26), tileAt arg1 X_arg1 (k0_off7 k 26#32) (k0_off7_inb k 26)),
   (rowAt arg6 X_arg6 (k0_off38 k1 k) (k0_off38_inb k1 k), tileAt arg1 X_arg1 (k0_off6 k 27#32) (k0_off6_inb k 27), tileAt arg1 X_arg1 (k0_off7 k 27#32) (k0_off7_inb k 27)),
   (rowAt arg6 X_arg6 (k0_off39 k1 k) (k0_off39_inb k1 k), tileAt arg1 X_arg1 (k0_off6 k 28#32) (k0_off6_inb k 28), tileAt arg1 X_arg1 (k0_off7 k 28#32) (k0_off7_inb k 28)),
   (rowAt arg6 X_arg6 (k0_off40 k1 k) (k0_off40_inb k1 k), tileAt arg1 X_arg1 (k0_off6 k 29#32) (k0_off6_inb k 29), tileAt arg1 X_arg1 (k0_off7 k 29#32) (k0_off7_inb k 29)),
   (rowAt arg6 X_arg6 (k0_off41 k1 k) (k0_off41_inb k1 k), tileAt arg1 X_arg1 (k0_off6 k 30#32) (k0_off6_inb k 30), tileAt arg1 X_arg1 (k0_off7 k 30#32) (k0_off7_inb k 30)),
   (rowAt arg6 X_arg6 (k0_off42 k1 k) (k0_off42_inb k1 k), tileAt arg1 X_arg1 (k0_off6 k 31#32) (k0_off6_inb k 31), tileAt arg1 X_arg1 (k0_off7 k 31#32) (k0_off7_inb k 31))]

/-- The 32 look-ups of a trip in table rows 24 to 31. -/
def looks3 : List (Look F) :=
  [(rowAt arg6 X_arg6 (k0_off1 k1 k) (k0_off1_inb k1 k), tileAt arg1 X_arg1 (k0_off8 k 0#32) (k0_off8_inb k 0), tileAt arg1 X_arg1 (k0_off9 k 0#32) (k0_off9_inb k 0)),
   (rowAt arg6 X_arg6 (k0_off12 k1 k) (k0_off12_inb k1 k), tileAt arg1 X_arg1 (k0_off8 k 1#32) (k0_off8_inb k 1), tileAt arg1 X_arg1 (k0_off9 k 1#32) (k0_off9_inb k 1)),
   (rowAt arg6 X_arg6 (k0_off13 k1 k) (k0_off13_inb k1 k), tileAt arg1 X_arg1 (k0_off8 k 2#32) (k0_off8_inb k 2), tileAt arg1 X_arg1 (k0_off9 k 2#32) (k0_off9_inb k 2)),
   (rowAt arg6 X_arg6 (k0_off14 k1 k) (k0_off14_inb k1 k), tileAt arg1 X_arg1 (k0_off8 k 3#32) (k0_off8_inb k 3), tileAt arg1 X_arg1 (k0_off9 k 3#32) (k0_off9_inb k 3)),
   (rowAt arg6 X_arg6 (k0_off15 k1 k) (k0_off15_inb k1 k), tileAt arg1 X_arg1 (k0_off8 k 4#32) (k0_off8_inb k 4), tileAt arg1 X_arg1 (k0_off9 k 4#32) (k0_off9_inb k 4)),
   (rowAt arg6 X_arg6 (k0_off16 k1 k) (k0_off16_inb k1 k), tileAt arg1 X_arg1 (k0_off8 k 5#32) (k0_off8_inb k 5), tileAt arg1 X_arg1 (k0_off9 k 5#32) (k0_off9_inb k 5)),
   (rowAt arg6 X_arg6 (k0_off17 k1 k) (k0_off17_inb k1 k), tileAt arg1 X_arg1 (k0_off8 k 6#32) (k0_off8_inb k 6), tileAt arg1 X_arg1 (k0_off9 k 6#32) (k0_off9_inb k 6)),
   (rowAt arg6 X_arg6 (k0_off18 k1 k) (k0_off18_inb k1 k), tileAt arg1 X_arg1 (k0_off8 k 7#32) (k0_off8_inb k 7), tileAt arg1 X_arg1 (k0_off9 k 7#32) (k0_off9_inb k 7)),
   (rowAt arg6 X_arg6 (k0_off19 k1 k) (k0_off19_inb k1 k), tileAt arg1 X_arg1 (k0_off8 k 8#32) (k0_off8_inb k 8), tileAt arg1 X_arg1 (k0_off9 k 8#32) (k0_off9_inb k 8)),
   (rowAt arg6 X_arg6 (k0_off20 k1 k) (k0_off20_inb k1 k), tileAt arg1 X_arg1 (k0_off8 k 9#32) (k0_off8_inb k 9), tileAt arg1 X_arg1 (k0_off9 k 9#32) (k0_off9_inb k 9)),
   (rowAt arg6 X_arg6 (k0_off21 k1 k) (k0_off21_inb k1 k), tileAt arg1 X_arg1 (k0_off8 k 10#32) (k0_off8_inb k 10), tileAt arg1 X_arg1 (k0_off9 k 10#32) (k0_off9_inb k 10)),
   (rowAt arg6 X_arg6 (k0_off22 k1 k) (k0_off22_inb k1 k), tileAt arg1 X_arg1 (k0_off8 k 11#32) (k0_off8_inb k 11), tileAt arg1 X_arg1 (k0_off9 k 11#32) (k0_off9_inb k 11)),
   (rowAt arg6 X_arg6 (k0_off23 k1 k) (k0_off23_inb k1 k), tileAt arg1 X_arg1 (k0_off8 k 12#32) (k0_off8_inb k 12), tileAt arg1 X_arg1 (k0_off9 k 12#32) (k0_off9_inb k 12)),
   (rowAt arg6 X_arg6 (k0_off24 k1 k) (k0_off24_inb k1 k), tileAt arg1 X_arg1 (k0_off8 k 13#32) (k0_off8_inb k 13), tileAt arg1 X_arg1 (k0_off9 k 13#32) (k0_off9_inb k 13)),
   (rowAt arg6 X_arg6 (k0_off25 k1 k) (k0_off25_inb k1 k), tileAt arg1 X_arg1 (k0_off8 k 14#32) (k0_off8_inb k 14), tileAt arg1 X_arg1 (k0_off9 k 14#32) (k0_off9_inb k 14)),
   (rowAt arg6 X_arg6 (k0_off26 k1 k) (k0_off26_inb k1 k), tileAt arg1 X_arg1 (k0_off8 k 15#32) (k0_off8_inb k 15), tileAt arg1 X_arg1 (k0_off9 k 15#32) (k0_off9_inb k 15)),
   (rowAt arg6 X_arg6 (k0_off27 k1 k) (k0_off27_inb k1 k), tileAt arg1 X_arg1 (k0_off8 k 16#32) (k0_off8_inb k 16), tileAt arg1 X_arg1 (k0_off9 k 16#32) (k0_off9_inb k 16)),
   (rowAt arg6 X_arg6 (k0_off28 k1 k) (k0_off28_inb k1 k), tileAt arg1 X_arg1 (k0_off8 k 17#32) (k0_off8_inb k 17), tileAt arg1 X_arg1 (k0_off9 k 17#32) (k0_off9_inb k 17)),
   (rowAt arg6 X_arg6 (k0_off29 k1 k) (k0_off29_inb k1 k), tileAt arg1 X_arg1 (k0_off8 k 18#32) (k0_off8_inb k 18), tileAt arg1 X_arg1 (k0_off9 k 18#32) (k0_off9_inb k 18)),
   (rowAt arg6 X_arg6 (k0_off30 k1 k) (k0_off30_inb k1 k), tileAt arg1 X_arg1 (k0_off8 k 19#32) (k0_off8_inb k 19), tileAt arg1 X_arg1 (k0_off9 k 19#32) (k0_off9_inb k 19)),
   (rowAt arg6 X_arg6 (k0_off31 k1 k) (k0_off31_inb k1 k), tileAt arg1 X_arg1 (k0_off8 k 20#32) (k0_off8_inb k 20), tileAt arg1 X_arg1 (k0_off9 k 20#32) (k0_off9_inb k 20)),
   (rowAt arg6 X_arg6 (k0_off32 k1 k) (k0_off32_inb k1 k), tileAt arg1 X_arg1 (k0_off8 k 21#32) (k0_off8_inb k 21), tileAt arg1 X_arg1 (k0_off9 k 21#32) (k0_off9_inb k 21)),
   (rowAt arg6 X_arg6 (k0_off33 k1 k) (k0_off33_inb k1 k), tileAt arg1 X_arg1 (k0_off8 k 22#32) (k0_off8_inb k 22), tileAt arg1 X_arg1 (k0_off9 k 22#32) (k0_off9_inb k 22)),
   (rowAt arg6 X_arg6 (k0_off34 k1 k) (k0_off34_inb k1 k), tileAt arg1 X_arg1 (k0_off8 k 23#32) (k0_off8_inb k 23), tileAt arg1 X_arg1 (k0_off9 k 23#32) (k0_off9_inb k 23)),
   (rowAt arg6 X_arg6 (k0_off35 k1 k) (k0_off35_inb k1 k), tileAt arg1 X_arg1 (k0_off8 k 24#32) (k0_off8_inb k 24), tileAt arg1 X_arg1 (k0_off9 k 24#32) (k0_off9_inb k 24)),
   (rowAt arg6 X_arg6 (k0_off36 k1 k) (k0_off36_inb k1 k), tileAt arg1 X_arg1 (k0_off8 k 25#32) (k0_off8_inb k 25), tileAt arg1 X_arg1 (k0_off9 k 25#32) (k0_off9_inb k 25)),
   (rowAt arg6 X_arg6 (k0_off37 k1 k) (k0_off37_inb k1 k), tileAt arg1 X_arg1 (k0_off8 k 26#32) (k0_off8_inb k 26), tileAt arg1 X_arg1 (k0_off9 k 26#32) (k0_off9_inb k 26)),
   (rowAt arg6 X_arg6 (k0_off38 k1 k) (k0_off38_inb k1 k), tileAt arg1 X_arg1 (k0_off8 k 27#32) (k0_off8_inb k 27), tileAt arg1 X_arg1 (k0_off9 k 27#32) (k0_off9_inb k 27)),
   (rowAt arg6 X_arg6 (k0_off39 k1 k) (k0_off39_inb k1 k), tileAt arg1 X_arg1 (k0_off8 k 28#32) (k0_off8_inb k 28), tileAt arg1 X_arg1 (k0_off9 k 28#32) (k0_off9_inb k 28)),
   (rowAt arg6 X_arg6 (k0_off40 k1 k) (k0_off40_inb k1 k), tileAt arg1 X_arg1 (k0_off8 k 29#32) (k0_off8_inb k 29), tileAt arg1 X_arg1 (k0_off9 k 29#32) (k0_off9_inb k 29)),
   (rowAt arg6 X_arg6 (k0_off41 k1 k) (k0_off41_inb k1 k), tileAt arg1 X_arg1 (k0_off8 k 30#32) (k0_off8_inb k 30), tileAt arg1 X_arg1 (k0_off9 k 30#32) (k0_off9_inb k 30)),
   (rowAt arg6 X_arg6 (k0_off42 k1 k) (k0_off42_inb k1 k), tileAt arg1 X_arg1 (k0_off8 k 31#32) (k0_off8_inb k 31), tileAt arg1 X_arg1 (k0_off9 k 31#32) (k0_off9_inb k 31))]

/-- The 32 look-ups of a trip in table rows 32 to 39. -/
def looks4 : List (Look F) :=
  [(rowAt arg6 X_arg6 (k0_off1 k1 k) (k0_off1_inb k1 k), tileAt arg1 X_arg1 (k0_off10 k 0#32) (k0_off10_inb k 0), tileAt arg1 X_arg1 (k0_off11 k 0#32) (k0_off11_inb k 0)),
   (rowAt arg6 X_arg6 (k0_off12 k1 k) (k0_off12_inb k1 k), tileAt arg1 X_arg1 (k0_off10 k 1#32) (k0_off10_inb k 1), tileAt arg1 X_arg1 (k0_off11 k 1#32) (k0_off11_inb k 1)),
   (rowAt arg6 X_arg6 (k0_off13 k1 k) (k0_off13_inb k1 k), tileAt arg1 X_arg1 (k0_off10 k 2#32) (k0_off10_inb k 2), tileAt arg1 X_arg1 (k0_off11 k 2#32) (k0_off11_inb k 2)),
   (rowAt arg6 X_arg6 (k0_off14 k1 k) (k0_off14_inb k1 k), tileAt arg1 X_arg1 (k0_off10 k 3#32) (k0_off10_inb k 3), tileAt arg1 X_arg1 (k0_off11 k 3#32) (k0_off11_inb k 3)),
   (rowAt arg6 X_arg6 (k0_off15 k1 k) (k0_off15_inb k1 k), tileAt arg1 X_arg1 (k0_off10 k 4#32) (k0_off10_inb k 4), tileAt arg1 X_arg1 (k0_off11 k 4#32) (k0_off11_inb k 4)),
   (rowAt arg6 X_arg6 (k0_off16 k1 k) (k0_off16_inb k1 k), tileAt arg1 X_arg1 (k0_off10 k 5#32) (k0_off10_inb k 5), tileAt arg1 X_arg1 (k0_off11 k 5#32) (k0_off11_inb k 5)),
   (rowAt arg6 X_arg6 (k0_off17 k1 k) (k0_off17_inb k1 k), tileAt arg1 X_arg1 (k0_off10 k 6#32) (k0_off10_inb k 6), tileAt arg1 X_arg1 (k0_off11 k 6#32) (k0_off11_inb k 6)),
   (rowAt arg6 X_arg6 (k0_off18 k1 k) (k0_off18_inb k1 k), tileAt arg1 X_arg1 (k0_off10 k 7#32) (k0_off10_inb k 7), tileAt arg1 X_arg1 (k0_off11 k 7#32) (k0_off11_inb k 7)),
   (rowAt arg6 X_arg6 (k0_off19 k1 k) (k0_off19_inb k1 k), tileAt arg1 X_arg1 (k0_off10 k 8#32) (k0_off10_inb k 8), tileAt arg1 X_arg1 (k0_off11 k 8#32) (k0_off11_inb k 8)),
   (rowAt arg6 X_arg6 (k0_off20 k1 k) (k0_off20_inb k1 k), tileAt arg1 X_arg1 (k0_off10 k 9#32) (k0_off10_inb k 9), tileAt arg1 X_arg1 (k0_off11 k 9#32) (k0_off11_inb k 9)),
   (rowAt arg6 X_arg6 (k0_off21 k1 k) (k0_off21_inb k1 k), tileAt arg1 X_arg1 (k0_off10 k 10#32) (k0_off10_inb k 10), tileAt arg1 X_arg1 (k0_off11 k 10#32) (k0_off11_inb k 10)),
   (rowAt arg6 X_arg6 (k0_off22 k1 k) (k0_off22_inb k1 k), tileAt arg1 X_arg1 (k0_off10 k 11#32) (k0_off10_inb k 11), tileAt arg1 X_arg1 (k0_off11 k 11#32) (k0_off11_inb k 11)),
   (rowAt arg6 X_arg6 (k0_off23 k1 k) (k0_off23_inb k1 k), tileAt arg1 X_arg1 (k0_off10 k 12#32) (k0_off10_inb k 12), tileAt arg1 X_arg1 (k0_off11 k 12#32) (k0_off11_inb k 12)),
   (rowAt arg6 X_arg6 (k0_off24 k1 k) (k0_off24_inb k1 k), tileAt arg1 X_arg1 (k0_off10 k 13#32) (k0_off10_inb k 13), tileAt arg1 X_arg1 (k0_off11 k 13#32) (k0_off11_inb k 13)),
   (rowAt arg6 X_arg6 (k0_off25 k1 k) (k0_off25_inb k1 k), tileAt arg1 X_arg1 (k0_off10 k 14#32) (k0_off10_inb k 14), tileAt arg1 X_arg1 (k0_off11 k 14#32) (k0_off11_inb k 14)),
   (rowAt arg6 X_arg6 (k0_off26 k1 k) (k0_off26_inb k1 k), tileAt arg1 X_arg1 (k0_off10 k 15#32) (k0_off10_inb k 15), tileAt arg1 X_arg1 (k0_off11 k 15#32) (k0_off11_inb k 15)),
   (rowAt arg6 X_arg6 (k0_off27 k1 k) (k0_off27_inb k1 k), tileAt arg1 X_arg1 (k0_off10 k 16#32) (k0_off10_inb k 16), tileAt arg1 X_arg1 (k0_off11 k 16#32) (k0_off11_inb k 16)),
   (rowAt arg6 X_arg6 (k0_off28 k1 k) (k0_off28_inb k1 k), tileAt arg1 X_arg1 (k0_off10 k 17#32) (k0_off10_inb k 17), tileAt arg1 X_arg1 (k0_off11 k 17#32) (k0_off11_inb k 17)),
   (rowAt arg6 X_arg6 (k0_off29 k1 k) (k0_off29_inb k1 k), tileAt arg1 X_arg1 (k0_off10 k 18#32) (k0_off10_inb k 18), tileAt arg1 X_arg1 (k0_off11 k 18#32) (k0_off11_inb k 18)),
   (rowAt arg6 X_arg6 (k0_off30 k1 k) (k0_off30_inb k1 k), tileAt arg1 X_arg1 (k0_off10 k 19#32) (k0_off10_inb k 19), tileAt arg1 X_arg1 (k0_off11 k 19#32) (k0_off11_inb k 19)),
   (rowAt arg6 X_arg6 (k0_off31 k1 k) (k0_off31_inb k1 k), tileAt arg1 X_arg1 (k0_off10 k 20#32) (k0_off10_inb k 20), tileAt arg1 X_arg1 (k0_off11 k 20#32) (k0_off11_inb k 20)),
   (rowAt arg6 X_arg6 (k0_off32 k1 k) (k0_off32_inb k1 k), tileAt arg1 X_arg1 (k0_off10 k 21#32) (k0_off10_inb k 21), tileAt arg1 X_arg1 (k0_off11 k 21#32) (k0_off11_inb k 21)),
   (rowAt arg6 X_arg6 (k0_off33 k1 k) (k0_off33_inb k1 k), tileAt arg1 X_arg1 (k0_off10 k 22#32) (k0_off10_inb k 22), tileAt arg1 X_arg1 (k0_off11 k 22#32) (k0_off11_inb k 22)),
   (rowAt arg6 X_arg6 (k0_off34 k1 k) (k0_off34_inb k1 k), tileAt arg1 X_arg1 (k0_off10 k 23#32) (k0_off10_inb k 23), tileAt arg1 X_arg1 (k0_off11 k 23#32) (k0_off11_inb k 23)),
   (rowAt arg6 X_arg6 (k0_off35 k1 k) (k0_off35_inb k1 k), tileAt arg1 X_arg1 (k0_off10 k 24#32) (k0_off10_inb k 24), tileAt arg1 X_arg1 (k0_off11 k 24#32) (k0_off11_inb k 24)),
   (rowAt arg6 X_arg6 (k0_off36 k1 k) (k0_off36_inb k1 k), tileAt arg1 X_arg1 (k0_off10 k 25#32) (k0_off10_inb k 25), tileAt arg1 X_arg1 (k0_off11 k 25#32) (k0_off11_inb k 25)),
   (rowAt arg6 X_arg6 (k0_off37 k1 k) (k0_off37_inb k1 k), tileAt arg1 X_arg1 (k0_off10 k 26#32) (k0_off10_inb k 26), tileAt arg1 X_arg1 (k0_off11 k 26#32) (k0_off11_inb k 26)),
   (rowAt arg6 X_arg6 (k0_off38 k1 k) (k0_off38_inb k1 k), tileAt arg1 X_arg1 (k0_off10 k 27#32) (k0_off10_inb k 27), tileAt arg1 X_arg1 (k0_off11 k 27#32) (k0_off11_inb k 27)),
   (rowAt arg6 X_arg6 (k0_off39 k1 k) (k0_off39_inb k1 k), tileAt arg1 X_arg1 (k0_off10 k 28#32) (k0_off10_inb k 28), tileAt arg1 X_arg1 (k0_off11 k 28#32) (k0_off11_inb k 28)),
   (rowAt arg6 X_arg6 (k0_off40 k1 k) (k0_off40_inb k1 k), tileAt arg1 X_arg1 (k0_off10 k 29#32) (k0_off10_inb k 29), tileAt arg1 X_arg1 (k0_off11 k 29#32) (k0_off11_inb k 29)),
   (rowAt arg6 X_arg6 (k0_off41 k1 k) (k0_off41_inb k1 k), tileAt arg1 X_arg1 (k0_off10 k 30#32) (k0_off10_inb k 30), tileAt arg1 X_arg1 (k0_off11 k 30#32) (k0_off11_inb k 30)),
   (rowAt arg6 X_arg6 (k0_off42 k1 k) (k0_off42_inb k1 k), tileAt arg1 X_arg1 (k0_off10 k 31#32) (k0_off10_inb k 31), tileAt arg1 X_arg1 (k0_off11 k 31#32) (k0_off11_inb k 31))]

end

/-- The trip's even sums in row group 0. -/
theorem trip_even0 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).1 = (looks0 arg1 arg6 k0_t1 X_arg1 X_arg6 k).foldl evenStep acc.1 := by
  unfold tripR_k0_t2 trip_k0_t2
  rfl

/-- The trip's even sums in row group 1. -/
theorem trip_even1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.1 = (looks1 arg1 arg6 k0_t1 X_arg1 X_arg6 k).foldl evenStep acc.2.1 := by
  unfold tripR_k0_t2 trip_k0_t2
  rfl

/-- The trip's even sums in row group 2. -/
theorem trip_even2 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.1 = (looks2 arg1 arg6 k0_t1 X_arg1 X_arg6 k).foldl evenStep acc.2.2.1 := by
  unfold tripR_k0_t2 trip_k0_t2
  rfl

/-- The trip's even sums in row group 3. -/
theorem trip_even3 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.1 = (looks3 arg1 arg6 k0_t1 X_arg1 X_arg6 k).foldl evenStep acc.2.2.2.1 := by
  unfold tripR_k0_t2 trip_k0_t2
  rfl

/-- The trip's even sums in row group 4. -/
theorem trip_even4 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.2.1 = (looks4 arg1 arg6 k0_t1 X_arg1 X_arg6 k).foldl evenStep acc.2.2.2.2.1 := by
  unfold tripR_k0_t2 trip_k0_t2
  rfl

/-- The trip's rest sums in row group 0. -/
theorem trip_rest0 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.2.2.1 = (looks0 arg1 arg6 k0_t1 X_arg1 X_arg6 k).foldl restStep acc.2.2.2.2.2.1 := by
  unfold tripR_k0_t2 trip_k0_t2
  rfl

/-- The trip's rest sums in row group 1. -/
theorem trip_rest1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.2.2.2.1 = (looks1 arg1 arg6 k0_t1 X_arg1 X_arg6 k).foldl restStep acc.2.2.2.2.2.2.1 := by
  unfold tripR_k0_t2 trip_k0_t2
  rfl

/-- The trip's rest sums in row group 2. -/
theorem trip_rest2 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.2.2.2.2.1 = (looks2 arg1 arg6 k0_t1 X_arg1 X_arg6 k).foldl restStep acc.2.2.2.2.2.2.2.1 := by
  unfold tripR_k0_t2 trip_k0_t2
  rfl

/-- The trip's rest sums in row group 3. -/
theorem trip_rest3 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.2.2.2.2.2.1 = (looks3 arg1 arg6 k0_t1 X_arg1 X_arg6 k).foldl restStep acc.2.2.2.2.2.2.2.2.1 := by
  unfold tripR_k0_t2 trip_k0_t2
  rfl

/-- The trip's rest sums in row group 4. -/
theorem trip_rest4 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (k : Fin k0_t2_loop.trips) (acc : IVec S8x128 32 × IVec S8x128 32 × IVec S8x128 32 × IVec S8x128 32 × IVec S8x128 32 × IVec S8x128 32 × IVec S8x128 32 × IVec S8x128 32 × IVec S8x128 32 × IVec S8x128 32) :
    (tripR_k0_t2 (F := F) 𝒱 c bd i arg1 harg1 arg2 harg2 arg3 harg3 arg4 harg4 arg5 harg5 arg6 harg6 v23 c0_i32_14 c1_i32 k0_t1 arg7 X_arg1 X_arg6 k acc).2.2.2.2.2.2.2.2.2 = (looks4 arg1 arg6 k0_t1 X_arg1 X_arg6 k).foldl restStep acc.2.2.2.2.2.2.2.2.2 := by
  unfold tripR_k0_t2 trip_k0_t2
  rfl

end Cert.ScanIdeal.Value
end
end
-- ==== Proof.Packed.lean ====
/- Arithmetic of the packed accumulators, in plain naturals: four 8-bit codes sit in one 32-bit word; the scan adds the
   even bytes (two 16-bit lanes of one word) and the word shifted right by eight in two accumulators; after at most 128
   words every byte's sum is below 2^16, so the four sums come apart again exactly. -/
module

public import Mathlib.Tactic.NormNum
public import Mathlib.Tactic.Ring
public import Mathlib.Data.Nat.Bitwise
public import Mathlib.Algebra.BigOperators.Group.List.Basic

@[expose] public section

namespace Cert.Packed

/-- Byte `j` of a word. -/
def byte (j : ℕ) (w : BitVec 32) : ℕ := w.toNat / 256 ^ j % 256

theorem byte_lt (j : ℕ) (w : BitVec 32) : byte j w < 256 := Nat.mod_lt _ (by norm_num)

/-- Masking the even bytes leaves byte 0 and byte 2 in their places. -/
theorem land_even (x : ℕ) : x &&& 16711935 = x % 256 + 65536 * (x / 65536 % 256) := by
  apply Nat.eq_of_testBit_eq
  intro i
  have h1 : (16711935 : ℕ) = 2 ^ 16 * (2 ^ 8 - 1) + (2 ^ 8 - 1) := by norm_num
  have h2 : x % 256 + 65536 * (x / 65536 % 256) = 2 ^ 16 * ((x / 2 ^ 16) % 2 ^ 8) + x % 2 ^ 8 := by norm_num; omega
  rw [h2, h1, Nat.testBit_and, Nat.testBit_two_pow_mul_add _ (by norm_num), Nat.testBit_two_pow_mul_add _ (by omega)]
  by_cases hi : i < 16
  · simp [hi, Nat.testBit_two_pow_sub_one, Nat.testBit_mod_two_pow, -Nat.reducePow, -Nat.reduceSub, Bool.and_comm]
  · have : i - 16 + 16 = i := by omega
    simp [hi, Nat.testBit_two_pow_sub_one, Nat.testBit_mod_two_pow, Nat.testBit_div_two_pow, -Nat.reducePow, -Nat.reduceSub, Bool.and_comm, this]

theorem even_toNat (w : BitVec 32) : (w &&& 16711935#32).toNat = byte 0 w + 65536 * byte 2 w := by
  rw [BitVec.toNat_and]
  show w.toNat &&& 16711935 = _
  rw [land_even]; unfold byte; norm_num

theorem rest_toNat (w : BitVec 32) : (w >>> 8).toNat = byte 1 w + 256 * byte 2 w + 65536 * byte 3 w := by
  rw [BitVec.toNat_ushiftRight, Nat.shiftRight_eq_div_pow]
  have := w.isLt
  unfold byte; norm_num; omega

/-- The words' sum (modulo 2^32) of a list of words, starting from zero. -/
theorem foldl_toNat {α : Type} (f : α → BitVec 32) (l : List α) (a : BitVec 32)
    (h : a.toNat + (l.map fun i => (f i).toNat).sum < 2 ^ 32) :
    (l.foldl (fun a i => a + f i) a).toNat = a.toNat + (l.map fun i => (f i).toNat).sum := by
  induction l generalizing a with
  | nil => simp
  | cons x l ih =>
    simp only [List.map_cons, List.sum_cons] at h
    have hx : (a + f x).toNat = a.toNat + (f x).toNat := by
      rw [BitVec.toNat_add, Nat.mod_eq_of_lt (by omega)]
    rw [List.foldl_cons, ih _ (by rw [hx]; omega), hx]; simp [add_assoc]

variable {α : Type} (w : α → BitVec 32) (l : List α)

/-- The sum of byte `j` over the words. -/
def total (j : ℕ) : ℕ := (l.map fun i => byte j (w i)).sum

theorem total_cons (j : ℕ) (x : α) (l : List α) : total w (x :: l) j = byte j (w x) + total w l j := by
  simp [total]

theorem total_le (j : ℕ) : total w l j ≤ 255 * l.length := by
  induction l with
  | nil => simp [total]
  | cons x l ih =>
    rw [total_cons]; have := byte_lt j (w x); simp only [List.length_cons]; omega

theorem even_sum : (l.map fun i => (w i &&& 16711935#32).toNat).sum = total w l 0 + 65536 * total w l 2 := by
  induction l with
  | nil => simp [total]
  | cons x l ih => rw [total_cons, total_cons, List.map_cons, List.sum_cons, ih, even_toNat]; ring

theorem rest_sum : (l.map fun i => (w i >>> 8).toNat).sum = total w l 1 + 256 * total w l 2 + 65536 * total w l 3 := by
  induction l with
  | nil => simp [total]
  | cons x l ih => rw [total_cons, total_cons, total_cons, List.map_cons, List.sum_cons, ih, rest_toNat]; ring

/-- The accumulator of the even bytes. -/
def evenAcc : BitVec 32 := l.foldl (fun a i => a + (w i &&& 16711935#32)) 0#32

/-- The accumulator of the words shifted by eight. -/
def restAcc : BitVec 32 := l.foldl (fun a i => a + w i >>> 8) 0#32

variable {w l}

theorem evenAcc_toNat (hl : l.length ≤ 128) : (evenAcc w l).toNat = total w l 0 + 65536 * total w l 2 := by
  have h0 := total_le w l 0
  have h2 := total_le w l 2
  unfold evenAcc
  rw [foldl_toNat (fun i => w i &&& 16711935#32), even_sum]; · simp
  rw [even_sum]; simp; omega

theorem restAcc_toNat (hl : l.length ≤ 128) :
    (restAcc w l).toNat = total w l 1 + 256 * total w l 2 + 65536 * total w l 3 := by
  have h1 := total_le w l 1
  have h2 := total_le w l 2
  have h3 := total_le w l 3
  unfold restAcc
  rw [foldl_toNat (fun i => w i >>> 8), rest_sum]; · simp
  rw [rest_sum]; simp; omega

theorem and_ffff (x : BitVec 32) : (x &&& 65535#32).toNat = x.toNat % 65536 := by
  rw [BitVec.toNat_and]
  show x.toNat &&& (2 ^ 16 - 1) = _
  rw [Nat.and_two_pow_sub_one_eq_mod]

theorem shr_16 (x : BitVec 32) : (x >>> 16).toNat = x.toNat / 65536 := by
  rw [BitVec.toNat_ushiftRight, Nat.shiftRight_eq_div_pow]

/-- The four byte sums from the two accumulators, by the kernel's own extraction. -/
theorem b0_eq (hl : l.length ≤ 128) : evenAcc w l &&& 65535#32 = BitVec.ofNat 32 (total w l 0) := by
  have h0 := total_le w l 0
  apply BitVec.eq_of_toNat_eq
  rw [and_ffff, evenAcc_toNat hl, BitVec.toNat_ofNat]; norm_num; omega

theorem b2_eq (hl : l.length ≤ 128) : evenAcc w l >>> 16 = BitVec.ofNat 32 (total w l 2) := by
  have h0 := total_le w l 0
  have h2 := total_le w l 2
  apply BitVec.eq_of_toNat_eq
  rw [shr_16, evenAcc_toNat hl, BitVec.toNat_ofNat]; norm_num; omega

theorem odd_toNat (hl : l.length ≤ 128) :
    (restAcc w l - (evenAcc w l >>> 16) <<< 8).toNat = total w l 1 + 65536 * total w l 3 := by
  have h1 := total_le w l 1
  have h2 := total_le w l 2
  have h3 := total_le w l 3
  have hs : ((evenAcc w l >>> 16) <<< 8).toNat = 256 * total w l 2 := by
    rw [b2_eq hl, BitVec.toNat_shiftLeft, BitVec.toNat_ofNat, Nat.shiftLeft_eq]; norm_num; omega
  rw [BitVec.toNat_sub, hs, restAcc_toNat hl]; norm_num; omega

theorem b1_eq (hl : l.length ≤ 128) :
    (restAcc w l - (evenAcc w l >>> 16) <<< 8) &&& 65535#32 = BitVec.ofNat 32 (total w l 1) := by
  have h1 := total_le w l 1
  apply BitVec.eq_of_toNat_eq
  rw [and_ffff, odd_toNat hl, BitVec.toNat_ofNat]; norm_num; omega

theorem b3_eq (hl : l.length ≤ 128) :
    (restAcc w l - (evenAcc w l >>> 16) <<< 8) >>> 16 = BitVec.ofNat 32 (total w l 3) := by
  have h1 := total_le w l 1
  have h3 := total_le w l 3
  apply BitVec.eq_of_toNat_eq
  rw [shr_16, odd_toNat hl, BitVec.toNat_ofNat]; norm_num; omega

end Cert.Packed
-- ==== Proof.ScanIdealLane.lean ====
module
public import proofs.«01_k».proof.Proof.ScanIdealTrip
public import proofs.«01_k».proof.Proof.Packed
public import Idealize.ShloMosaic.Lib.PointwiseCore
/-!
# The inner loop, one lane at a time

In lane `l` of row `r` of a row group, a look-up reads one word of the packed table: the one at the code
that the lane's column of the scratch holds. So after all four trips the two sums of the lane are
`Packed.evenAcc` and `Packed.restAcc` of the 128 words found.
-/
@[expose] public section
set_option maxRecDepth 16384
noncomputable section
open Idealize.ShloMosaic Cert.ScanIdeal Cert.ScanIdeal.Gen Cert.ScanIdeal.Run
namespace Cert.ScanIdeal.Value
variable {F : FTy → Type} [FloatOps F]

/-- The word of packed table `m`, row `q`, at code `d`: plane `d / 128`, lane `d % 128`. -/
def wordOf (W : S128x2x40x128.Idx → BitVec 32) (m : Fin 128) (q : Fin 40) (d : BitVec 32) : BitVec 32 :=
  W (ix4 m ⟨d.toNat / 128 % 2, Nat.mod_lt _ (by decide)⟩ q ⟨d.toNat % 128, Nat.mod_lt _ (by decide)⟩)

/-- The word a look-up finds in lane `l` of row `r`. -/
def found (s : Look F) (r : Fin 8) (l : Fin 128) : BitVec 32 :=
  if 128 ≤ (s.1 (ix4 0 0 0 l)).toNat then s.2.1 (ix4 0 0 r ⟨(s.1 (ix4 0 0 0 l)).toNat % 128, Nat.mod_lt _ (by decide)⟩)
  else s.2.2 (ix4 0 0 r ⟨(s.1 (ix4 0 0 0 l)).toNat % 128, Nat.mod_lt _ (by decide)⟩)

/-- The seven low bits of a word are its remainder by 128. -/
theorem low7 (d : BitVec 32) : (d &&& 127#32).toNat = d.toNat % 128 := by
  rw [BitVec.toNat_and]; exact Nat.and_two_pow_sub_one_eq_mod d.toNat 7

/-- A lane index wrapped as jnp wraps negative ones: seven bits are never negative. -/
theorem wrap7 (d : BitVec 32) :
    (Scalar.select (IntOp.cmpi CmpIPredicate.slt (IntOp.andi d 127#32) 0#32) (IntOp.addi (IntOp.andi d 127#32) 128#32)
      (IntOp.andi d 127#32)).toNat % 128 = d.toNat % 128 := by
  have h7 : (IntOp.andi d 127#32).toNat = d.toNat % 128 := low7 d
  have hc : IntOp.cmpi CmpIPredicate.slt (IntOp.andi d 127#32) 0#32 = 0#1 := by
    show BitVec.ofBool ((IntOp.andi d 127#32).slt 0#32) = 0#1
    have hm : (IntOp.andi d 127#32).slt 0#32 = false := by
      rw [BitVec.slt_eq_decide, decide_eq_false_iff_not, BitVec.toInt_eq_toNat_of_lt (by omega)]
      simp
    rw [hm]; rfl
  rw [hc]
  show (IntOp.andi d 127#32).toNat % 128 = _
  rw [h7, Nat.mod_mod]

/-- The comparison that picks the half of the table. -/
theorem half_sel {α : Type} (d : BitVec 32) (hd : d.toNat < 256) (x y : α) :
    Scalar.select (IntOp.cmpi CmpIPredicate.sge d 128#32) x y = if 128 ≤ d.toNat then x else y := by
  have hc : IntOp.cmpi CmpIPredicate.sge d 128#32 = BitVec.ofBool (decide (128 ≤ d.toNat)) := by
    show BitVec.ofBool ((128#32).sle d) = _
    have hm : (128#32).sle d = decide (128 ≤ d.toNat) := by
      rw [BitVec.sle_eq_decide, BitVec.toInt_eq_toNat_of_lt (x := d) (by omega)]
      simp only [decide_eq_decide]
      have : (128#32).toInt = 128 := by decide
      rw [this]; omega
    rw [hm]
  rw [hc]
  by_cases h : 128 ≤ d.toNat
  · rw [if_pos h, decide_eq_true h]; rfl
  · rw [if_neg h, decide_eq_false h]; rfl

theorem evenStep_apply (a : IVec S8x128 32) (s : Look F) (r : Fin 8) (l : Fin 128) (hs : (s.1 (ix4 0 0 0 l)).toNat < 256) :
    evenStep a s (ix2 r l) = a (ix2 r l) + (found s r l &&& 16711935#32) := by
  unfold evenStep
  pointwise [k0_pay12, k0_pay11, k0_pay10, k0_pay9, k0_pay8]
  simp only [wrap7]
  rw [half_sel _ hs]
  rfl

theorem restStep_apply (a : IVec S8x128 32) (s : Look F) (r : Fin 8) (l : Fin 128) (hs : (s.1 (ix4 0 0 0 l)).toNat < 256) :
    restStep a s (ix2 r l) = a (ix2 r l) + (found s r l) >>> 8 := by
  unfold restStep
  pointwise [k0_pay13, k0_pay11, k0_pay10, k0_pay9, k0_pay8]
  simp only [wrap7]
  rw [half_sel _ hs]
  rfl

/-- The look-up `s` is the one of sub-space `32 k + u` in row group `g`, for column block `k1`. -/
structure IsLook (W : S128x2x40x128.Idx → BitVec 32) (D : S4x4x32x128.Idx → BitVec 32) (k1 k : Fin 4) (g : Fin 5)
    (u : Fin 32) (s : Look F) : Prop where
  code : ∀ l : Fin 128, s.1 (ix4 0 0 0 l) = D (ix4 k1 k u l)
  upper : ∀ (r : Fin 8) (x : Fin 128), s.2.1 (ix4 0 0 r x) = W (ix4 ⟨32 * k.val + u.val, by omega⟩ 1 ⟨8 * g.val + r.val, by omega⟩ x)
  lower : ∀ (r : Fin 8) (x : Fin 128), s.2.2 (ix4 0 0 r x) = W (ix4 ⟨32 * k.val + u.val, by omega⟩ 0 ⟨8 * g.val + r.val, by omega⟩ x)

theorem rowAt_apply (arg6 : Memref sig .tc .vmem S4x4x32x128 .i32) (X : BufTy.Contents (Elt F) arg6.view.ty) (off : Fin 4 → ℕ)
    (h : ∀ a, off a + S1x1x1x128.size a ≤ S4x4x32x128.size a) (k1 k : Fin 4) (u : Fin 32)
    (e : off = ![k1.val, k.val, u.val, 0]) (l : Fin 128) :
    rowAt arg6 X off h (ix4 0 0 0 l) = arg6.view.read (Elt F) X (ix4 k1 k u l) := by
  subst e
  unfold rowAt
  rw [View.readAt_apply]
  congr 1
  funext a
  apply Fin.ext
  fin_cases a <;> simp [Rect.unit, LoadRect.idx, Rect.toLoadRect, Shape.Idx.norm, ix4]

theorem tileAt_apply (arg1 : Memref sig .tc .vmem S128x2x40x128 .i32) (X : BufTy.Contents (Elt F) arg1.view.ty) (off : Fin 4 → ℕ)
    (h : ∀ a, off a + S1x1x8x128.size a ≤ S128x2x40x128.size a) (m : Fin 128) (p : Fin 2) (q : ℕ) (hq : q + 8 ≤ 40)
    (e : off = ![m.val, p.val, q, 0]) (r : Fin 8) (x : Fin 128) :
    tileAt arg1 X off h (ix4 0 0 r x) = arg1.view.read (Elt F) X (ix4 m p ⟨q + r.val, by omega⟩ x) := by
  subst e
  unfold tileAt
  rw [View.readAt_apply]
  congr 1
  funext a
  apply Fin.ext
  fin_cases a <;> simp [Rect.unit, LoadRect.idx, Rect.toLoadRect, Shape.Idx.norm, ix4]

/-- The numbers 0 to 31. -/
def idx32 : List (Fin 32) := [0, 1, 2, 3, 4, 5, 6, 7, 8, 9, 10, 11, 12, 13, 14, 15, 16, 17, 18, 19, 20, 21, 22, 23, 24, 25, 26, 27, 28, 29, 30, 31]

section
variable (arg1 : Memref sig .tc .vmem S128x2x40x128 .i32) (arg6 : Memref sig .tc .vmem S4x4x32x128 .i32)
  (k1 : Fin k0_t1_loop.trips) (X_arg1 : BufTy.Contents (Elt F) arg1.view.ty) (X_arg6 : BufTy.Contents (Elt F) arg6.view.ty)
  (k : Fin k0_t2_loop.trips)

/-- The outer trip's number, as one of four. -/
abbrev c1 : Fin 4 := ⟨k1.val, Nat.lt_of_lt_of_le k1.isLt k0_t1_abs.2.1⟩
/-- The inner trip's number, as one of four. -/
abbrev c2 : Fin 4 := ⟨k.val, Nat.lt_of_lt_of_le k.isLt k0_t2_abs.2.1⟩

theorem isLook (g : Fin 5) (u : Fin 32) (o1 o2 o3 : Fin 4 → ℕ) (h1 : ∀ a, o1 a + S1x1x1x128.size a ≤ S4x4x32x128.size a)
    (h2 : ∀ a, o2 a + S1x1x8x128.size a ≤ S128x2x40x128.size a) (h3 : ∀ a, o3 a + S1x1x8x128.size a ≤ S128x2x40x128.size a)
    (e1 : o1 = ![k1.val, k.val, u.val, 0]) (e2 : o2 = ![32 * k.val + u.val, 1, 8 * g.val, 0])
    (e3 : o3 = ![32 * k.val + u.val, 0, 8 * g.val, 0]) :
    IsLook (F := F) (arg1.view.read (Elt F) X_arg1) (arg6.view.read (Elt F) X_arg6) (c1 k1) (c2 k) g u
      (rowAt arg6 X_arg6 o1 h1, tileAt arg1 X_arg1 o2 h2, tileAt arg1 X_arg1 o3 h3) where
  code l := rowAt_apply arg6 X_arg6 o1 h1 (c1 k1) (c2 k) u e1 l
  upper r x := tileAt_apply arg1 X_arg1 o2 h2 ⟨32 * (c2 k).val + u.val, by omega⟩ 1 (8 * g.val) (by omega) e2 r x
  lower r x := tileAt_apply arg1 X_arg1 o3 h3 ⟨32 * (c2 k).val + u.val, by omega⟩ 0 (8 * g.val) (by omega) e3 r x

theorem looks0_is : List.Forall₂ (IsLook (F := F) (arg1.view.read (Elt F) X_arg1) (arg6.view.read (Elt F) X_arg6) (c1 k1) (c2 k) 0)
    idx32 (looks0 arg1 arg6 k1 X_arg1 X_arg6 k) := by
  unfold idx32 looks0
  refine .cons (isLook arg1 arg6 k1 X_arg1 X_arg6 k 0 0 _ _ _ _ _ _ (k0_off1_eq k1 k) (k0_off2_eq k 0) (k0_off3_eq k 0)) ?_
  refine .cons (isLook arg1 arg6 k1 X_arg1 X_arg6 k 0 1 _ _ _ _ _ _ (k0_off12_eq k1 k) (k0_off2_eq k 1) (k0_off3_eq k 1)) ?_
  refine .cons (isLook arg1 arg6 k1 X_arg1 X_arg6 k 0 2 _ _ _ _ _ _ (k0_off13_eq k1 k) (k0_off2_eq k 2) (k0_off3_eq k 2)) ?_
  refine .cons (isLook arg1 arg6 k1 X_arg1 X_arg6 k 0 3 _ _ _ _ _ _ (k0_off14_eq k1 k) (k0_off2_eq k 3) (k0_off3_eq k 3)) ?_
  refine .cons (isLook arg1 arg6 k1 X_arg1 X_arg6 k 0 4 _ _ _ _ _ _ (k0_off15_eq k1 k) (k0_off2_eq k 4) (k0_off3_eq k 4)) ?_
  refine .cons (isLook arg1 arg6 k1 X_arg1 X_arg6 k 0 5 _ _ _ _ _ _ (k0_off16_eq k1 k) (k0_off2_eq k 5) (k0_off3_eq k 5)) ?_
  refine .cons (isLook arg1 arg6 k1 X_arg1 X_arg6 k 0 6 _ _ _ _ _ _ (k0_off17_eq k1 k) (k0_off2_eq k 6) (k0_off3_eq k 6)) ?_
  refine .cons (isLook arg1 arg6 k1 X_arg1 X_arg6 k 0 7 _ _ _ _ _ _ (k0_off18_eq k1 k) (k0_off2_eq k 7) (k0_off3_eq k 7)) ?_
  refine .cons (isLook arg1 arg6 k1 X_arg1 X_arg6 k 0 8 _ _ _ _ _ _ (k0_off19_eq k1 k) (k0_off2_eq k 8) (k0_off3_eq k 8)) ?_
  refine .cons (isLook arg1 arg6 k1 X_arg1 X_arg6 k 0 9 _ _ _ _ _ _ (k0_off20_eq k1 k) (k0_off2_eq k 9) (k0_off3_eq k 9)) ?_
  refine .cons (isLook arg1 arg6 k1 X_arg1 X_arg6 k 0 10 _ _ _ _ _ _ (k0_off21_eq k1 k) (k0_off2_eq k 10) (k0_off3_eq k 10)) ?_
  refine .cons (isLook arg1 arg6 k1 X_arg1 X_arg6 k 0 11 _ _ _ _ _ _ (k0_off22_eq k1 k) (k0_off2_eq k 11) (k0_off3_eq k 11)) ?_
  refine .cons (isLook arg1 arg6 k1 X_arg1 X_arg6 k 0 12 _ _ _ _ _ _ (k0_off23_eq k1 k) (k0_off2_eq k 12) (k0_off3_eq k 12)) ?_
  refine .cons (isLook arg1 arg6 k1 X_arg1 X_arg6 k 0 13 _ _ _ _ _ _ (k0_off24_eq k1 k) (k0_off2_eq k 13) (k0_off3_eq k 13)) ?_
  refine .cons (isLook arg1 arg6 k1 X_arg1 X_arg6 k 0 14 _ _ _ _ _ _ (k0_off25_eq k1 k) (k0_off2_eq k 14) (k0_off3_eq k 14)) ?_
  refine .cons (isLook arg1 arg6 k1 X_arg1 X_arg6 k 0 15 _ _ _ _ _ _ (k0_off26_eq k1 k) (k0_off2_eq k 15) (k0_off3_eq k 15)) ?_
  refine .cons (isLook arg1 arg6 k1 X_arg1 X_arg6 k 0 16 _ _ _ _ _ _ (k0_off27_eq k1 k) (k0_off2_eq k 16) (k0_off3_eq k 16)) ?_
  refine .cons (isLook arg1 arg6 k1 X_arg1 X_arg6 k 0 17 _ _ _ _ _ _ (k0_off28_eq k1 k) (k0_off2_eq k 17) (k0_off3_eq k 17)) ?_
  refine .cons (isLook arg1 arg6 k1 X_arg1 X_arg6 k 0 18 _ _ _ _ _ _ (k0_off29_eq k1 k) (k0_off2_eq k 18) (k0_off3_eq k 18)) ?_
  refine .cons (isLook arg1 arg6 k1 X_arg1 X_arg6 k 0 19 _ _ _ _ _ _ (k0_off30_eq k1 k) (k0_off2_eq k 19) (k0_off3_eq k 19)) ?_
  refine .cons (isLook arg1 arg6 k1 X_arg1 X_arg6 k 0 20 _ _ _ _ _ _ (k0_off31_eq k1 k) (k0_off2_eq k 20) (k0_off3_eq k 20)) ?_
  refine .cons (isLook arg1 arg6 k1 X_arg1 X_arg6 k 0 21 _ _ _ _ _ _ (k0_off32_eq k1 k) (k0_off2_eq k 21) (k0_off3_eq k 21)) ?_
  refine .cons (isLook arg1 arg6 k1 X_arg1 X_arg6 k 0 22 _ _ _ _ _ _ (k0_off33_eq k1 k) (k0_off2_eq k 22) (k0_off3_eq k 22)) ?_
  refine .cons (isLook arg1 arg6 k1 X_arg1 X_arg6 k 0 23 _ _ _ _ _ _ (k0_off34_eq k1 k) (k0_off2_eq k 23) (k0_off3_eq k 23)) ?_
  refine .cons (isLook arg1 arg6 k1 X_arg1 X_arg6 k 0 24 _ _ _ _ _ _ (k0_off35_eq k1 k) (k0_off2_eq k 24) (k0_off3_eq k 24)) ?_
  refine .cons (isLook arg1 arg6 k1 X_arg1 X_arg6 k 0 25 _ _ _ _ _ _ (k0_off36_eq k1 k) (k0_off2_eq k 25) (k0_off3_eq k 25)) ?_
  refine .cons (isLook arg1 arg6 k1 X_arg1 X_arg6 k 0 26 _ _ _ _ _ _ (k0_off37_eq k1 k) (k0_off2_eq k 26) (k0_off3_eq k 26)) ?_
  refine .cons (isLook arg1 arg6 k1 X_arg1 X_arg6 k 0 27 _ _ _ _ _ _ (k0_off38_eq k1 k) (k0_off2_eq k 27) (k0_off3_eq k 27)) ?_
  refine .cons (isLook arg1 arg6 k1 X_arg1 X_arg6 k 0 28 _ _ _ _ _ _ (k0_off39_eq k1 k) (k0_off2_eq k 28) (k0_off3_eq k 28)) ?_
  refine .cons (isLook arg1 arg6 k1 X_arg1 X_arg6 k 0 29 _ _ _ _ _ _ (k0_off40_eq k1 k) (k0_off2_eq k 29) (k0_off3_eq k 29)) ?_
  refine .cons (isLook arg1 arg6 k1 X_arg1 X_arg6 k 0 30 _ _ _ _ _ _ (k0_off41_eq k1 k) (k0_off2_eq k 30) (k0_off3_eq k 30)) ?_
  refine .cons (isLook arg1 arg6 k1 X_arg1 X_arg6 k 0 31 _ _ _ _ _ _ (k0_off42_eq k1 k) (k0_off2_eq k 31) (k0_off3_eq k 31)) ?_
  exact .nil

theorem looks1_is : List.Forall₂ (IsLook (F := F) (arg1.view.read (Elt F) X_arg1) (arg6.view.read (Elt F) X_arg6) (c1 k1) (c2 k) 1)
    idx32 (looks1 arg1 arg6 k1 X_arg1 X_arg6 k) := by
  unfold idx32 looks1
  refine .cons (isLook arg1 arg6 k1 X_arg1 X_arg6 k 1 0 _ _ _ _ _ _ (k0_off1_eq k1 k) (k0_off4_eq k 0) (k0_off5_eq k 0)) ?_
  refine .cons (isLook arg1 arg6 k1 X_arg1 X_arg6 k 1 1 _ _ _ _ _ _ (k0_off12_eq k1 k) (k0_off4_eq k 1) (k0_off5_eq k 1)) ?_
  refine .cons (isLook arg1 arg6 k1 X_arg1 X_arg6 k 1 2 _ _ _ _ _ _ (k0_off13_eq k1 k) (k0_off4_eq k 2) (k0_off5_eq k 2)) ?_
  refine .cons (isLook arg1 arg6 k1 X_arg1 X_arg6 k 1 3 _ _ _ _ _ _ (k0_off14_eq k1 k) (k0_off4_eq k 3) (k0_off5_eq k 3)) ?_
  refine .cons (isLook arg1 arg6 k1 X_arg1 X_arg6 k 1 4 _ _ _ _ _ _ (k0_off15_eq k1 k) (k0_off4_eq k 4) (k0_off5_eq k 4)) ?_
  refine .cons (isLook arg1 arg6 k1 X_arg1 X_arg6 k 1 5 _ _ _ _ _ _ (k0_off16_eq k1 k) (k0_off4_eq k 5) (k0_off5_eq k 5)) ?_
  refine .cons (isLook arg1 arg6 k1 X_arg1 X_arg6 k 1 6 _ _ _ _ _ _ (k0_off17_eq k1 k) (k0_off4_eq k 6) (k0_off5_eq k 6)) ?_
  refine .cons (isLook arg1 arg6 k1 X_arg1 X_arg6 k 1 7 _ _ _ _ _ _ (k0_off18_eq k1 k) (k0_off4_eq k 7) (k0_off5_eq k 7)) ?_
  refine .cons (isLook arg1 arg6 k1 X_arg1 X_arg6 k 1 8 _ _ _ _ _ _ (k0_off19_eq k1 k) (k0_off4_eq k 8) (k0_off5_eq k 8)) ?_
  refine .cons (isLook arg1 arg6 k1 X_arg1 X_arg6 k 1 9 _ _ _ _ _ _ (k0_off20_eq k1 k) (k0_off4_eq k 9) (k0_off5_eq k 9)) ?_
  refine .cons (isLook arg1 arg6 k1 X_arg1 X_arg6 k 1 10 _ _ _ _ _ _ (k0_off21_eq k1 k) (k0_off4_eq k 10) (k0_off5_eq k 10)) ?_
  refine .cons (isLook arg1 arg6 k1 X_arg1 X_arg6 k 1 11 _ _ _ _ _ _ (k0_off22_eq k1 k) (k0_off4_eq k 11) (k0_off5_eq k 11)) ?_
  refine .cons (isLook arg1 arg6 k1 X_arg1 X_arg6 k 1 12 _ _ _ _ _ _ (k0_off23_eq k1 k) (k0_off4_eq k 12) (k0_off5_eq k 12)) ?_
  refine .cons (isLook arg1 arg6 k1 X_arg1 X_arg6 k 1 13 _ _ _ _ _ _ (k0_off24_eq k1 k) (k0_off4_eq k 13) (k0_off5_eq k 13)) ?_
  refine .cons (isLook arg1 arg6 k1 X_arg1 X_arg6 k 1 14 _ _ _ _ _ _ (k0_off25_eq k1 k) (k0_off4_eq k 14) (k0_off5_eq k 14)) ?_
  refine .cons (isLook arg1 arg6 k1 X_arg1 X_arg6 k 1 15 _ _ _ _ _ _ (k0_off26_eq k1 k) (k0_off4_eq k 15) (k0_off5_eq k 15)) ?_
  refine .cons (isLook arg1 arg6 k1 X_arg1 X_arg6 k 1 16 _ _ _ _ _ _ (k0_off27_eq k1 k) (k0_off4_eq k 16) (k0_off5_eq k 16)) ?_
  refine .cons (isLook arg1 arg6 k1 X_arg1 X_arg6 k 1 17 _ _ _ _ _ _ (k0_off28_eq k1 k) (k0_off4_eq k 17) (k0_off5_eq k 17)) ?_
  refine .cons (isLook arg1 arg6 k1 X_arg1 X_arg6 k 1 18 _ _ _ _ _ _ (k0_off29_eq k1 k) (k0_off4_eq k 18) (k0_off5_eq k 18)) ?_
  refine .cons (isLook arg1 arg6 k1 X_arg1 X_arg6 k 1 19 _ _ _ _ _ _ (k0_off30_eq k1 k) (k0_off4_eq k 19) (k0_off5_eq k 19)) ?_
  refine .cons (isLook arg1 arg6 k1 X_arg1 X_arg6 k 1 20 _ _ _ _ _ _ (k0_off31_eq k1 k) (k0_off4_eq k 20) (k0_off5_eq k 20)) ?_
  refine .cons (isLook arg1 arg6 k1 X_arg1 X_arg6 k 1 21 _ _ _ _ _ _ (k0_off32_eq k1 k) (k0_off4_eq k 21) (k0_off5_eq k 21)) ?_
  refine .cons (isLook arg1 arg6 k1 X_arg1 X_arg6 k 1 22 _ _ _ _ _ _ (k0_off33_eq k1 k) (k0_off4_eq k 22) (k0_off5_eq k 22)) ?_
  refine .cons (isLook arg1 arg6 k1 X_arg1 X_arg6 k 1 23 _ _ _ _ _ _ (k0_off34_eq k1 k) (k0_off4_eq k 23) (k0_off5_eq k 23)) ?_
  refine .cons (isLook arg1 arg6 k1 X_arg1 X_arg6 k 1 24 _ _ _ _ _ _ (k0_off35_eq k1 k) (k0_off4_eq k 24) (k0_off5_eq k 24)) ?_
  refine .cons (isLook arg1 arg6 k1 X_arg1 X_arg6 k 1 25 _ _ _ _ _ _ (k0_off36_eq k1 k) (k0_off4_eq k 25) (k0_off5_eq k 25)) ?_
  refine .cons (isLook arg1 arg6 k1 X_arg1 X_arg6 k 1 26 _ _ _ _ _ _ (k0_off37_eq k1 k) (k0_off4_eq k 26) (k0_off5_eq k 26)) ?_
  refine .cons (isLook arg1 arg6 k1 X_arg1 X_arg6 k 1 27 _ _ _ _ _ _ (k0_off38_eq k1 k) (k0_off4_eq k 27) (k0_off5_eq k 27)) ?_
  refine .cons (isLook arg1 arg6 k1 X_arg1 X_arg6 k 1 28 _ _ _ _ _ _ (k0_off39_eq k1 k) (k0_off4_eq k 28) (k0_off5_eq k 28)) ?_
  refine .cons (isLook arg1 arg6 k1 X_arg1 X_arg6 k 1 29 _ _ _ _ _ _ (k0_off40_eq k1 k) (k0_off4_eq k 29) (k0_off5_eq k 29)) ?_
  refine .cons (isLook arg1 arg6 k1 X_arg1 X_arg6 k 1 30 _ _ _ _ _ _ (k0_off41_eq k1 k) (k0_off4_eq k 30) (k0_off5_eq k 30)) ?_
  refine .cons (isLook arg1 arg6 k1 X_arg1 X_arg6 k 1 31 _ _ _ _ _ _ (k0_off42_eq k1 k) (k0_off4_eq k 31) (k0_off5_eq k 31)) ?_
  exact .nil

theorem looks2_is : List.Forall₂ (IsLook (F := F) (arg1.view.read (Elt F) X_arg1) (arg6.view.read (Elt F) X_arg6) (c1 k1) (c2 k) 2)
    idx32 (looks2 arg1 arg6 k1 X_arg1 X_arg6 k) := by
  unfold idx32 looks2
  refine .cons (isLook arg1 arg6 k1 X_arg1 X_arg6 k 2 0 _ _ _ _ _ _ (k0_off1_eq k1 k) (k0_off6_eq k 0) (k0_off7_eq k 0)) ?_
  refine .cons (isLook arg1 arg6 k1 X_arg1 X_arg6 k 2 1 _ _ _ _ _ _ (k0_off12_eq k1 k) (k0_off6_eq k 1) (k0_off7_eq k 1)) ?_
  refine .cons (isLook arg1 arg6 k1 X_arg1 X_arg6 k 2 2 _ _ _ _ _ _ (k0_off13_eq k1 k) (k0_off6_eq k 2) (k0_off7_eq k 2)) ?_
  refine .cons (isLook arg1 arg6 k1 X_arg1 X_arg6 k 2 3 _ _ _ _ _ _ (k0_off14_eq k1 k) (k0_off6_eq k 3) (k0_off7_eq k 3)) ?_
  refine .cons (isLook arg1 arg6 k1 X_arg1 X_arg6 k 2 4 _ _ _ _ _ _ (k0_off15_eq k1 k) (k0_off6_eq k 4) (k0_off7_eq k 4)) ?_
  refine .cons (isLook arg1 arg6 k1 X_arg1 X_arg6 k 2 5 _ _ _ _ _ _ (k0_off16_eq k1 k) (k0_off6_eq k 5) (k0_off7_eq k 5)) ?_
  refine .cons (isLook arg1 arg6 k1 X_arg1 X_arg6 k 2 6 _ _ _ _ _ _ (k0_off17_eq k1 k) (k0_off6_eq k 6) (k0_off7_eq k 6)) ?_
  refine .cons (isLook arg1 arg6 k1 X_arg1 X_arg6 k 2 7 _ _ _ _ _ _ (k0_off18_eq k1 k) (k0_off6_eq k 7) (k0_off7_eq k 7)) ?_
  refine .cons (isLook arg1 arg6 k1 X_arg1 X_arg6 k 2 8 _ _ _ _ _ _ (k0_off19_eq k1 k) (k0_off6_eq k 8) (k0_off7_eq k 8)) ?_
  refine .cons (isLook arg1 arg6 k1 X_arg1 X_arg6 k 2 9 _ _ _ _ _ _ (k0_off20_eq k1 k) (k0_off6_eq k 9) (k0_off7_eq k 9)) ?_
  refine .cons (isLook arg1 arg6 k1 X_arg1 X_arg6 k 2 10 _ _ _ _ _ _ (k0_off21_eq k1 k) (k0_off6_eq k 10) (k0_off7_eq k 10)) ?_
  refine .cons (isLook arg1 arg6 k1 X_arg1 X_arg6 k 2 11 _ _ _ _ _ _ (k0_off22_eq k1 k) (k0_off6_eq k 11) (k0_off7_eq k 11)) ?_
  refine .cons (isLook arg1 arg6 k1 X_arg1 X_arg6 k 2 12 _ _ _ _ _ _ (k0_off23_eq k1 k) (k0_off6_eq k 12) (k0_off7_eq k 12)) ?_
  refine .cons (isLook arg1 arg6 k1 X_arg1 X_arg6 k 2 13 _ _ _ _ _ _ (k0_off24_eq k1 k) (k0_off6_eq k 13) (k0_off7_eq k 13)) ?_
  refine .cons (isLook arg1 arg6 k1 X_arg1 X_arg6 k 2 14 _ _ _ _ _ _ (k0_off25_eq k1 k) (k0_off6_eq k 14) (k0_off7_eq k 14)) ?_
  refine .cons (isLook arg1 arg6 k1 X_arg1 X_arg6 k 2 15 _ _ _ _ _ _ (k0_off26_eq k1 k) (k0_off6_eq k 15) (k0_off7_eq k 15)) ?_
  refine .cons (isLook arg1 arg6 k1 X_arg1 X_arg6 k 2 16 _ _ _ _ _ _ (k0_off27_eq k1 k) (k0_off6_eq k 16) (k0_off7_eq k 16)) ?_
  refine .cons (isLook arg1 arg6 k1 X_arg1 X_arg6 k 2 17 _ _ _ _ _ _ (k0_off28_eq k1 k) (k0_off6_eq k 17) (k0_off7_eq k 17)) ?_
  refine .cons (isLook arg1 arg6 k1 X_arg1 X_arg6 k 2 18 _ _ _ _ _ _ (k0_off29_eq k1 k) (k0_off6_eq k 18) (k0_off7_eq k 18)) ?_
  refine .cons (isLook arg1 arg6 k1 X_arg1 X_arg6 k 2 19 _ _ _ _ _ _ (k0_off30_eq k1 k) (k0_off6_eq k 19) (k0_off7_eq k 19)) ?_
  refine .cons (isLook arg1 arg6 k1 X_arg1 X_arg6 k 2 20 _ _ _ _ _ _ (k0_off31_eq k1 k) (k0_off6_eq k 20) (k0_off7_eq k 20)) ?_
  refine .cons (isLook arg1 arg6 k1 X_arg1 X_arg6 k 2 21 _ _ _ _ _ _ (k0_off32_eq k1 k) (k0_off6_eq k 21) (k0_off7_eq k 21)) ?_
  refine .cons (isLook arg1 arg6 k1 X_arg1 X_arg6 k 2 22 _ _ _ _ _ _ (k0_off33_eq k1 k) (k0_off6_eq k 22) (k0_off7_eq k 22)) ?_
  refine .cons (isLook arg1 arg6 k1 X_arg1 X_arg6 k 2 23 _ _ _ _ _ _ (k0_off34_eq k1 k) (k0_off6_eq k 23) (k0_off7_eq k 23)) ?_
  refine .cons (isLook arg1 arg6 k1 X_arg1 X_arg6 k 2 24 _ _ _ _ _ _ (k0_off35_eq k1 k) (k0_off6_eq k 24) (k0_off7_eq k 24)) ?_
  refine .cons (isLook arg1 arg6 k1 X_arg1 X_arg6 k 2 25 _ _ _ _ _ _ (k0_off36_eq k1 k) (k0_off6_eq k 25) (k0_off7_eq k 25)) ?_
  refine .cons (isLook arg1 arg6 k1 X_arg1 X_arg6 k 2 26 _ _ _ _ _ _ (k0_off37_eq k1 k) (k0_off6_eq k 26) (k0_off7_eq k 26)) ?_
  refine .cons (isLook arg1 arg6 k1 X_arg1 X_arg6 k 2 27 _ _ _ _ _ _ (k0_off38_eq k1 k) (k0_off6_eq k 27) (k0_off7_eq k 27)) ?_
  refine .cons (isLook arg1 arg6 k1 X_arg1 X_arg6 k 2 28 _ _ _ _ _ _ (k0_off39_eq k1 k) (k0_off6_eq k 28) (k0_off7_eq k 28)) ?_
  refine .cons (isLook arg1 arg6 k1 X_arg1 X_arg6 k 2 29 _ _ _ _ _ _ (k0_off40_eq k1 k) (k0_off6_eq k 29) (k0_off7_eq k 29)) ?_
  refine .cons (isLook arg1 arg6 k1 X_arg1 X_arg6 k 2 30 _ _ _ _ _ _ (k0_off41_eq k1 k) (k0_off6_eq k 30) (k0_off7_eq k 30)) ?_
  refine .cons (isLook arg1 arg6 k1 X_arg1 X_arg6 k 2 31 _ _ _ _ _ _ (k0_off42_eq k1 k) (k0_off6_eq k 31) (k0_off7_eq k 31)) ?_
  exact .nil

theorem looks3_is : List.Forall₂ (IsLook (F := F) (arg1.view.read (Elt F) X_arg1) (arg6.view.read (Elt F) X_arg6) (c1 k1) (c2 k) 3)
    idx32 (looks3 arg1 arg6 k1 X_arg1 X_arg6 k) := by
  unfold idx32 looks3
  refine .cons (isLook arg1 arg6 k1 X_arg1 X_arg6 k 3 0 _ _ _ _ _ _ (k0_off1_eq k1 k) (k0_off8_eq k 0) (k0_off9_eq k 0)) ?_
  refine .cons (isLook arg1 arg6 k1 X_arg1 X_arg6 k 3 1 _ _ _ _ _ _ (k0_off12_eq k1 k) (k0_off8_eq k 1) (k0_off9_eq k 1)) ?_
  refine .cons (isLook arg1 arg6 k1 X_arg1 X_arg6 k 3 2 _ _ _ _ _ _ (k0_off13_eq k1 k) (k0_off8_eq k 2) (k0_off9_eq k 2)) ?_
  refine .cons (isLook arg1 arg6 k1 X_arg1 X_arg6 k 3 3 _ _ _ _ _ _ (k0_off14_eq k1 k) (k0_off8_eq k 3) (k0_off9_eq k 3)) ?_
  refine .cons (isLook arg1 arg6 k1 X_arg1 X_arg6 k 3 4 _ _ _ _ _ _ (k0_off15_eq k1 k) (k0_off8_eq k 4) (k0_off9_eq k 4)) ?_
  refine .cons (isLook arg1 arg6 k1 X_arg1 X_arg6 k 3 5 _ _ _ _ _ _ (k0_off16_eq k1 k) (k0_off8_eq k 5) (k0_off9_eq k 5)) ?_
  refine .cons (isLook arg1 arg6 k1 X_arg1 X_arg6 k 3 6 _ _ _ _ _ _ (k0_off17_eq k1 k) (k0_off8_eq k 6) (k0_off9_eq k 6)) ?_
  refine .cons (isLook arg1 arg6 k1 X_arg1 X_arg6 k 3 7 _ _ _ _ _ _ (k0_off18_eq k1 k) (k0_off8_eq k 7) (k0_off9_eq k 7)) ?_
  refine .cons (isLook arg1 arg6 k1 X_arg1 X_arg6 k 3 8 _ _ _ _ _ _ (k0_off19_eq k1 k) (k0_off8_eq k 8) (k0_off9_eq k 8)) ?_
  refine .cons (isLook arg1 arg6 k1 X_arg1 X_arg6 k 3 9 _ _ _ _ _ _ (k0_off20_eq k1 k) (k0_off8_eq k 9) (k0_off9_eq k 9)) ?_
  refine .cons (isLook arg1 arg6 k1 X_arg1 X_arg6 k 3 10 _ _ _ _ _ _ (k0_off21_eq k1 k) (k0_off8_eq k 10) (k0_off9_eq k 10)) ?_
  refine .cons (isLook arg1 arg6 k1 X_arg1 X_arg6 k 3 11 _ _ _ _ _ _ (k0_off22_eq k1 k) (k0_off8_eq k 11) (k0_off9_eq k 11)) ?_
  refine .cons (isLook arg1 arg6 k1 X_arg1 X_arg6 k 3 12 _ _ _ _ _ _ (k0_off23_eq k1 k) (k0_off8_eq k 12) (k0_off9_eq k 12)) ?_
  refine .cons (isLook arg1 arg6 k1 X_arg1 X_arg6 k 3 13 _ _ _ _ _ _ (k0_off24_eq k1 k) (k0_off8_eq k 13) (k0_off9_eq k 13)) ?_
  refine .cons (isLook arg1 arg6 k1 X_arg1 X_arg6 k 3 14 _ _ _ _ _ _ (k0_off25_eq k1 k) (k0_off8_eq k 14) (k0_off9_eq k 14)) ?_
  refine .cons (isLook arg1 arg6 k1 X_arg1 X_arg6 k 3 15 _ _ _ _ _ _ (k0_off26_eq k1 k) (k0_off8_eq k 15) (k0_off9_eq k 15)) ?_
  refine .cons (isLook arg1 arg6 k1 X_arg1 X_arg6 k 3 16 _ _ _ _ _ _ (k0_off27_eq k1 k) (k0_off8_eq k 16) (k0_off9_eq k 16)) ?_
  refine .cons (isLook arg1 arg6 k1 X_arg1 X_arg6 k 3 17 _ _ _ _ _ _ (k0_off28_eq k1 k) (k0_off8_eq k 17) (k0_off9_eq k 17)) ?_
  refine .cons (isLook arg1 arg6 k1 X_arg1 X_arg6 k 3 18 _ _ _ _ _ _ (k0_off29_eq k1 k) (k0_off8_eq k 18) (k0_off9_eq k 18)) ?_
  refine .cons (isLook arg1 arg6 k1 X_arg1 X_arg6 k 3 19 _ _ _ _ _ _ (k0_off30_eq k1 k) (k0_off8_eq k 19) (k0_off9_eq k 19)) ?_
  refine .cons (isLook arg1 arg6 k1 X_arg1 X_arg6 k 3 20 _ _ _ _ _ _ (k0_off31_eq k1 k) (k0_off8_eq k 20) (k0_off9_eq k 20)) ?_
  refine .cons (isLook arg1 arg6 k1 X_arg1 X_arg6 k 3 21 _ _ _ _ _ _ (k0_off32_eq k1 k) (k0_off8_eq k 21) (k0_off9_eq k 21)) ?_
  refine .cons (isLook arg1 arg6 k1 X_arg1 X_arg6 k 3 22 _ _ _ _ _ _ (k0_off33_eq k1 k) (k0_off8_eq k 22) (k0_off9_eq k 22)) ?_
  refine .cons (isLook arg1 arg6 k1 X_arg1 X_arg6 k 3 23 _ _ _ _ _ _ (k0_off34_eq k1 k) (k0_off8_eq k 23) (k0_off9_eq k 23)) ?_
  refine .cons (isLook arg1 arg6 k1 X_arg1 X_arg6 k 3 24 _ _ _ _ _ _ (k0_off35_eq k1 k) (k0_off8_eq k 24) (k0_off9_eq k 24)) ?_
  refine .cons (isLook arg1 arg6 k1 X_arg1 X_arg6 k 3 25 _ _ _ _ _ _ (k0_off36_eq k1 k) (k0_off8_eq k 25) (k0_off9_eq k 25)) ?_
  refine .cons (isLook arg1 arg6 k1 X_arg1 X_arg6 k 3 26 _ _ _ _ _ _ (k0_off37_eq k1 k) (k0_off8_eq k 26) (k0_off9_eq k 26)) ?_
  refine .cons (isLook arg1 arg6 k1 X_arg1 X_arg6 k 3 27 _ _ _ _ _ _ (k0_off38_eq k1 k) (k0_off8_eq k 27) (k0_off9_eq k 27)) ?_
  refine .cons (isLook arg1 arg6 k1 X_arg1 X_arg6 k 3 28 _ _ _ _ _ _ (k0_off39_eq k1 k) (k0_off8_eq k 28) (k0_off9_eq k 28)) ?_
  refine .cons (isLook arg1 arg6 k1 X_arg1 X_arg6 k 3 29 _ _ _ _ _ _ (k0_off40_eq k1 k) (k0_off8_eq k 29) (k0_off9_eq k 29)) ?_
  refine .cons (isLook arg1 arg6 k1 X_arg1 X_arg6 k 3 30 _ _ _ _ _ _ (k0_off41_eq k1 k) (k0_off8_eq k 30) (k0_off9_eq k 30)) ?_
  refine .cons (isLook arg1 arg6 k1 X_arg1 X_arg6 k 3 31 _ _ _ _ _ _ (k0_off42_eq k1 k) (k0_off8_eq k 31) (k0_off9_eq k 31)) ?_
  exact .nil

theorem looks4_is : List.Forall₂ (IsLook (F := F) (arg1.view.read (Elt F) X_arg1) (arg6.view.read (Elt F) X_arg6) (c1 k1) (c2 k) 4)
    idx32 (looks4 arg1 arg6 k1 X_arg1 X_arg6 k) := by
  unfold idx32 looks4
  refine .cons (isLook arg1 arg6 k1 X_arg1 X_arg6 k 4 0 _ _ _ _ _ _ (k0_off1_eq k1 k) (k0_off10_eq k 0) (k0_off11_eq k 0)) ?_
  refine .cons (isLook arg1 arg6 k1 X_arg1 X_arg6 k 4 1 _ _ _ _ _ _ (k0_off12_eq k1 k) (k0_off10_eq k 1) (k0_off11_eq k 1)) ?_
  refine .cons (isLook arg1 arg6 k1 X_arg1 X_arg6 k 4 2 _ _ _ _ _ _ (k0_off13_eq k1 k) (k0_off10_eq k 2) (k0_off11_eq k 2)) ?_
  refine .cons (isLook arg1 arg6 k1 X_arg1 X_arg6 k 4 3 _ _ _ _ _ _ (k0_off14_eq k1 k) (k0_off10_eq k 3) (k0_off11_eq k 3)) ?_
  refine .cons (isLook arg1 arg6 k1 X_arg1 X_arg6 k 4 4 _ _ _ _ _ _ (k0_off15_eq k1 k) (k0_off10_eq k 4) (k0_off11_eq k 4)) ?_
  refine .cons (isLook arg1 arg6 k1 X_arg1 X_arg6 k 4 5 _ _ _ _ _ _ (k0_off16_eq k1 k) (k0_off10_eq k 5) (k0_off11_eq k 5)) ?_
  refine .cons (isLook arg1 arg6 k1 X_arg1 X_arg6 k 4 6 _ _ _ _ _ _ (k0_off17_eq k1 k) (k0_off10_eq k 6) (k0_off11_eq k 6)) ?_
  refine .cons (isLook arg1 arg6 k1 X_arg1 X_arg6 k 4 7 _ _ _ _ _ _ (k0_off18_eq k1 k) (k0_off10_eq k 7) (k0_off11_eq k 7)) ?_
  refine .cons (isLook arg1 arg6 k1 X_arg1 X_arg6 k 4 8 _ _ _ _ _ _ (k0_off19_eq k1 k) (k0_off10_eq k 8) (k0_off11_eq k 8)) ?_
  refine .cons (isLook arg1 arg6 k1 X_arg1 X_arg6 k 4 9 _ _ _ _ _ _ (k0_off20_eq k1 k) (k0_off10_eq k 9) (k0_off11_eq k 9)) ?_
  refine .cons (isLook arg1 arg6 k1 X_arg1 X_arg6 k 4 10 _ _ _ _ _ _ (k0_off21_eq k1 k) (k0_off10_eq k 10) (k0_off11_eq k 10)) ?_
  refine .cons (isLook arg1 arg6 k1 X_arg1 X_arg6 k 4 11 _ _ _ _ _ _ (k0_off22_eq k1 k) (k0_off10_eq k 11) (k0_off11_eq k 11)) ?_
  refine .cons (isLook arg1 arg6 k1 X_arg1 X_arg6 k 4 12 _ _ _ _ _ _ (k0_off23_eq k1 k) (k0_off10_eq k 12) (k0_off11_eq k 12)) ?_
  refine .cons (isLook arg1 arg6 k1 X_arg1 X_arg6 k 4 13 _ _ _ _ _ _ (k0_off24_eq k1 k) (k0_off10_eq k 13) (k0_off11_eq k 13)) ?_
  refine .cons (isLook arg1 arg6 k1 X_arg1 X_arg6 k 4 14 _ _ _ _ _ _ (k0_off25_eq k1 k) (k0_off10_eq k 14) (k0_off11_eq k 14)) ?_
  refine .cons (isLook arg1 arg6 k1 X_arg1 X_arg6 k 4 15 _ _ _ _ _ _ (k0_off26_eq k1 k) (k0_off10_eq k 15) (k0_off11_eq k 15)) ?_
  refine .cons (isLook arg1 arg6 k1 X_arg1 X_arg6 k 4 16 _ _ _ _ _ _ (k0_off27_eq k1 k) (k0_off10_eq k 16) (k0_off11_eq k 16)) ?_
  refine .cons (isLook arg1 arg6 k1 X_arg1 X_arg6 k 4 17 _ _ _ _ _ _ (k0_off28_eq k1 k) (k0_off10_eq k 17) (k0_off11_eq k 17)) ?_
  refine .cons (isLook arg1 arg6 k1 X_arg1 X_arg6 k 4 18 _ _ _ _ _ _ (k0_off29_eq k1 k) (k0_off10_eq k 18) (k0_off11_eq k 18)) ?_
  refine .cons (isLook arg1 arg6 k1 X_arg1 X_arg6 k 4 19 _ _ _ _ _ _ (k0_off30_eq k1 k) (k0_off10_eq k 19) (k0_off11_eq k 19)) ?_
  refine .cons (isLook arg1 arg6 k1 X_arg1 X_arg6 k 4 20 _ _ _ _ _ _ (k0_off31_eq k1 k) (k0_off10_eq k 20) (k0_off11_eq k 20)) ?_
  refine .cons (isLook arg1 arg6 k1 X_arg1 X_arg6 k 4 21 _ _ _ _ _ _ (k0_off32_eq k1 k) (k0_off10_eq k 21) (k0_off11_eq k 21)) ?_
  refine .cons (isLook arg1 arg6 k1 X_arg1 X_arg6 k 4 22 _ _ _ _ _ _ (k0_off33_eq k1 k) (k0_off10_eq k 22) (k0_off11_eq k 22)) ?_
  refine .cons (isLook arg1 arg6 k1 X_arg1 X_arg6 k 4 23 _ _ _ _ _ _ (k0_off34_eq k1 k) (k0_off10_eq k 23) (k0_off11_eq k 23)) ?_
  refine .cons (isLook arg1 arg6 k1 X_arg1 X_arg6 k 4 24 _ _ _ _ _ _ (k0_off35_eq k1 k) (k0_off10_eq k 24) (k0_off11_eq k 24)) ?_
  refine .cons (isLook arg1 arg6 k1 X_arg1 X_arg6 k 4 25 _ _ _ _ _ _ (k0_off36_eq k1 k) (k0_off10_eq k 25) (k0_off11_eq k 25)) ?_
  refine .cons (isLook arg1 arg6 k1 X_arg1 X_arg6 k 4 26 _ _ _ _ _ _ (k0_off37_eq k1 k) (k0_off10_eq k 26) (k0_off11_eq k 26)) ?_
  refine .cons (isLook arg1 arg6 k1 X_arg1 X_arg6 k 4 27 _ _ _ _ _ _ (k0_off38_eq k1 k) (k0_off10_eq k 27) (k0_off11_eq k 27)) ?_
  refine .cons (isLook arg1 arg6 k1 X_arg1 X_arg6 k 4 28 _ _ _ _ _ _ (k0_off39_eq k1 k) (k0_off10_eq k 28) (k0_off11_eq k 28)) ?_
  refine .cons (isLook arg1 arg6 k1 X_arg1 X_arg6 k 4 29 _ _ _ _ _ _ (k0_off40_eq k1 k) (k0_off10_eq k 29) (k0_off11_eq k 29)) ?_
  refine .cons (isLook arg1 arg6 k1 X_arg1 X_arg6 k 4 30 _ _ _ _ _ _ (k0_off41_eq k1 k) (k0_off10_eq k 30) (k0_off11_eq k 30)) ?_
  refine .cons (isLook arg1 arg6 k1 X_arg1 X_arg6 k 4 31 _ _ _ _ _ _ (k0_off42_eq k1 k) (k0_off10_eq k 31) (k0_off11_eq k 31)) ?_
  exact .nil

end

/-- A look-up's word, by the tables and the scratch. -/
theorem IsLook.found_eq {W : S128x2x40x128.Idx → BitVec 32} {D : S4x4x32x128.Idx → BitVec 32} {k1 k : Fin 4} {g : Fin 5}
    {u : Fin 32} {s : Look F} (h : IsLook W D k1 k g u s) (r : Fin 8) (l : Fin 128) (hd : (D (ix4 k1 k u l)).toNat < 256) :
    found s r l = wordOf W ⟨32 * k.val + u.val, by omega⟩ ⟨8 * g.val + r.val, by omega⟩ (D (ix4 k1 k u l)) := by
  unfold found wordOf
  rw [h.upper, h.lower]
  simp only [h.code l]
  by_cases h2 : 128 ≤ (D (ix4 k1 k u l)).toNat
  · rw [if_pos h2]
    congr 2
    exact Fin.ext (by show 1 = (D (ix4 k1 k u l)).toNat / 128 % 2; omega)
  · rw [if_neg h2]
    congr 2
    exact Fin.ext (by show 0 = (D (ix4 k1 k u l)).toNat / 128 % 2; omega)

/-- The word found for sub-space `m` in row `q` and lane `l` of column block `k1`. -/
def laneWord (W : S128x2x40x128.Idx → BitVec 32) (D : S4x4x32x128.Idx → BitVec 32) (k1 : Fin 4) (q : Fin 40) (l : Fin 128)
    (m : Fin 128) : BitVec 32 :=
  wordOf W m q (D (ix4 k1 ⟨m.val / 32, by omega⟩ ⟨m.val % 32, by omega⟩ l))

/-- The sub-spaces of trip `k`. -/
def chunk (k : Fin 4) : List (Fin 128) := idx32.map fun u => ⟨32 * k.val + u.val, by omega⟩

theorem chunks : chunk 0 ++ chunk 1 ++ chunk 2 ++ chunk 3 = List.finRange 128 := by decide

theorem laneWord_chunk (W : S128x2x40x128.Idx → BitVec 32) (D : S4x4x32x128.Idx → BitVec 32) (k1 k : Fin 4) (q : Fin 40)
    (l : Fin 128) (u : Fin 32) :
    laneWord W D k1 q l ⟨32 * k.val + u.val, by omega⟩ = wordOf W ⟨32 * k.val + u.val, by omega⟩ q (D (ix4 k1 k u l)) := by
  unfold laneWord
  congr 3
  · exact Fin.ext (by show (32 * k.val + u.val) / 32 = k.val; omega)
  · exact Fin.ext (by show (32 * k.val + u.val) % 32 = u.val; omega)

/-- A trip's even sums in one lane: a fold over its 32 sub-spaces. -/
theorem fold_even {W : S128x2x40x128.Idx → BitVec 32} {D : S4x4x32x128.Idx → BitVec 32} {k1 k : Fin 4} {g : Fin 5} (r : Fin 8)
    (l : Fin 128) (hd : ∀ i, (D i).toNat < 256) {us : List (Fin 32)} {ss : List (Look F)}
    (h : List.Forall₂ (IsLook W D k1 k g) us ss) (a : IVec S8x128 32) :
    ss.foldl evenStep a (ix2 r l) = (us.map fun u : Fin 32 => (⟨32 * k.val + u.val, by omega⟩ : Fin 128)).foldl
      (fun b m => b + (laneWord W D k1 ⟨8 * g.val + r.val, by omega⟩ l m &&& 16711935#32)) (a (ix2 r l)) := by
  induction h generalizing a with
  | nil => rfl
  | @cons u s us ss hs _ ih =>
    rw [List.foldl_cons, List.map_cons, List.foldl_cons, ih,
      evenStep_apply a s r l (by rw [hs.code l]; exact hd _), hs.found_eq r l (hd _), laneWord_chunk]

/-- A trip's rest sums in one lane: a fold over its 32 sub-spaces. -/
theorem fold_rest {W : S128x2x40x128.Idx → BitVec 32} {D : S4x4x32x128.Idx → BitVec 32} {k1 k : Fin 4} {g : Fin 5} (r : Fin 8)
    (l : Fin 128) (hd : ∀ i, (D i).toNat < 256) {us : List (Fin 32)} {ss : List (Look F)}
    (h : List.Forall₂ (IsLook W D k1 k g) us ss) (a : IVec S8x128 32) :
    ss.foldl restStep a (ix2 r l) = (us.map fun u : Fin 32 => (⟨32 * k.val + u.val, by omega⟩ : Fin 128)).foldl
      (fun b m => b + (laneWord W D k1 ⟨8 * g.val + r.val, by omega⟩ l m) >>> 8) (a (ix2 r l)) := by
  induction h generalizing a with
  | nil => rfl
  | @cons u s us ss hs _ ih =>
    rw [List.foldl_cons, List.map_cons, List.foldl_cons, ih,
      restStep_apply a s r l (by rw [hs.code l]; exact hd _), hs.found_eq r l (hd _), laneWord_chunk]

end Cert.ScanIdeal.Value
end
end
-- ==== Proof.ScanIdealSums.lean ====
module
public import proofs.«01_k».proof.Proof.ScanIdealLane
/-!
# The inner loop's sums

After its four trips the inner loop holds, in every lane, the even-byte sum and the shifted-word sum of
the words found for all 128 sub-spaces.
-/
@[expose] public section
set_option maxRecDepth 16384
noncomputable section
open Idealize.ShloMosaic Cert.ScanIdeal Cert.ScanIdeal.Gen Cert.ScanIdeal.Run
namespace Cert.ScanIdeal.Value
variable {F : FTy → Type} [FloatOps F]

/-- The accumulators start at zero. -/
theorem pay6_apply (r : Fin 8) (l : Fin 128) : (k0_pay6 : IVec S8x128 32) (ix2 r l) = 0#32 := by
  pointwise [k0_pay6]

theorem st_even0 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).1 (ix2 r l)
      = Packed.evenAcc (laneWord (arg1.view.read (Elt F) X_arg1) (arg6.view.read (Elt F) X_arg6) (c1 k0_t1) ⟨8 * 0 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).1 (ix2 r l)) := fun k => by
    rw [st_k0_t2_succ, trip_even0]
    exact fold_even (g := 0) r l hd (looks0_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_even1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.1 (ix2 r l)
      = Packed.evenAcc (laneWord (arg1.view.read (Elt F) X_arg1) (arg6.view.read (Elt F) X_arg6) (c1 k0_t1) ⟨8 * 1 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.1 (ix2 r l)) := fun k => by
    rw [st_k0_t2_succ, trip_even1]
    exact fold_even (g := 1) r l hd (looks1_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_even2 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.1 (ix2 r l)
      = Packed.evenAcc (laneWord (arg1.view.read (Elt F) X_arg1) (arg6.view.read (Elt F) X_arg6) (c1 k0_t1) ⟨8 * 2 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.1 (ix2 r l)) := fun k => by
    rw [st_k0_t2_succ, trip_even2]
    exact fold_even (g := 2) r l hd (looks2_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_even3 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.1 (ix2 r l)
      = Packed.evenAcc (laneWord (arg1.view.read (Elt F) X_arg1) (arg6.view.read (Elt F) X_arg6) (c1 k0_t1) ⟨8 * 3 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.1 (ix2 r l)) := fun k => by
    rw [st_k0_t2_succ, trip_even3]
    exact fold_even (g := 3) r l hd (looks3_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_even4 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.2.1 (ix2 r l)
      = Packed.evenAcc (laneWord (arg1.view.read (Elt F) X_arg1) (arg6.view.read (Elt F) X_arg6) (c1 k0_t1) ⟨8 * 4 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.2.1 (ix2 r l)) := fun k => by
    rw [st_k0_t2_succ, trip_even4]
    exact fold_even (g := 4) r l hd (looks4_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_rest0 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.2.2.1 (ix2 r l)
      = Packed.restAcc (laneWord (arg1.view.read (Elt F) X_arg1) (arg6.view.read (Elt F) X_arg6) (c1 k0_t1) ⟨8 * 0 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.2.2.1 (ix2 r l)) := fun k => by
    rw [st_k0_t2_succ, trip_rest0]
    exact fold_rest (g := 0) r l hd (looks0_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_rest1 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.2.2.2.1 (ix2 r l)
      = Packed.restAcc (laneWord (arg1.view.read (Elt F) X_arg1) (arg6.view.read (Elt F) X_arg6) (c1 k0_t1) ⟨8 * 1 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.2.2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.2.2.2.1 (ix2 r l)) := fun k => by
    rw [st_k0_t2_succ, trip_rest1]
    exact fold_rest (g := 1) r l hd (looks1_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_rest2 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.2.2.2.2.1 (ix2 r l)
      = Packed.restAcc (laneWord (arg1.view.read (Elt F) X_arg1) (arg6.view.read (Elt F) X_arg6) (c1 k0_t1) ⟨8 * 2 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.2.2.2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.2.2.2.2.1 (ix2 r l)) := fun k => by
    rw [st_k0_t2_succ, trip_rest2]
    exact fold_rest (g := 2) r l hd (looks2_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_rest3 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.2.2.2.2.2.1 (ix2 r l)
      = Packed.restAcc (laneWord (arg1.view.read (Elt F) X_arg1) (arg6.view.read (Elt F) X_arg6) (c1 k0_t1) ⟨8 * 3 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.2.2.2.2.2.1 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.2.2.2.2.2.1 (ix2 r l)) := fun k => by
    rw [st_k0_t2_succ, trip_rest3]
    exact fold_rest (g := 3) r l hd (looks3_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

theorem st_rest4 (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (v23 : IVec S8x128 32) (c0_i32_14 : BitVec 32) (c1_i32 : BitVec 32) (k0_t1 : Fin k0_t1_loop.trips) (arg7 : BitVec 32) (X_arg1 : BufTy.Contents (Elt F) arg1.view.ty) (X_arg6 : BufTy.Contents (Elt F) arg6.view.ty) (r : Fin 8) (l : Fin 128)
    (hd : ∀ i, (arg6.view.read (Elt F) X_arg6 i : BitVec 32).toNat < 256) :
    (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (Scf.trips 0#32 (Scalar.addi 0#32 4#32) 1#32)).2.2.2.2.2.2.2.2.2 (ix2 r l)
      = Packed.restAcc (laneWord (arg1.view.read (Elt F) X_arg1) (arg6.view.read (Elt F) X_arg6) (c1 k0_t1) ⟨8 * 4 + r.val, by omega⟩ l) (List.finRange 128) := by
  have step : ∀ (k : Fin k0_t2_loop.trips), (st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) (k.val + 1)).2.2.2.2.2.2.2.2.2 (ix2 r l)
      = (chunk (c2 k)).foldl _ ((st_k0_t2 (F := F) 𝒱 c bd i arg1 harg1 arg2 harg2 arg3 harg3 arg4 harg4 arg5 harg5 arg6 harg6 v23 c0_i32_14 c1_i32 k0_t1 arg7 X_arg1 X_arg6 (k0_pay6, k0_pay6, k0_pay6, k0_pay6, k0_pay6, k0_pay6, k0_pay6, k0_pay6, k0_pay6, k0_pay6) k.val).2.2.2.2.2.2.2.2.2 (ix2 r l)) := fun k => by
    rw [st_k0_t2_succ, trip_rest4]
    exact fold_rest (g := 4) r l hd (looks4_is arg1 arg6 k0_t1 X_arg1 X_arg6 k) _
  have e : Scf.trips 0#32 (Scalar.addi 0#32 4#32) 1#32 = 4 := by decide
  rw [e]
  rw [step ⟨3, by decide⟩, step ⟨2, by decide⟩, step ⟨1, by decide⟩, step ⟨0, by decide⟩]
  rw [st_k0_t2_zero, ← List.foldl_append, ← List.foldl_append, ← List.foldl_append]
  show List.foldl _ ((k0_pay6 : IVec S8x128 32) (ix2 r l)) (((chunk 0 ++ chunk 1) ++ chunk 2) ++ chunk 3) = _
  rw [chunks, pay6_apply]
  rfl

end Cert.ScanIdeal.Value
end
end
-- ==== Proof.ScanIdealTiles.lean ====
module
public import proofs.«01_k».proof.Proof.ScanIdealSums
public import Idealize.ShloMosaic.Lib.Pipeline.ReadBack
/-!
# What one trip of the outer loop stores

A trip of the outer loop stores twenty tiles of 8 by 128 scores: for each of five row groups and each of
the four bytes of a word, `bf16 (delta * total + tsum)`, where `total` is the sum over all sub-spaces of
that byte of the words found. All twenty are tiles of one function of the output index.
-/
@[expose] public section
set_option maxRecDepth 16384
noncomputable section
open Idealize.ShloMosaic Cert.ScanIdeal Cert.ScanIdeal.Gen Cert.ScanIdeal.Run
namespace Cert.ScanIdeal.Value
variable {F : FTy → Type} [FloatOps F]

/-- Every piece of the list is a block of `G`. -/
def Blocks (G : S160x512.Idx → F .bf16) (L : List (View.Piece (Elt F) S160x512 .bf16)) : Prop :=
  ∀ p ∈ L, ∀ x : p.1.shape.Idx, p.2 x = G (p.1.emb x)
theorem Blocks.nil {G : S160x512.Idx → F .bf16} : Blocks G [] := fun p hp => absurd hp List.not_mem_nil
theorem Blocks.cons {G : S160x512.Idx → F .bf16} {r : Rect S160x512} {w : r.shape.Idx → F .bf16} {L : List (View.Piece (Elt F) S160x512 .bf16)}
    (h : ∀ x : r.shape.Idx, w x = G (r.emb x)) (hL : Blocks G L) : Blocks G (⟨r, w⟩ :: L) := fun p hp x => by
  rcases List.mem_cons.mp hp with rfl | hp
  · exact h x
  · exact hL p hp x

/-- A score from a scale, a sum of codes and an offset. -/
def score (d : F .f32) (n : BitVec 32) (t : F .f32) : F .bf16 :=
  FloatOps.truncf .bf16 bitsLt_bf16_f32 (FloatOps.addf (FloatOps.mulf d (FloatOps.sitofp .f32 n)) t)

/-- The score of row `q` and column `n` of a block, from the packed tables `W`, the codes `D`, the scales `d` and the
offsets `t`: row `q` is byte `q / 40` of the words' row `q % 40`, column `n` is lane `n % 128` of column block `n / 128`. -/
def outAt (W : S128x2x40x128.Idx → BitVec 32) (D : S4x4x32x128.Idx → BitVec 32) (d t : S160x128.Idx → F .f32)
    (q : Fin 160) (n : Fin 512) : F .bf16 :=
  score (d (ix2 q ⟨n.val % 128, Nat.mod_lt _ (by decide)⟩))
    (BitVec.ofNat 32 (Packed.total (laneWord W D ⟨n.val / 128, by omega⟩
      ⟨q.val % 40, Nat.mod_lt _ (by decide)⟩ ⟨n.val % 128, Nat.mod_lt _ (by decide)⟩) (List.finRange 128) (q.val / 40)))
    (t (ix2 q ⟨n.val % 128, Nat.mod_lt _ (by decide)⟩))

/-- The block of scores. -/
def outVal (W : S128x2x40x128.Idx → BitVec 32) (D : S4x4x32x128.Idx → BitVec 32) (d t : S160x128.Idx → F .f32)
    (y : S160x512.Idx) : F .bf16 := outAt W D d t (y 0) (y 1)

/-- A score at the coordinates of byte `j`, row group `g` and column block `k1`. -/
theorem outAt_at (W : S128x2x40x128.Idx → BitVec 32) (D : S4x4x32x128.Idx → BitVec 32) (d t : S160x128.Idx → F .f32)
    (j : Fin 4) (g : Fin 5) (k1 : Fin 4) (r : Fin 8) (l : Fin 128) :
    outAt W D d t ⟨40 * j.val + 8 * g.val + r.val, by omega⟩ ⟨128 * k1.val + l.val, by omega⟩
      = score (d (ix2 ⟨40 * j.val + 8 * g.val + r.val, by omega⟩ l))
          (BitVec.ofNat 32 (Packed.total (laneWord W D k1 ⟨8 * g.val + r.val, by omega⟩ l) (List.finRange 128) j.val))
          (t (ix2 ⟨40 * j.val + 8 * g.val + r.val, by omega⟩ l)) := by
  have e1 : (⟨(128 * k1.val + l.val) % 128, Nat.mod_lt _ (by decide)⟩ : Fin 128) = l := Fin.ext (by show _ % 128 = _; omega)
  have e2 : (⟨(128 * k1.val + l.val) / 128, by omega⟩ : Fin 4) = k1 := Fin.ext (by show _ / 128 = _; omega)
  have e3 : (⟨(40 * j.val + 8 * g.val + r.val) % 40, Nat.mod_lt _ (by decide)⟩ : Fin 40) = ⟨8 * g.val + r.val, by omega⟩ :=
    Fin.ext (by show (40 * j.val + 8 * g.val + r.val) % 40 = 8 * g.val + r.val; omega)
  have e4 : (40 * j.val + 8 * g.val + r.val) / 40 = j.val := by omega
  unfold outAt
  simp only [e1, e2, e3, e4]

/-- Eight rows of a scale or offset array. -/
def rowsAt (v : Memref sig .tc .vmem S160x128 .f32) (X : BufTy.Contents (Elt F) v.view.ty) (off : Fin 2 → ℕ)
    (h : ∀ a, off a + S8x128.size a ≤ S160x128.size a) : Vec F S8x128 .f32 :=
  View.readAt (Elt F) v.view (Rect.unit (s := S160x128) off S8x128.size h).toLoadRect X

theorem rowsAt_apply (v : Memref sig .tc .vmem S160x128 .f32) (X : BufTy.Contents (Elt F) v.view.ty) (o : ℕ)
    (h : ∀ a, (![o, 0] : Fin 2 → ℕ) a + S8x128.size a ≤ S160x128.size a) (ho : o + 8 ≤ 160) (r : Fin 8) (l : Fin 128) :
    rowsAt v X ![o, 0] h (ix2 r l) = v.view.read (Elt F) X (ix2 ⟨o + r.val, by omega⟩ l) := by
  unfold rowsAt
  rw [View.readAt_apply]
  congr 1
  funext a
  apply Fin.ext
  fin_cases a <;> simp [Rect.unit, LoadRect.idx, Rect.toLoadRect, Shape.Idx.norm, ix2]

/-- The tile of byte 0. -/
def tile0 (E _R : IVec S8x128 32) (d t : Vec F S8x128 .f32) : Vec F S8x128 .bf16 := k0_pay759 E d t
/-- The tile of byte 1. -/
def tile1 (E R : IVec S8x128 32) (d t : Vec F S8x128 .f32) : Vec F S8x128 .bf16 := k0_pay760 E R d t
/-- The tile of byte 2. -/
def tile2 (E _R : IVec S8x128 32) (d t : Vec F S8x128 .f32) : Vec F S8x128 .bf16 := k0_pay763 (k0_pay756 E) d t
/-- The tile of byte 3. -/
def tile3 (E R : IVec S8x128 32) (d t : Vec F S8x128 .f32) : Vec F S8x128 .bf16 := k0_pay763 (k0_pay758 E R) d t

theorem shru_const (x : BitVec 32) (n : ℕ) (h : n < 32) : IntOp.shrui .vector x (BitVec.ofNat 32 n) = x >>> n := by
  have hn : (BitVec.ofNat 32 n).toNat = n := by rw [BitVec.toNat_ofNat]; exact Nat.mod_eq_of_lt (by omega)
  unfold IntOp.shrui
  rw [if_pos (by rw [hn]; exact h), BitVec.ushiftRight_eq', hn]
theorem shl_const (x : BitVec 32) (n : ℕ) (h : n < 32) : IntOp.shli .vector x (BitVec.ofNat 32 n) = x <<< n := by
  have hn : (BitVec.ofNat 32 n).toNat = n := by rw [BitVec.toNat_ofNat]; exact Nat.mod_eq_of_lt (by omega)
  unfold IntOp.shli
  rw [if_pos (by rw [hn]; exact h), BitVec.shiftLeft_eq', hn]

variable {E R : IVec S8x128 32} {w : Fin 128 → BitVec 32} {r : Fin 8} {l : Fin 128}

theorem tile0_apply (hE : E (ix2 r l) = Packed.evenAcc w (List.finRange 128)) (hR : R (ix2 r l) = Packed.restAcc w (List.finRange 128))
    (d t : Vec F S8x128 .f32) :
    tile0 E R d t (ix2 r l) = score (d (ix2 r l)) (BitVec.ofNat 32 (Packed.total w (List.finRange 128) 0)) (t (ix2 r l)) := by
  rw [← Packed.b0_eq (w := w) (l := List.finRange 128) (by simp), ← hE]
  unfold tile0 score
  pointwise [k0_pay759]
  all_goals (try simp (discharger := decide) only [shru_const, shl_const])
  all_goals (try rfl)

theorem tile1_apply (hE : E (ix2 r l) = Packed.evenAcc w (List.finRange 128)) (hR : R (ix2 r l) = Packed.restAcc w (List.finRange 128))
    (d t : Vec F S8x128 .f32) :
    tile1 E R d t (ix2 r l) = score (d (ix2 r l)) (BitVec.ofNat 32 (Packed.total w (List.finRange 128) 1)) (t (ix2 r l)) := by
  rw [← Packed.b1_eq (w := w) (l := List.finRange 128) (by simp), ← hE, ← hR]
  unfold tile1 score
  pointwise [k0_pay760, k0_pay757, k0_pay756]
  all_goals (try simp (discharger := decide) only [shru_const, shl_const])
  all_goals (try rfl)

theorem tile2_apply (hE : E (ix2 r l) = Packed.evenAcc w (List.finRange 128)) (hR : R (ix2 r l) = Packed.restAcc w (List.finRange 128))
    (d t : Vec F S8x128 .f32) :
    tile2 E R d t (ix2 r l) = score (d (ix2 r l)) (BitVec.ofNat 32 (Packed.total w (List.finRange 128) 2)) (t (ix2 r l)) := by
  rw [← Packed.b2_eq (w := w) (l := List.finRange 128) (by simp), ← hE]
  unfold tile2 score
  pointwise [k0_pay763, k0_pay756]
  all_goals (try simp (discharger := decide) only [shru_const, shl_const])
  all_goals (try rfl)

theorem tile3_apply (hE : E (ix2 r l) = Packed.evenAcc w (List.finRange 128)) (hR : R (ix2 r l) = Packed.restAcc w (List.finRange 128))
    (d t : Vec F S8x128 .f32) :
    tile3 E R d t (ix2 r l) = score (d (ix2 r l)) (BitVec.ofNat 32 (Packed.total w (List.finRange 128) 3)) (t (ix2 r l)) := by
  rw [← Packed.b3_eq (w := w) (l := List.finRange 128) (by simp), ← hE, ← hR]
  unfold tile3 score
  pointwise [k0_pay763, k0_pay758, k0_pay757, k0_pay756]
  all_goals (try simp (discharger := decide) only [shru_const, shl_const])
  all_goals (try rfl)

/-- The twenty tiles of a trip, last first, over the inner loop's sums `S`. -/
def tiles (arg2 arg3 : Memref sig .tc .vmem S160x128 .f32) (X_arg2 : BufTy.Contents (Elt F) arg2.view.ty) (X_arg3 : BufTy.Contents (Elt F) arg3.view.ty)
    (k : Fin k0_t1_loop.trips) (S : IVec S8x128 32 × IVec S8x128 32 × IVec S8x128 32 × IVec S8x128 32 × IVec S8x128 32 × IVec S8x128 32 × IVec S8x128 32 × IVec S8x128 32 × IVec S8x128 32 × IVec S8x128 32) : List (View.Piece (Elt F) S160x512 .bf16) :=
  [⟨Rect.unit (s := S160x512) (k0_off62 k) S8x128.size (k0_off62_inb k), tile3 S.2.2.2.2.1 S.2.2.2.2.2.2.2.2.2 (rowsAt arg2 X_arg2 ![152, 0] inb_S160x128_S8x128_152_0) (rowsAt arg3 X_arg3 ![152, 0] inb_S160x128_S8x128_152_0)⟩,
   ⟨Rect.unit (s := S160x512) (k0_off61 k) S8x128.size (k0_off61_inb k), tile2 S.2.2.2.2.1 S.2.2.2.2.2.2.2.2.2 (rowsAt arg2 X_arg2 ![112, 0] inb_S160x128_S8x128_112_0) (rowsAt arg3 X_arg3 ![112, 0] inb_S160x128_S8x128_112_0)⟩,
   ⟨Rect.unit (s := S160x512) (k0_off60 k) S8x128.size (k0_off60_inb k), tile1 S.2.2.2.2.1 S.2.2.2.2.2.2.2.2.2 (rowsAt arg2 X_arg2 ![72, 0] inb_S160x128_S8x128_72_0) (rowsAt arg3 X_arg3 ![72, 0] inb_S160x128_S8x128_72_0)⟩,
   ⟨Rect.unit (s := S160x512) (k0_off59 k) S8x128.size (k0_off59_inb k), tile0 S.2.2.2.2.1 S.2.2.2.2.2.2.2.2.2 (rowsAt arg2 X_arg2 ![32, 0] inb_S160x128_S8x128_32_0) (rowsAt arg3 X_arg3 ![32, 0] inb_S160x128_S8x128_32_0)⟩,
   ⟨Rect.unit (s := S160x512) (k0_off58 k) S8x128.size (k0_off58_inb k), tile3 S.2.2.2.1 S.2.2.2.2.2.2.2.2.1 (rowsAt arg2 X_arg2 ![144, 0] inb_S160x128_S8x128_144_0) (rowsAt arg3 X_arg3 ![144, 0] inb_S160x128_S8x128_144_0)⟩,
   ⟨Rect.unit (s := S160x512) (k0_off57 k) S8x128.size (k0_off57_inb k), tile2 S.2.2.2.1 S.2.2.2.2.2.2.2.2.1 (rowsAt arg2 X_arg2 ![104, 0] inb_S160x128_S8x128_104_0) (rowsAt arg3 X_arg3 ![104, 0] inb_S160x128_S8x128_104_0)⟩,
   ⟨Rect.unit (s := S160x512) (k0_off56 k) S8x128.size (k0_off56_inb k), tile1 S.2.2.2.1 S.2.2.2.2.2.2.2.2.1 (rowsAt arg2 X_arg2 ![64, 0] inb_S160x128_S8x128_64_0) (rowsAt arg3 X_arg3 ![64, 0] inb_S160x128_S8x128_64_0)⟩,
   ⟨Rect.unit (s := S160x512) (k0_off55 k) S8x128.size (k0_off55_inb k), tile0 S.2.2.2.1 S.2.2.2.2.2.2.2.2.1 (rowsAt arg2 X_arg2 ![24, 0] inb_S160x128_S8x128_24_0) (rowsAt arg3 X_arg3 ![24, 0] inb_S160x128_S8x128_24_0)⟩,
   ⟨Rect.unit (s := S160x512) (k0_off54 k) S8x128.size (k0_off54_inb k), tile3 S.2.2.1 S.2.2.2.2.2.2.2.1 (rowsAt arg2 X_arg2 ![136, 0] inb_S160x128_S8x128_136_0) (rowsAt arg3 X_arg3 ![136, 0] inb_S160x128_S8x128_136_0)⟩,
   ⟨Rect.unit (s := S160x512) (k0_off53 k) S8x128.size (k0_off53_inb k), tile2 S.2.2.1 S.2.2.2.2.2.2.2.1 (rowsAt arg2 X_arg2 ![96, 0] inb_S160x128_S8x128_96_0) (rowsAt arg3 X_arg3 ![96, 0] inb_S160x128_S8x128_96_0)⟩,
   ⟨Rect.unit (s := S160x512) (k0_off52 k) S8x128.size (k0_off52_inb k), tile1 S.2.2.1 S.2.2.2.2.2.2.2.1 (rowsAt arg2 X_arg2 ![56, 0] inb_S160x128_S8x128_56_0) (rowsAt arg3 X_arg3 ![56, 0] inb_S160x128_S8x128_56_0)⟩,
   ⟨Rect.unit (s := S160x512) (k0_off51 k) S8x128.size (k0_off51_inb k), tile0 S.2.2.1 S.2.2.2.2.2.2.2.1 (rowsAt arg2 X_arg2 ![16, 0] inb_S160x128_S8x128_16_0) (rowsAt arg3 X_arg3 ![16, 0] inb_S160x128_S8x128_16_0)⟩,
   ⟨Rect.unit (s := S160x512) (k0_off50 k) S8x128.size (k0_off50_inb k), tile3 S.2.1 S.2.2.2.2.2.2.1 (rowsAt arg2 X_arg2 ![128, 0] inb_S160x128_S8x128_128_0) (rowsAt arg3 X_arg3 ![128, 0] inb_S160x128_S8x128_128_0)⟩,
   ⟨Rect.unit (s := S160x512) (k0_off49 k) S8x128.size (k0_off49_inb k), tile2 S.2.1 S.2.2.2.2.2.2.1 (rowsAt arg2 X_arg2 ![88, 0] inb_S160x128_S8x128_88_0) (rowsAt arg3 X_arg3 ![88, 0] inb_S160x128_S8x128_88_0)⟩,
   ⟨Rect.unit (s := S160x512) (k0_off48 k) S8x128.size (k0_off48_inb k), tile1 S.2.1 S.2.2.2.2.2.2.1 (rowsAt arg2 X_arg2 ![48, 0] inb_S160x128_S8x128_48_0) (rowsAt arg3 X_arg3 ![48, 0] inb_S160x128_S8x128_48_0)⟩,
   ⟨Rect.unit (s := S160x512) (k0_off47 k) S8x128.size (k0_off47_inb k), tile0 S.2.1 S.2.2.2.2.2.2.1 (rowsAt arg2 X_arg2 ![8, 0] inb_S160x128_S8x128_8_0) (rowsAt arg3 X_arg3 ![8, 0] inb_S160x128_S8x128_8_0)⟩,
   ⟨Rect.unit (s := S160x512) (k0_off46 k) S8x128.size (k0_off46_inb k), tile3 S.1 S.2.2.2.2.2.1 (rowsAt arg2 X_arg2 ![120, 0] inb_S160x128_S8x128_120_0) (rowsAt arg3 X_arg3 ![120, 0] inb_S160x128_S8x128_120_0)⟩,
   ⟨Rect.unit (s := S160x512) (k0_off45 k) S8x128.size (k0_off45_inb k), tile2 S.1 S.2.2.2.2.2.1 (rowsAt arg2 X_arg2 ![80, 0] inb_S160x128_S8x128_80_0) (rowsAt arg3 X_arg3 ![80, 0] inb_S160x128_S8x128_80_0)⟩,
   ⟨Rect.unit (s := S160x512) (k0_off44 k) S8x128.size (k0_off44_inb k), tile1 S.1 S.2.2.2.2.2.1 (rowsAt arg2 X_arg2 ![40, 0] inb_S160x128_S8x128_40_0) (rowsAt arg3 X_arg3 ![40, 0] inb_S160x128_S8x128_40_0)⟩,
   ⟨Rect.unit (s := S160x512) (k0_off43 k) S8x128.size (k0_off43_inb k), tile0 S.1 S.2.2.2.2.2.1 (rowsAt arg2 X_arg2 ![0, 0] inb_S160x128_S8x128_0_0) (rowsAt arg3 X_arg3 ![0, 0] inb_S160x128_S8x128_0_0)⟩]

/-- The inner loop's sums at the end of the outer trip `k`. -/
def sums (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole) (X_arg1 : BufTy.Contents (Elt F) arg1.view.ty) (X_arg6 : BufTy.Contents (Elt F) arg6.view.ty)
    (k : Fin k0_t1_loop.trips) (a7 : BitVec 32) : IVec S8x128 32 × IVec S8x128 32 × IVec S8x128 32 × IVec S8x128 32 × IVec S8x128 32 × IVec S8x128 32 × IVec S8x128 32 × IVec S8x128 32 × IVec S8x128 32 × IVec S8x128 32 :=
  st_k0_t2 (F := F) 𝒱 c bd i arg1 harg1 arg2 harg2 arg3 harg3 arg4 harg4 arg5 harg5 arg6 harg6 k0_pay6 (0#32) (1#32) k a7 X_arg1 X_arg6
          (k0_pay6, k0_pay6, k0_pay6, k0_pay6, k0_pay6, k0_pay6, k0_pay6, k0_pay6, k0_pay6, k0_pay6) (Scf.trips 0#32 (Scalar.addi 0#32 4#32) 1#32)

/-- A trip's stores are these tiles. -/
theorem trip_tiles (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (k : Fin k0_t1_loop.trips) :
    tripL_k0_t1 (F := F) 𝒱 c bd i arg1 harg1 arg2 harg2 arg3 harg3 arg4 harg4 arg5 harg5 arg6 harg6 X_arg1 X_arg2 X_arg3 X_arg6 k
      = tiles arg2 arg3 X_arg2 X_arg3 k (sums 𝒱 c bd i arg1 harg1 arg2 harg2 arg3 harg3 arg4 harg4 arg5 harg5 arg6 harg6 X_arg1 X_arg6 k (trip_k0_t1.sl.arg7 k)) := by
  unfold tripL_k0_t1 trip_k0_t1
  rfl

/-- One tile is a tile of `outVal`. -/
theorem tile_piece {W : S128x2x40x128.Idx → BitVec 32} {D : S4x4x32x128.Idx → BitVec 32} {d t : S160x128.Idx → F .f32}
    (j : Fin 4) (g : Fin 5) (k1 : Fin 4) (off : Fin 2 → ℕ) (h : ∀ a, off a + S8x128.size a ≤ S160x512.size a)
    (e : off = ![40 * j.val + 8 * g.val, 128 * k1.val]) (T : Vec F S8x128 .bf16)
    (hT : ∀ r l, T (ix2 r l) = score (d (ix2 ⟨40 * j.val + 8 * g.val + r.val, by omega⟩ l))
          (BitVec.ofNat 32 (Packed.total (laneWord W D k1 ⟨8 * g.val + r.val, by omega⟩ l) (List.finRange 128) j.val))
          (t (ix2 ⟨40 * j.val + 8 * g.val + r.val, by omega⟩ l))) :
    ∀ x : (Rect.unit (s := S160x512) off S8x128.size h).shape.Idx, T x = outVal W D d t ((Rect.unit (s := S160x512) off S8x128.size h).emb x) := by
  subst e
  intro x
  obtain ⟨r, l, rfl⟩ : ∃ (r : Fin 8) (l : Fin 128), x = ix2 r l := ⟨x 0, x 1, eq_ix2 (n0 := 8) (n1 := 128) x⟩
  have he : (Rect.unit (s := S160x512) ![40 * j.val + 8 * g.val, 128 * k1.val] S8x128.size h).emb (ix2 r l)
      = ix2 ⟨40 * j.val + 8 * g.val + r.val, by omega⟩ ⟨128 * k1.val + l.val, by omega⟩ := by
    funext a
    apply Fin.ext
    fin_cases a <;> simp [Rect.unit, Rect.emb, ix2]
  rw [he]
  exact (hT r l).trans (outAt_at W D d t j g k1 r l).symm

/-- So the twenty tiles are tiles of `outVal`, when the sums are the sums of the words found. -/
theorem tiles_pieces {W : S128x2x40x128.Idx → BitVec 32} {D : S4x4x32x128.Idx → BitVec 32} (arg2 arg3 : Memref sig .tc .vmem S160x128 .f32)
    (X_arg2 : BufTy.Contents (Elt F) arg2.view.ty) (X_arg3 : BufTy.Contents (Elt F) arg3.view.ty)
    (k : Fin k0_t1_loop.trips) (S : IVec S8x128 32 × IVec S8x128 32 × IVec S8x128 32 × IVec S8x128 32 × IVec S8x128 32 × IVec S8x128 32 × IVec S8x128 32 × IVec S8x128 32 × IVec S8x128 32 × IVec S8x128 32)
    (e0 : ∀ (r : Fin 8) (l : Fin 128), S.1 (ix2 r l) = Packed.evenAcc (laneWord W D (c1 k) ⟨8 * 0 + r.val, by omega⟩ l) (List.finRange 128))
    (r0 : ∀ (r : Fin 8) (l : Fin 128), S.2.2.2.2.2.1 (ix2 r l) = Packed.restAcc (laneWord W D (c1 k) ⟨8 * 0 + r.val, by omega⟩ l) (List.finRange 128))
    (e1 : ∀ (r : Fin 8) (l : Fin 128), S.2.1 (ix2 r l) = Packed.evenAcc (laneWord W D (c1 k) ⟨8 * 1 + r.val, by omega⟩ l) (List.finRange 128))
    (r1 : ∀ (r : Fin 8) (l : Fin 128), S.2.2.2.2.2.2.1 (ix2 r l) = Packed.restAcc (laneWord W D (c1 k) ⟨8 * 1 + r.val, by omega⟩ l) (List.finRange 128))
    (e2 : ∀ (r : Fin 8) (l : Fin 128), S.2.2.1 (ix2 r l) = Packed.evenAcc (laneWord W D (c1 k) ⟨8 * 2 + r.val, by omega⟩ l) (List.finRange 128))
    (r2 : ∀ (r : Fin 8) (l : Fin 128), S.2.2.2.2.2.2.2.1 (ix2 r l) = Packed.restAcc (laneWord W D (c1 k) ⟨8 * 2 + r.val, by omega⟩ l) (List.finRange 128))
    (e3 : ∀ (r : Fin 8) (l : Fin 128), S.2.2.2.1 (ix2 r l) = Packed.evenAcc (laneWord W D (c1 k) ⟨8 * 3 + r.val, by omega⟩ l) (List.finRange 128))
    (r3 : ∀ (r : Fin 8) (l : Fin 128), S.2.2.2.2.2.2.2.2.1 (ix2 r l) = Packed.restAcc (laneWord W D (c1 k) ⟨8 * 3 + r.val, by omega⟩ l) (List.finRange 128))
    (e4 : ∀ (r : Fin 8) (l : Fin 128), S.2.2.2.2.1 (ix2 r l) = Packed.evenAcc (laneWord W D (c1 k) ⟨8 * 4 + r.val, by omega⟩ l) (List.finRange 128))
    (r4 : ∀ (r : Fin 8) (l : Fin 128), S.2.2.2.2.2.2.2.2.2 (ix2 r l) = Packed.restAcc (laneWord W D (c1 k) ⟨8 * 4 + r.val, by omega⟩ l) (List.finRange 128)) :
    Blocks (outVal W D (arg2.view.read (Elt F) X_arg2) (arg3.view.read (Elt F) X_arg3)) (tiles arg2 arg3 X_arg2 X_arg3 k S) := by
  unfold tiles
  refine Blocks.cons (tile_piece 3 4 (c1 k) _ _ (k0_off62_eq k) _ fun r l => (tile3_apply (e4 r l) (r4 r l) _ _).trans (by rw [rowsAt_apply _ _ _ _ (by decide), rowsAt_apply _ _ _ _ (by decide)]; rfl)) ?_
  refine Blocks.cons (tile_piece 2 4 (c1 k) _ _ (k0_off61_eq k) _ fun r l => (tile2_apply (e4 r l) (r4 r l) _ _).trans (by rw [rowsAt_apply _ _ _ _ (by decide), rowsAt_apply _ _ _ _ (by decide)]; rfl)) ?_
  refine Blocks.cons (tile_piece 1 4 (c1 k) _ _ (k0_off60_eq k) _ fun r l => (tile1_apply (e4 r l) (r4 r l) _ _).trans (by rw [rowsAt_apply _ _ _ _ (by decide), rowsAt_apply _ _ _ _ (by decide)]; rfl)) ?_
  refine Blocks.cons (tile_piece 0 4 (c1 k) _ _ (k0_off59_eq k) _ fun r l => (tile0_apply (e4 r l) (r4 r l) _ _).trans (by rw [rowsAt_apply _ _ _ _ (by decide), rowsAt_apply _ _ _ _ (by decide)]; rfl)) ?_
  refine Blocks.cons (tile_piece 3 3 (c1 k) _ _ (k0_off58_eq k) _ fun r l => (tile3_apply (e3 r l) (r3 r l) _ _).trans (by rw [rowsAt_apply _ _ _ _ (by decide), rowsAt_apply _ _ _ _ (by decide)]; rfl)) ?_
  refine Blocks.cons (tile_piece 2 3 (c1 k) _ _ (k0_off57_eq k) _ fun r l => (tile2_apply (e3 r l) (r3 r l) _ _).trans (by rw [rowsAt_apply _ _ _ _ (by decide), rowsAt_apply _ _ _ _ (by decide)]; rfl)) ?_
  refine Blocks.cons (tile_piece 1 3 (c1 k) _ _ (k0_off56_eq k) _ fun r l => (tile1_apply (e3 r l) (r3 r l) _ _).trans (by rw [rowsAt_apply _ _ _ _ (by decide), rowsAt_apply _ _ _ _ (by decide)]; rfl)) ?_
  refine Blocks.cons (tile_piece 0 3 (c1 k) _ _ (k0_off55_eq k) _ fun r l => (tile0_apply (e3 r l) (r3 r l) _ _).trans (by rw [rowsAt_apply _ _ _ _ (by decide), rowsAt_apply _ _ _ _ (by decide)]; rfl)) ?_
  refine Blocks.cons (tile_piece 3 2 (c1 k) _ _ (k0_off54_eq k) _ fun r l => (tile3_apply (e2 r l) (r2 r l) _ _).trans (by rw [rowsAt_apply _ _ _ _ (by decide), rowsAt_apply _ _ _ _ (by decide)]; rfl)) ?_
  refine Blocks.cons (tile_piece 2 2 (c1 k) _ _ (k0_off53_eq k) _ fun r l => (tile2_apply (e2 r l) (r2 r l) _ _).trans (by rw [rowsAt_apply _ _ _ _ (by decide), rowsAt_apply _ _ _ _ (by decide)]; rfl)) ?_
  refine Blocks.cons (tile_piece 1 2 (c1 k) _ _ (k0_off52_eq k) _ fun r l => (tile1_apply (e2 r l) (r2 r l) _ _).trans (by rw [rowsAt_apply _ _ _ _ (by decide), rowsAt_apply _ _ _ _ (by decide)]; rfl)) ?_
  refine Blocks.cons (tile_piece 0 2 (c1 k) _ _ (k0_off51_eq k) _ fun r l => (tile0_apply (e2 r l) (r2 r l) _ _).trans (by rw [rowsAt_apply _ _ _ _ (by decide), rowsAt_apply _ _ _ _ (by decide)]; rfl)) ?_
  refine Blocks.cons (tile_piece 3 1 (c1 k) _ _ (k0_off50_eq k) _ fun r l => (tile3_apply (e1 r l) (r1 r l) _ _).trans (by rw [rowsAt_apply _ _ _ _ (by decide), rowsAt_apply _ _ _ _ (by decide)]; rfl)) ?_
  refine Blocks.cons (tile_piece 2 1 (c1 k) _ _ (k0_off49_eq k) _ fun r l => (tile2_apply (e1 r l) (r1 r l) _ _).trans (by rw [rowsAt_apply _ _ _ _ (by decide), rowsAt_apply _ _ _ _ (by decide)]; rfl)) ?_
  refine Blocks.cons (tile_piece 1 1 (c1 k) _ _ (k0_off48_eq k) _ fun r l => (tile1_apply (e1 r l) (r1 r l) _ _).trans (by rw [rowsAt_apply _ _ _ _ (by decide), rowsAt_apply _ _ _ _ (by decide)]; rfl)) ?_
  refine Blocks.cons (tile_piece 0 1 (c1 k) _ _ (k0_off47_eq k) _ fun r l => (tile0_apply (e1 r l) (r1 r l) _ _).trans (by rw [rowsAt_apply _ _ _ _ (by decide), rowsAt_apply _ _ _ _ (by decide)]; rfl)) ?_
  refine Blocks.cons (tile_piece 3 0 (c1 k) _ _ (k0_off46_eq k) _ fun r l => (tile3_apply (e0 r l) (r0 r l) _ _).trans (by rw [rowsAt_apply _ _ _ _ (by decide), rowsAt_apply _ _ _ _ (by decide)]; rfl)) ?_
  refine Blocks.cons (tile_piece 2 0 (c1 k) _ _ (k0_off45_eq k) _ fun r l => (tile2_apply (e0 r l) (r0 r l) _ _).trans (by rw [rowsAt_apply _ _ _ _ (by decide), rowsAt_apply _ _ _ _ (by decide)]; rfl)) ?_
  refine Blocks.cons (tile_piece 1 0 (c1 k) _ _ (k0_off44_eq k) _ fun r l => (tile1_apply (e0 r l) (r0 r l) _ _).trans (by rw [rowsAt_apply _ _ _ _ (by decide), rowsAt_apply _ _ _ _ (by decide)]; rfl)) ?_
  refine Blocks.cons (tile_piece 0 0 (c1 k) _ _ (k0_off43_eq k) _ fun r l => (tile0_apply (e0 r l) (r0 r l) _ _).trans (by rw [rowsAt_apply _ _ _ _ (by decide), rowsAt_apply _ _ _ _ (by decide)]; rfl)) ?_
  exact Blocks.nil

/-- So the stores of a trip are tiles of `outVal`. -/
theorem trip_pieces (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (hd : ∀ i, (arg6.view.read (Elt F) X_arg6 i : BitVec 32).toNat < 256) (k : Fin k0_t1_loop.trips) :
    Blocks (outVal (arg1.view.read (Elt F) X_arg1) (arg6.view.read (Elt F) X_arg6) (arg2.view.read (Elt F) X_arg2) (arg3.view.read (Elt F) X_arg3))
      (tripL_k0_t1 (F := F) 𝒱 c bd i arg1 harg1 arg2 harg2 arg3 harg3 arg4 harg4 arg5 harg5 arg6 harg6 X_arg1 X_arg2 X_arg3 X_arg6 k) := by
  rw [trip_tiles]
  exact tiles_pieces arg2 arg3 X_arg2 X_arg3 k _
    (fun r l => st_even0 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_rest0 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_even1 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_rest1 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_even2 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_rest2 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_even3 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_rest3 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_even4 (F := F) 𝒱 c bd i arg1 harg1 arg2 harg2 arg3 harg3 arg4 harg4 arg5 harg5 arg6 harg6 k0_pay6 (0#32) (1#32) k (trip_k0_t1.sl.arg7 k) X_arg1 X_arg6 r l hd)
    (fun r l => st_rest4 (F := F) 𝒱 c bd i arg1 harg1 arg2 harg2 arg3 harg3 arg4 harg4 arg5 harg5 arg6 harg6 k0_pay6 (0#32) (1#32) k (trip_k0_t1.sl.arg7 k) X_arg1 X_arg6 r l hd)

end Cert.ScanIdeal.Value
end
end
-- ==== Proof.ScanIdealOut.lean ====
module
public import proofs.«01_k».proof.Proof.ScanIdealTiles
public import proofs.«01_k».proof.Proof.ScanIdealBlocks
public import Idealize.ShloMosaic.Lib.Pipeline.ValueKit
/-!
# What one grid point computes

The scratch holds the transposed block of codes, each byte widened to a word. So a point leaves in its
output block the scores of its 512 columns.
-/
@[expose] public section
set_option maxRecDepth 16384
noncomputable section
open Idealize.ShloMosaic Idealize.ShloMosaic.TcCoe Idealize.SL.Sem Cert.ScanIdeal Cert.ScanIdeal.Gen Cert.ScanIdeal.Run
open Idealize.ShloMosaic.Pipeline (Dat)
namespace Cert.ScanIdeal.Value
variable {F : FTy → Type} [FloatOps F]

/-- The scratch: the codes of a block, transposed, split into four column blocks and four chunks of 32 sub-spaces. -/
def scr (x : S512x128.Idx → BitVec 8) (i : S4x4x32x128.Idx) : BitVec 32 :=
  BitVec.setWidth 32 (x (ix2 ⟨128 * (i 0).val + (i 3).val, by
      have h0 := (i 0).isLt; have h3 := (i 3).isLt; change (i 0).val < 4 at h0; change (i 3).val < 128 at h3; omega⟩
    ⟨32 * (i 1).val + (i 2).val, by
      have h0 := (i 1).isLt; have h3 := (i 2).isLt; change (i 1).val < 4 at h0; change (i 2).val < 32 at h3; omega⟩))

theorem scr_lt (x : S512x128.Idx → BitVec 8) (i : S4x4x32x128.Idx) : (scr x i).toNat < 256 := by
  unfold scr
  rw [BitVec.toNat_setWidth]
  exact Nat.lt_of_le_of_lt (Nat.mod_le _ _) (BitVec.isLt _)

theorem pay2_apply (x : Vec F S512x128 .i8) (k : Fin 4) (u : Fin 32) (l : Fin 128) :
    k0_pay2 x (ix4 0 k u l) = scr x (ix4 0 k u l) := by
  pointwise [k0_pay2, k0_pay1, scr]
  congr 1
  blk_ext

theorem pay3_apply (x : Vec F S512x128 .i8) (k : Fin 4) (u : Fin 32) (l : Fin 128) :
    k0_pay3 x (ix4 0 k u l) = scr x (ix4 1 k u l) := by
  pointwise [k0_pay3, k0_pay1, scr]
  congr 1
  blk_ext

theorem pay4_apply (x : Vec F S512x128 .i8) (k : Fin 4) (u : Fin 32) (l : Fin 128) :
    k0_pay4 x (ix4 0 k u l) = scr x (ix4 2 k u l) := by
  pointwise [k0_pay4, k0_pay1, scr]
  congr 1
  blk_ext

theorem pay5_apply (x : Vec F S512x128 .i8) (k : Fin 4) (u : Fin 32) (l : Fin 128) :
    k0_pay5 x (ix4 0 k u l) = scr x (ix4 3 k u l) := by
  pointwise [k0_pay5, k0_pay1, scr]
  congr 1
  blk_ext

/-- One store of the scratch is a block of `scr`. -/
theorem scr_piece (x : Vec F S512x128 .i8) (p : Fin 4) (h : ∀ a, (![p.val, 0, 0, 0] : Fin 4 → ℕ) a + S1x4x32x128.size a ≤ S4x4x32x128.size a)
    (T : Vec F S1x4x32x128 .i32) (hT : ∀ k u l, T (ix4 0 k u l) = scr x (ix4 p k u l)) :
    ∀ y : (Rect.unit (s := S4x4x32x128) ![p.val, 0, 0, 0] S1x4x32x128.size h).shape.Idx,
      T y = scr x ((Rect.unit (s := S4x4x32x128) ![p.val, 0, 0, 0] S1x4x32x128.size h).emb y) := by
  intro y
  obtain ⟨z, k, u, l, rfl⟩ : ∃ (z : Fin 1) (k : Fin 4) (u : Fin 32) (l : Fin 128), y = ix4 z k u l :=
    ⟨y 0, y 1, y 2, y 3, eq_ix4 (n0 := 1) (n1 := 4) (n2 := 32) (n3 := 128) y⟩
  obtain rfl : z = 0 := Fin.ext (by omega)
  have he : (Rect.unit (s := S4x4x32x128) ![p.val, 0, 0, 0] S1x4x32x128.size h).emb (ix4 0 k u l) = ix4 p k u l := by
    funext a
    apply Fin.ext
    fin_cases a <;> simp [Rect.unit, Rect.emb, ix4]
  rw [he]
  exact hT k u l

/-- What the body's four stores leave in the scratch. -/
theorem scr_read (c : Dev nD) (arg4 : Memref sig .tc .vmem S512x128 .i8) (harg4 : arg4.IsWhole)
    (arg6 : Memref sig .tc .vmem S4x4x32x128 .i32) (x3 : Vec F S512x128 .i8) :
    arg6.view.read (Elt F) (arg6.view.writes (Elt F) arg6.view.junk (kernelRun0_A.sl.HS0_4 c arg4 harg4 x3)) = scr x3 := by
  have hx : View.readAt (Elt F) arg4.view (Rect.unit (s := S512x128) ![0, 0] S512x128.size inb_S512x128_S512x128_0_0).toLoadRect
      (harg4.unread x3) = x3 := by
    funext y
    rw [View.readAt_apply, harg4.read_unread]
    congr 1
    funext a
    apply Fin.ext
    fin_cases a <;> simp [Rect.unit, LoadRect.idx, Rect.toLoadRect]
  have hc : ∀ y : S4x4x32x128.Idx, ∃ pc ∈ kernelRun0_A.sl.HS0_4 c arg4 harg4 x3, y ∈ pc.1.set :=
    fun y => View.cover_of_tiledL (kernelRun0_A.sl.HS0_4 c arg4 harg4 x3) S1x4x32x128.size (by sl_kernel_rfl) y
  rw [View.read_writes_junk_eq_canon]
  funext y
  refine View.canon_apply_of_pieces (scr x3) _ ?_ y (hc y)
  unfold kernelRun0_A.sl.HS0_4
  rw [hx]
  simp only [List.forall_mem_cons, List.not_mem_nil, false_imp_iff, implies_true, and_true]
  exact ⟨scr_piece x3 3 _ _ (pay5_apply x3), scr_piece x3 2 _ _ (pay4_apply x3), scr_piece x3 1 _ _ (pay3_apply x3), scr_piece x3 0 _ _ (pay2_apply x3)⟩

/-- All the outer loop's stores are tiles of `outVal`. -/
theorem loop_pieces (𝒱 : Variants) (c : Dev nD) (bd : Option 𝒱.V) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (hd : ∀ i, (arg6.view.read (Elt F) X_arg6 i : BitVec 32).toNat < 256) (n : ℕ) (hn : n ≤ k0_t1_loop.trips) :
    Blocks (outVal (arg1.view.read (Elt F) X_arg1) (arg6.view.read (Elt F) X_arg6) (arg2.view.read (Elt F) X_arg2) (arg3.view.read (Elt F) X_arg3))
      (pb_k0_t1 (F := F) 𝒱 c bd i arg1 harg1 arg2 harg2 arg3 harg3 arg4 harg4 arg5 harg5 arg6 harg6 X_arg1 X_arg2 X_arg3 X_arg6 n) := by
  induction n with
  | zero => exact Blocks.nil
  | succ n ih =>
    have e := pb_k0_t1_succ (F := F) 𝒱 c bd i arg1 harg1 arg2 harg2 arg3 harg3 arg4 harg4 arg5 harg5 arg6 harg6 X_arg1 X_arg2 X_arg3 X_arg6 ⟨n, hn⟩
    simp only at e
    rw [e]
    intro p hp
    rcases List.mem_append.mp hp with hp | hp
    · exact trip_pieces 𝒱 c bd i arg1 harg1 arg2 harg2 arg3 harg3 arg4 harg4 arg5 harg5 arg6 harg6 X_arg1 X_arg2 X_arg3 X_arg6 hd ⟨n, hn⟩ p hp
    · exact ih (Nat.le_of_succ_le hn) p hp

/-- WHAT THE BODY LEAVES in its output block. -/
theorem out_eq (c : Dev nD) (i : grid0.Coords) (arg1 : Memref sig .tc .vmem S128x2x40x128 .i32) (harg1 : arg1.IsWhole) (arg2 : Memref sig .tc .vmem S160x128 .f32) (harg2 : arg2.IsWhole) (arg3 : Memref sig .tc .vmem S160x128 .f32) (harg3 : arg3.IsWhole) (arg4 : Memref sig .tc .vmem S512x128 .i8) (harg4 : arg4.IsWhole) (arg5 : Memref sig .tc .vmem S160x512 .bf16) (harg5 : arg5.IsWhole) (arg6 : Memref sig .tc .vmem S4x4x32x128 .i32) (harg6 : arg6.IsWhole)
    (x0 : Vec F S128x2x40x128 .i32) (x1 : Vec F S160x128 .f32) (x2 : Vec F S160x128 .f32) (x3 : Vec F S512x128 .i8) :
    out0_A_4 c i arg1 harg1 arg2 harg2 arg3 harg3 arg4 harg4 arg5 harg5 arg6 harg6 x0 x1 x2 x3 = outVal x0 (scr x3) x1 x2 := by
  unfold out0_A_4
  rw [View.read_writes_junk_eq_canon]
  funext y
  refine View.canon_apply_of_pieces (outVal x0 (scr x3) x1 x2) _ ?_ y (cover0_A_4 c i arg1 harg1 arg2 harg2 arg3 harg3 arg4 harg4 arg5 harg5 arg6 harg6 x0 x1 x2 x3 y)
  have h := loop_pieces (F := F) Variants.none c none i arg1 harg1 arg2 harg2 arg3 harg3 arg4 harg4 arg5 harg5 arg6 harg6 (harg1.unread x0) (harg2.unread x1) (harg3.unread x2)
    (arg6.view.writes (Elt F) arg6.view.junk (kernelRun0_A.sl.HS0_4 c arg4 harg4 x3))
    (by rw [scr_read]; exact scr_lt x3) (Scf.trips 0#32 (Scalar.addi 0#32 4#32) 1#32) (le_refl _)
  rw [scr_read, harg1.read_unread, harg2.read_unread, harg3.read_unread] at h
  unfold kernelRun0_A
  exact h

end Cert.ScanIdeal.Value
end
end
-- ==== Proof.ScanIdealFinal.lean ====
module
public import proofs.«01_k».proof.Proof.ScanIdealOut
/-!
# The scan's result array

Block by block, the result array holds the score of every table row and every column of the database.
-/
@[expose] public section
set_option maxRecDepth 16384
noncomputable section
open Idealize.ShloMosaic Idealize.ShloMosaic.TcCoe Idealize.SL.Sem Cert.ScanIdeal Cert.ScanIdeal.Gen Cert.ScanIdeal.Run
open Idealize.ShloMosaic.Pipeline (Dat)
namespace Cert.ScanIdeal.Value
variable {F : FTy → Type} [FloatOps F]

/-- The score of table row `q` and database column `n`: byte `q / 40` of row `q % 40` of the packed tables, summed over the
sub-spaces at the column's codes, scaled and offset. -/
def scanAt (W : S128x2x40x128.Idx → BitVec 32) (d t : S160x128.Idx → F .f32) (db : S196608x128.Idx → BitVec 8)
    (q : Fin 160) (n : Fin 196608) : F .bf16 :=
  score (d (ix2 q ⟨n.val % 128, Nat.mod_lt _ (by decide)⟩))
    (BitVec.ofNat 32 (Packed.total (fun m : Fin 128 => wordOf W m ⟨q.val % 40, Nat.mod_lt _ (by decide)⟩ (BitVec.setWidth 32 (db (ix2 n m))))
      (List.finRange 128) (q.val / 40)))
    (t (ix2 q ⟨n.val % 128, Nat.mod_lt _ (by decide)⟩))

variable (m : (ℓ : Loc nD τ sig) → Buf (Elt F) ℓ)

/-- Where the windows' blocks lie. -/
theorem idx : ∀ t : Fin cfg0.N, win0_0.index t = ![0, 0, 0, 0] ∧ win0_1.index t = ![0, 0] ∧ win0_2.index t = ![0, 0]
    ∧ win0_3.index t = ![t.val, 0] ∧ win0_4.index t = ![0, t.val] :=
  (by decide +kernel : ∀ t : Fin grid0.N, _)

theorem iblk0 (c : Dev nD) (t : Fin cfg0.N) : iblk m c 0 t = m ((c : Thread nD τ).loc main_arg0) := by
  blk_ext! [iblk, V, idx t]
theorem iblk1 (c : Dev nD) (t : Fin cfg0.N) : iblk m c 1 t = m ((c : Thread nD τ).loc main_arg1) := by
  blk_ext! [iblk, V, idx t]
theorem iblk2 (c : Dev nD) (t : Fin cfg0.N) : iblk m c 2 t = m ((c : Thread nD τ).loc main_arg2) := by
  blk_ext! [iblk, V, idx t]

/-- The block of codes of point `t`: 512 rows of the database. -/
theorem iblk3 (c : Dev nD) (t : Fin cfg0.N) (ht : t.val < 384) (n : Fin 512) (k : Fin 128) :
    (iblk m c 3 t : S512x128.Idx → BitVec 8) (ix2 n k)
      = (m ((c : Thread nD τ).loc main_arg3) : S196608x128.Idx → BitVec 8) (ix2 ⟨512 * t.val + n.val, by omega⟩ k) := by
  blk_ext! [iblk, V, idx t]

/-- The words found in a lane of a block of codes, at the database's columns. -/
theorem laneWord_scr (W : S128x2x40x128.Idx → BitVec 32) (x : S512x128.Idx → BitVec 8) (q : Fin 40) (n : Fin 512) :
    laneWord W (scr x) ⟨n.val / 128, by omega⟩ q ⟨n.val % 128, Nat.mod_lt _ (by decide)⟩
      = fun k : Fin 128 => wordOf W k q (BitVec.setWidth 32 (x (ix2 n k))) := by
  funext k
  have h : scr x (ix4 (⟨n.val / 128, by omega⟩ : Fin 4) (⟨k.val / 32, by omega⟩ : Fin 4) (⟨k.val % 32, by omega⟩ : Fin 32)
      (⟨n.val % 128, Nat.mod_lt _ (by decide)⟩ : Fin 128)) = BitVec.setWidth 32 (x (ix2 n k)) := by
    unfold scr
    have e1 : (⟨128 * (n.val / 128) + n.val % 128, by omega⟩ : Fin 512) = n := Fin.ext (by show 128 * (n.val / 128) + n.val % 128 = n.val; omega)
    have e2 : (⟨32 * (k.val / 32) + k.val % 32, by omega⟩ : Fin 128) = k := Fin.ext (by show 32 * (k.val / 32) + k.val % 32 = k.val; omega)
    exact congrArg (fun z => BitVec.setWidth 32 (x z)) (congrArg₂ (fun a b => ix2 a b) e1 e2)
  unfold laneWord
  rw [h]

/-- A block's score at the array's coordinates. -/
theorem outAt_scan (W : S128x2x40x128.Idx → BitVec 32) (d t : S160x128.Idx → F .f32) (db : S196608x128.Idx → BitVec 8)
    (x : S512x128.Idx → BitVec 8) (b : ℕ) (hb : b < 384)
    (hx : ∀ (n : Fin 512) (k : Fin 128), x (ix2 n k) = db (ix2 ⟨512 * b + n.val, by omega⟩ k)) (q : Fin 160) (n : Fin 512) :
    outAt W (scr x) d t q n = scanAt W d t db q ⟨512 * b + n.val, by omega⟩ := by
  unfold outAt scanAt
  have e : (⟨(512 * b + n.val) % 128, Nat.mod_lt _ (by decide)⟩ : Fin 128) = ⟨n.val % 128, Nat.mod_lt _ (by decide)⟩ :=
    Fin.ext (by show (512 * b + n.val) % 128 = n.val % 128; omega)
  rw [laneWord_scr]
  simp only [hx, e]

/-- THE RESULT ARRAY of the scan. -/
theorem final (c : Dev nD) : (dats m 0 c).arrAt 4 (cfgs 0).N
    = fun i : S160x196608.Idx => scanAt (m ((c : Thread nD τ).loc main_arg0)) (m ((c : Thread nD τ).loc main_arg1)) (m ((c : Thread nD τ).loc main_arg2))
      (m ((c : Thread nD τ).loc main_arg3)) (i 0) (i 1) := by
  refine (dats m 0 c).arrAt_eq_of_covers 4 _ (by decide +kernel) fun t _ y => ?_
  blk_simp
  rw [after0_4]
  unfold outsAt0
  rw [out_eq, iblk0, iblk1, iblk2]
  have ht : t.val < 384 := t.isLt
  obtain ⟨q, n, rfl⟩ : ∃ (q : Fin 160) (n : Fin 512), y = ix2 q n := ⟨y 0, y 1, eq_ix2 (n0 := 160) (n1 := 512) y⟩
  have h0 : ((win0_4.blk t).view.emb (ix2 q n) 0 : Fin 160) = q := Fin.ext (by blk_simp [idx t])
  have hb : 512 * t.val + n.val < 196608 := by omega
  have h1 : ((win0_4.blk t).view.emb (ix2 q n) 1 : Fin 196608) = ⟨512 * t.val + n.val, hb⟩ :=
    Fin.ext (show ((win0_4.blk t).view.emb (ix2 q n) 1).val = 512 * t.val + n.val by blk_simp [idx t]; try omega)
  refine (outAt_scan _ _ _ (m ((c : Thread nD τ).loc main_arg3)) _ t.val ht (fun n k => iblk3 m c t ht n k) q n).trans ?_
  exact (congrArg₂ (scanAt (m ((c : Thread nD τ).loc main_arg0)) (m ((c : Thread nD τ).loc main_arg1)) (m ((c : Thread nD τ).loc main_arg2))
      (m ((c : Thread nD τ).loc main_arg3))) h0 h1).symm

end Cert.ScanIdeal.Value
end
end
-- ==== Proof.ScanReferenceValue.lean ====
module

public import proofs.«01_k».proof.Proof.Gen.ScanReferenceIdeal.Read
public import proofs.«01_k».proof.Proof.Packed
public import Idealize.ShloMosaic.Lib.Pointwise
public import Idealize.ShloMosaic.Lib.Routing.OpsPair

/-!
# What the reference of the scan computes, score by score

The reference takes the four bytes of every word apart, looks the code of each sub-space up by a gather, adds the
128 codes as 32-bit integers and applies scale and offset.
-/
@[expose] public section
set_option maxRecDepth 16384

noncomputable section
namespace Cert.ScanReferenceIdeal.Value

open Cert.ScanReferenceIdeal Cert.ScanReferenceIdeal.Gen Cert.ScanReferenceIdeal.Read Idealize.ShloMosaic

variable {F : FTy → Type} [FloatOps F]

/-- The byte of a word, by shift and mask. -/
theorem shift_mask (w : BitVec 32) (j : ℕ) (hj : j < 4) : (w >>> (8 * j)) &&& 255#32 = BitVec.ofNat 32 (Packed.byte j w) := by
  apply BitVec.eq_of_toNat_eq
  have hb := Packed.byte_lt j w
  rw [BitVec.toNat_and, BitVec.toNat_ushiftRight, BitVec.toNat_ofNat, BitVec.toNat_ofNat, Nat.mod_eq_of_lt (a := Packed.byte j w) (by omega),
    Nat.shiftRight_eq_div_pow]
  show _ &&& (2 ^ 8 - 1) = _
  rw [Nat.and_two_pow_sub_one_eq_mod _ 8]
  unfold Packed.byte
  rw [pow_mul]
  norm_num

/-- Plane `b` of the bytes holds byte `b` of every word. -/
theorem v20_at (x0 : S128x2x40x128.Idx → BitVec 32) (b : Fin 4) (m : Fin 128) (c : Fin 2) (q : Fin 40) (d : Fin 128) :
    val_main_v20 (F := F) x0 (ix5 b m c q d) = BitVec.ofNat 32 (Packed.byte b.val (x0 (ix4 m c q d))) := by
  rw [← shift_mask _ _ b.isLt]
  unfold val_main_v20
  fin_cases b
  · pointwise [val_main_v16, val_main_v3, val_main_v1, val_main_v0, val_main_v2, val_main_c, val_main_c_0]
    rfl
  · pointwise [val_main_v17, val_main_v7, val_main_v5, val_main_v4, val_main_v6, val_main_c_1, val_main_c_2]
    rfl
  · pointwise [val_main_v18, val_main_v11, val_main_v9, val_main_v8, val_main_v10, val_main_c_3, val_main_c_4]
    rfl
  · pointwise [val_main_v19, val_main_v15, val_main_v13, val_main_v12, val_main_v14, val_main_c_5, val_main_c_6]
    rfl

/-- The first component of a look-up's index: the sub-space. -/
theorem v39_0 (x3 : S196608x128.Idx → BitVec 8) (n : Fin 196608) (m : Fin 128) :
    val_main_v39 (F := F) x3 (ix3 n m (0 : Fin 2)) = BitVec.ofNat 32 m.val := by
  unfold val_main_v39
  pointwise [val_main_v37, val_main_v36, val_main_v30, val_main_v27, val_main_v25, val_main_v24, val_main_v26, val_main_c_7, val_main_v29, val_main_v28, val_main_c_8]
  exact Routing.wrap_of_lt _ _ (by have := m.isLt; rw [BitVec.toNat_ofNat]; omega)

/-- The second component of a look-up's index: the code. -/
theorem v39_1 (x3 : S196608x128.Idx → BitVec 8) (n : Fin 196608) (m : Fin 128) :
    val_main_v39 (F := F) x3 (ix3 n m (1 : Fin 2)) = BitVec.setWidth 32 (x3 (ix2 n m)) := by
  unfold val_main_v39
  pointwise [val_main_v38, val_main_v35, val_main_v32, val_main_v23, val_main_v31, val_main_c_9, val_main_v34, val_main_v33, val_main_c_10]
  exact Routing.wrap_of_lt _ _ (by have := (x3 (ix2 n m)).isLt; rw [BitVec.toNat_setWidth]; omega)

/-- A look-up: the code table of sub-space `m`, row `q`, at the code of the database's row `n`. -/
theorem v40_at (x0 : S128x2x40x128.Idx → BitVec 32) (x3 : S196608x128.Idx → BitVec 8) (q : Fin 160) (n : Fin 196608) (m : Fin 128) :
    val_main_v40 (F := F) x0 x3 (ix3 q n m) = val_main_v22 (F := F) x0 (ix3 q m ⟨(x3 (ix2 n m)).toNat, (x3 (ix2 n m)).isLt⟩) := by
  unfold val_main_v40 Host.gather
  refine congrArg (val_main_v22 (F := F) x0) (funext fun a => Fin.ext ?_)
  set d := gather_S160x128x256_S196608x128x2_S160x196608x128_0_12_n_n_12_2_16011 with hd
  have e0 : val_main_v39 (F := F) x3 (d.siIdx (ix3 q n m) ⟨0, by decide⟩) = BitVec.ofNat 32 m.val :=
    (congrArg (val_main_v39 (F := F) x3) (by funext b; fin_cases b <;> rfl)).trans (v39_0 x3 n m)
  have e1 : val_main_v39 (F := F) x3 (d.siIdx (ix3 q n m) ⟨1, by decide⟩) = BitVec.setWidth 32 (x3 (ix2 n m)) :=
    (congrArg (val_main_v39 (F := F) x3) (by funext b; fin_cases b <;> rfl)).trans (v39_1 x3 n m)
  fin_cases a
  · show 0 + 0 + q.val = q.val
    omega
  · refine (congrArg (fun z : BitVec 32 => min z.toInt.toNat 127 + 0 + 0) e0).trans ?_
    show min (BitVec.ofNat 32 m.val).toInt.toNat 127 + 0 + 0 = m.val
    have := m.isLt
    rw [BitVec.toInt_eq_toNat_of_lt (by rw [BitVec.toNat_ofNat]; omega), BitVec.toNat_ofNat]
    omega
  · refine (congrArg (fun z : BitVec 32 => min z.toInt.toNat 255 + 0 + 0) e1).trans ?_
    show min (BitVec.setWidth 32 (x3 (ix2 n m))).toInt.toNat 255 + 0 + 0 = (x3 (ix2 n m)).toNat
    have := (x3 (ix2 n m)).isLt
    rw [BitVec.toInt_eq_toNat_of_lt (by rw [BitVec.toNat_setWidth]; omega), BitVec.toNat_setWidth]
    omega

/-- The code tables, from the packed words. -/
theorem v22_at (x0 : S128x2x40x128.Idx → BitVec 32) (q : Fin 160) (m : Fin 128) (k : Fin 256) :
    val_main_v22 (F := F) x0 (ix3 q m k) = BitVec.ofNat 32 (Packed.byte (q.val / 40)
      (x0 (ix4 m (⟨k.val / 128, by omega⟩ : Fin 2) (⟨q.val % 40, Nat.mod_lt _ (by decide)⟩ : Fin 40) (⟨k.val % 128, Nat.mod_lt _ (by decide)⟩ : Fin 128)))) := by
  rw [val_main_v22_apply, val_main_v21_apply]
  have h : idx_main_v21 (idx_main_v22 (ix3 q m k)) = ix5 (⟨q.val / 40, by omega⟩ : Fin 4) m (⟨k.val / 128, by omega⟩ : Fin 2)
      (⟨q.val % 40, Nat.mod_lt _ (by decide)⟩ : Fin 40) (⟨k.val % 128, Nat.mod_lt _ (by decide)⟩ : Fin 128) := by
    funext a
    apply Fin.ext
    fin_cases a
    · show ((q.val * 128 + m.val) * 256 + k.val) / 1310720 = q.val / 40
      omega
    · show ((q.val * 128 + m.val) * 256 + k.val) / 256 % 128 = m.val
      omega
    · show ((q.val * 128 + m.val) * 256 + k.val) / 128 % 2 = k.val / 128
      omega
    · show ((q.val * 128 + m.val) * 256 + k.val) / 32768 % 40 = q.val % 40
      omega
    · show ((q.val * 128 + m.val) * 256 + k.val) % 128 = k.val % 128
      omega
  rw [h, v20_at]

/-- A sum of words is the word of the sum. -/
theorem fold_ofNat {ι : Type} [DecidableEq ι] (S : Finset ι) (f : ι → ℕ) :
    S.fold IntOp.addi 0#32 (fun i => BitVec.ofNat 32 (f i)) = BitVec.ofNat 32 (∑ i ∈ S, f i) := by
  induction S using Finset.induction_on with
  | empty => rfl
  | insert a S ha ih => rw [Finset.fold_insert ha, ih, Finset.sum_insert ha, BitVec.ofNat_add]; rfl

/-- The integer sums. -/
theorem v41_at (x0 : S128x2x40x128.Idx → BitVec 32) (x3 : S196608x128.Idx → BitVec 8) (q : Fin 160) (n : Fin 196608) :
    val_main_v41 (F := F) x0 x3 (ix2 q n) = BitVec.ofNat 32 (∑ m : Fin 128, Packed.byte (q.val / 40)
      (x0 (ix4 m (⟨(x3 (ix2 n m)).toNat / 128, by have := (x3 (ix2 n m)).isLt; omega⟩ : Fin 2) (⟨q.val % 40, Nat.mod_lt _ (by decide)⟩ : Fin 40)
        (⟨(x3 (ix2 n m)).toNat % 128, Nat.mod_lt _ (by decide)⟩ : Fin 128)))) := by
  unfold val_main_v41
  rw [Host.reduce_eq_fold_single IntOp.addi _ _ _ (by decide)]
  rw [← fold_ofNat]
  refine Finset.fold_congr fun m _ => ?_
  have hl : (by decide : S160x196608x128.Reduces [2] S160x196608).lift (ix2 q n) m = ix3 q n (m : Fin 128) := by
    funext a; fin_cases a <;> rfl
  refine (congrArg (val_main_v40 (F := F) x0 x3) hl).trans ?_
  exact (v40_at x0 x3 q n m).trans (v22_at x0 q m _)

/-- The scale of a column: lane `n % 128` of its row. -/
theorem v44_at (x1 : S160x128.Idx → F .f32) (q : Fin 160) (n : Fin 196608) :
    val_main_v44 (F := F) x1 (ix2 q n) = x1 (ix2 q ⟨n.val % 128, Nat.mod_lt _ (by decide)⟩) := by
  rw [val_main_v44_apply, val_main_v43_apply, val_main_v42_apply]
  refine congrArg x1 ?_
  funext a
  apply Fin.ext
  have := n.isLt
  have := q.isLt
  fin_cases a
  · show (((0 * 160 + (q.val * 196608 + n.val) / 196608 % 160) * 1 + 0) * 128 + (q.val * 196608 + n.val) % 128) / 128 = q.val
    omega
  · show (((0 * 160 + (q.val * 196608 + n.val) / 196608 % 160) * 1 + 0) * 128 + (q.val * 196608 + n.val) % 128) % 128 = n.val % 128
    omega

/-- The offset of a column: lane `n % 128` of its row. -/
theorem v47_at (x2 : S160x128.Idx → F .f32) (q : Fin 160) (n : Fin 196608) :
    val_main_v47 (F := F) x2 (ix2 q n) = x2 (ix2 q ⟨n.val % 128, Nat.mod_lt _ (by decide)⟩) := v44_at x2 q n

/-- A score of the reference. -/
theorem v51_at (x0 : S128x2x40x128.Idx → BitVec 32) (x1 x2 : S160x128.Idx → F .f32) (x3 : S196608x128.Idx → BitVec 8)
    (q : Fin 160) (n : Fin 196608) :
    val_main_v51 (F := F) x0 x1 x2 x3 (ix2 q n) = FloatOps.truncf .bf16 bitsLt_bf16_f32 (FloatOps.addf
      (FloatOps.mulf (x1 (ix2 q ⟨n.val % 128, Nat.mod_lt _ (by decide)⟩)) (FloatOps.sitofp .f32 (val_main_v41 (F := F) x0 x3 (ix2 q n))))
      (x2 (ix2 q ⟨n.val % 128, Nat.mod_lt _ (by decide)⟩))) := by
  rw [val_main_v51_apply, val_main_v50_apply, val_main_v49_apply, val_main_v48_apply, v44_at, v47_at]

end Cert.ScanReferenceIdeal.Value
end
end
-- ==== Proof.ScanEqual.lean ====
module

public import proofs.«01_k».proof.Proof.ScanIdealFinal
public import proofs.«01_k».proof.Proof.ScanReferenceValue

/-!
# Kernel and reference compute the same scores
-/
@[expose] public section
set_option maxRecDepth 16384

noncomputable section
namespace Cert.ScanEqual

open Idealize.ShloMosaic Cert.ScanIdeal.Value Cert.ScanReferenceIdeal.Value Cert.ScanReferenceIdeal.Read

variable {F : FTy → Type} [FloatOps F]

/-- The integer sums of kernel and reference. -/
theorem sums (W : Cert.ScanIdeal.S128x2x40x128.Idx → BitVec 32) (db : Cert.ScanIdeal.S196608x128.Idx → BitVec 8) (q : Fin 160) (n : Fin 196608) :
    val_main_v41 (F := F) W db (ix2 q n) = BitVec.ofNat 32 (Packed.total (fun m : Fin 128 => wordOf W m ⟨q.val % 40, Nat.mod_lt _ (by decide)⟩
      (BitVec.setWidth 32 (db (ix2 n m)))) (List.finRange 128) (q.val / 40)) := by
  refine (v41_at (F := F) W db q n).trans (congrArg (BitVec.ofNat 32) ?_)
  unfold Packed.total
  rw [← Fin.sum_univ_def]
  refine Finset.sum_congr rfl fun m _ => congrArg (Packed.byte (q.val / 40)) ?_
  unfold wordOf
  have hlt := (db (ix2 n m)).isLt
  have hn : (BitVec.setWidth 32 (db (ix2 n m))).toNat = (db (ix2 n m)).toNat := by rw [BitVec.toNat_setWidth]; omega
  have h1 : (⟨(db (ix2 n m)).toNat / 128, by omega⟩ : Fin 2) = ⟨(BitVec.setWidth 32 (db (ix2 n m))).toNat / 128 % 2, Nat.mod_lt _ (by decide)⟩ :=
    Fin.ext (by show (db (ix2 n m)).toNat / 128 = (BitVec.setWidth 32 (db (ix2 n m))).toNat / 128 % 2; rw [hn]; omega)
  have h2 : (⟨(db (ix2 n m)).toNat % 128, Nat.mod_lt _ (by decide)⟩ : Fin 128) = ⟨(BitVec.setWidth 32 (db (ix2 n m))).toNat % 128, Nat.mod_lt _ (by decide)⟩ :=
    Fin.ext (by show (db (ix2 n m)).toNat % 128 = (BitVec.setWidth 32 (db (ix2 n m))).toNat % 128; rw [hn])
  exact congrArg₂ (fun (a : Fin 2) (b : Fin 128) => W (ix4 m a (⟨q.val % 40, Nat.mod_lt _ (by decide)⟩ : Fin 40) b)) h1 h2

/-- The reference's term and the kernel's array are one function of the four arguments. -/
theorem equal (W : Cert.ScanIdeal.S128x2x40x128.Idx → BitVec 32) (d t : Cert.ScanIdeal.S160x128.Idx → F .f32)
    (db : Cert.ScanIdeal.S196608x128.Idx → BitVec 8) :
    val_main_v51 (F := F) W d t db = fun i : Cert.ScanIdeal.S160x196608.Idx => scanAt W d t db (i 0) (i 1) := by
  funext i
  obtain ⟨q, n, rfl⟩ : ∃ (q : Fin 160) (n : Fin 196608), i = ix2 q n := ⟨i 0, i 1, eq_ix2 (n0 := 160) (n1 := 196608) i⟩
  refine (v51_at W d t db q n).trans ?_
  rw [sums]
  rfl

end Cert.ScanEqual
end
end
-- ==== Proof.TabKernelBase.lean ====
/- The tables kernel: the conditions of its branches over the grid, its staging buffers and its scratch. -/
module

public import proofs.«01_k».proof.Proof.Gen.Tables.Launch
public import proofs.«01_k».proof.Proof.Gen.Tables.Skeleton
public import proofs.«01_k».proof.Proof.Gen.Tables.Points
public import proofs.«01_k».proof.Proof.Gen.Tables.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at the points from point 4 on — by arithmetic of the point. -/
theorem hcond0_2 : ∀ t : Fin cfg0.N, cond0_2 (grid0.coords t) ↔ 4 ≤ t.val :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x160x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2x40x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S160x32x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S160x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S160x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S160x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x160x256 .f32 := Memref.whole cc0_scratch0
abbrev scM0_1 : Memref sig .tc .vmem S160x128 .f32 := Memref.whole cc0_scratch1
abbrev scM0_2 : Memref sig .tc .vmem S160x128 .f32 := Memref.whole cc0_scratch2
/-- The scratch `arg11` the kernel carries between points, as a view: what it holds is stated through it. -/
abbrev VS0_1 : View sig .tc .vmem S160x128 .f32 := scM0_1.view
/-- The scratch `arg12` the kernel carries between points, as a view: what it holds is stated through it. -/
abbrev VS0_2 : View sig .tc .vmem S160x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Tables.Tab

end
-- ==== Proof.TabKernelStep.lean ====
/- The tables kernel: what one sub-space contributes, as functions of the loaded tiles. -/
module

public import proofs.«01_k».proof.Proof.TabKernelBase

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

/-- The sub-spaces of one tile, in the order the body takes them. -/
def subs : List (Fin 32) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩]

theorem slicesC (j : Fin 16) : S128x256.Slices ![8 * j.val, 0] S8x256 :=
  ⟨rfl, fun a => by fin_cases a <;> simp [S128x256, S8x256] <;> omega⟩
theorem slicesN (j : Fin 16) : S160x128.Slices ![0, j.val] S160x1 :=
  ⟨rfl, fun a => by fin_cases a <;> simp [S160x128, S160x1] <;> omega⟩

/-- The squared norms' column sums of a tile of queries. -/
def xnOf (xv : Vec F S1x160x128 .bf16) : FVec F S160x128 .f32 :=
  k0_pay13 k0_pay7 (k0_pay11 xv) (k0_pay12 xv) (constant S160x128 .f32 0x00000000#32)

/-- The products of the tile's queries with the centroids of its sub-space `j`, scaled. -/
def dotOf (j : Fin 16) (xv : Vec F S1x160x128 .bf16) (cv : Vec F S128x256 .fp8e4m3) (s : Elt F .f32) : FVec F S160x256 .f32 :=
  mulf (matmul dot_S160x128_S128x256_S160x256_1_0_0_1_n_n none (k0_pay8 xv)
    (truncf .bf16 (select (cmpi .eq k0_pay14 (broadcast S128x256 (BitVec.ofNat 32 j.val))) (k0_pay9 cv)
      (broadcast S128x256 (Scalar.ofBits .f32 0x00000000#32))) bitsLt_bf16_f32)
    (constant S160x256 .f32 0x00000000#32)) (broadcast S160x256 s)

/-- The centroids' squared norms in sub-space `j`, scaled. -/
def cnOf (j : Fin 16) (cv : Vec F S128x256 .fp8e4m3) (s : Elt F .f32) : FVec F S1x256 .f32 :=
  mulf (broadcast S1x256 (Scalar.mulf s s))
    (shapeCast S1x256 (multiReduction .add [0] S256
      (mulf (extractStridedSlice S8x256 ![8 * j.val, 0] (k0_pay9 cv) (slicesC j))
        (extractStridedSlice S8x256 ![8 * j.val, 0] (k0_pay9 cv) (slicesC j)))
      0x00000000#32 reduces_S8x256_S256 (.inl rfl) rfl) shapeCasts_S256_S1x256)

/-- The table of sub-space `j`. -/
def tOf (j : Fin 16) (xv : Vec F S1x160x128 .bf16) (cv : Vec F S128x256 .fp8e4m3) (s : Elt F .f32) : FVec F S160x256 .f32 :=
  subf (addf
      (broadcastTo S160x256 (extractStridedSlice S160x1 ![0, j.val] (xnOf xv) (slicesN j)) broadcasts_S160x1_S160x256)
      (broadcastTo S160x256 (cnOf j cv s) broadcasts_S1x256_S160x256))
    (mulf (broadcast S160x256 (Scalar.ofBits .f32 0x40000000#32)) (dotOf j xv cv s))

/-- The rows' minima. -/
def loOf (t : FVec F S160x256 .f32) : FVec F S160x1 .f32 :=
  shapeCast S160x1 (multiReduction .minimumf [1] S160 t 0x7F800000#32 reduces_S160x256_S160 (.inl rfl) rfl) shapeCasts_S160_S160x1

/-- The rows' maxima. -/
def hiOf (t : FVec F S160x256 .f32) : FVec F S160x1 .f32 :=
  shapeCast S160x1 (multiReduction .maximumf [1] S160 t 0xFF800000#32 reduces_S160x256_S160 (.inl rfl) rfl) shapeCasts_S160_S160x1

/-- The largest spread so far. -/
def maxStep (prev : FVec F S160x128 .f32) (t : FVec F S160x256 .f32) : FVec F S160x128 .f32 :=
  maximumf prev (broadcastTo S160x128 (subf (hiOf t) (loOf t)) broadcasts_S160x1_S160x128)

/-- The minima so far, one lane per sub-space. -/
def minStep (iv : BitVec 32) (m : Fin 32) (prev : FVec F S160x128 .f32) (t : FVec F S160x256 .f32) : FVec F S160x128 .f32 :=
  select (cmpi .eq (iota .tc S160x128 32 [1] iota_S160x128_d1_w32)
      (broadcast S160x128 (Scalar.addi (Scalar.muli iv 32#32) (BitVec.ofNat 32 m.val))))
    (broadcastTo S160x128 (shapeCast S160x1 (loOf t) shapeCasts_S160x1_S160x1) broadcasts_S160x1_S160x128) prev

/-- The tile's 32 tables, from its two query tiles, its two centroid tiles and its 32 scales. -/
def tabs (XV : Fin 2 → Vec F S1x160x128 .bf16) (CV : Fin 2 → Vec F S128x256 .fp8e4m3) (SV : Fin 32 → Elt F .f32)
    (m : Fin 32) : FVec F S160x256 .f32 :=
  tOf ⟨m.val % 16, Nat.mod_lt _ (by decide)⟩ (XV ⟨m.val / 16, by omega⟩) (CV ⟨m.val / 16, by omega⟩) (SV m)

theorem tabInb (i : grid0.Coords) (hc1 : k0_cond2 i = 1#1) (m : Fin 32) (a : Fin 3) :
    (k0_off2 i (BitVec.ofNat 32 m.val)) a + S1x160x256.size a ≤ S128x160x256.size a := k0_off2_inb i hc1 m a
theorem scInb (i : grid0.Coords) (hc1 : k0_cond2 i = 1#1) (m : Fin 32) (a : Fin 1) :
    (k0_off1 i (BitVec.ofNat 32 m.val)) a + S1.size a ≤ S128.size a := k0_off1_inb i hc1 m a
theorem rdInb (i : grid0.Coords) (hc2 : k0_cond3 i = 1#1) (m : Fin 32) (a : Fin 3) :
    (k0_off3 i (BitVec.ofNat 32 m.val)) a + S1x160x256.size a ≤ S128x160x256.size a := k0_off3_inb i hc2 m a

abbrev tabRect (i : grid0.Coords) (hc1 : k0_cond2 i = 1#1) (m : Fin 32) : Rect S128x160x256 :=
  Rect.unit (s := S128x160x256) (k0_off2 i (BitVec.ofNat 32 m.val)) S1x160x256.size (tabInb i hc1 m)

/-- The pieces the body stores in the tables' scratch. -/
def tabPieces (i : grid0.Coords) (hc1 : cond0_1 i) (T : Fin 32 → FVec F S160x256 .f32) :
    List (View.Piece (Elt F) S128x160x256 .f32) :=
  subs.reverse.map fun m => ⟨tabRect i hc1 m,
    shapeCast S1x160x256 (T m) shapeCasts_S160x256_S1x160x256⟩

/-- The minima after the tile. -/
def minFold (iv : BitVec 32) (T : Fin 32 → FVec F S160x256 .f32) (prev : FVec F S160x128 .f32) : FVec F S160x128 .f32 :=
  subs.foldl (fun a m => minStep iv m a (T m)) prev
/-- The spreads after the tile. -/
def maxFold (T : Fin 32 → FVec F S160x256 .f32) (prev : FVec F S160x128 .f32) : FVec F S160x128 .f32 :=
  subs.foldl (fun a m => maxStep a (T m)) prev

/-! ## The second phase -/

/-- One sub-space's codes, from the minima, the scale's column and its table. -/
def codeOf (iv : BitVec 32) (m : Fin 32) (mn : FVec F S160x128 .f32) (d : FVec F S160x1 .f32)
    (tv : Vec F S1x160x256 .f32) : IVec S160x256 32 :=
  fptosi 32 (minimumf (broadcast S160x256 (Scalar.ofBits .f32 0x437F0000#32))
    (maximumf (broadcast S160x256 (Scalar.ofBits .f32 0x00000000#32))
      (roundeven (divf (subf (shapeCast S160x256 tv shapeCasts_S1x160x256_S160x256)
        (broadcastTo S160x256 (shapeCast S160x1 (multiReduction .add [1] S160
          (select (cmpi .eq (iota .tc S160x128 32 [1] iota_S160x128_d1_w32)
              (broadcast S160x128 (Scalar.addi (Scalar.muli iv 32#32) (BitVec.ofNat 32 m.val)))) mn
            (broadcast S160x128 (Scalar.ofBits .f32 0x00000000#32)))
          0x00000000#32 reduces_S160x128_S160 (.inl rfl) rfl) shapeCasts_S160_S160x1) broadcasts_S160x1_S160x256))
        (broadcastTo S160x256 d broadcasts_S160x1_S160x256)))))

/-- Four query groups' codes packed in words. -/
def wordOf (c : IVec S160x256 32) : IVec S40x256 32 :=
  ori (ori (ori (extractStridedSlice S40x256 ![0, 0] c slices_S160x256_o0_0_S40x256)
      (shli (extractStridedSlice S40x256 ![40, 0] c slices_S160x256_o40_0_S40x256) (broadcast S40x256 8#32)))
      (shli (extractStridedSlice S40x256 ![80, 0] c slices_S160x256_o80_0_S40x256) (broadcast S40x256 16#32)))
    (shli (extractStridedSlice S40x256 ![120, 0] c slices_S160x256_o120_0_S40x256) (broadcast S40x256 24#32))

theorem wordInb (m : Fin 32) (u : Fin 2) : ∀ a, (![m.val, u.val, 0, 0] : Fin 4 → ℕ) a + S1x1x40x128.size a ≤ S32x2x40x128.size a := by
  intro a; fin_cases a <;> simp [S1x1x40x128, S32x2x40x128] <;> omega

abbrev wordRect (m : Fin 32) (u : Fin 2) : Rect S32x2x40x128 :=
  Rect.unit (s := S32x2x40x128) ![m.val, u.val, 0, 0] S1x1x40x128.size (wordInb m u)

/-- The words' pieces of one sub-space, the last first. -/
def wordPieces (C : Fin 32 → IVec S160x256 32) : List (View.Piece (Elt F) S32x2x40x128 .i32) :=
  subs.reverse.flatMap fun m =>
    [⟨wordRect m 1,
        shapeCast S1x1x40x128 (extractStridedSlice S40x128 ![0, 128] (wordOf (C m)) slices_S40x256_o0_128_S40x128) shapeCasts_S40x128_S1x1x40x128⟩,
     ⟨wordRect m 0,
        shapeCast S1x1x40x128 (extractStridedSlice S40x128 ![0, 0] (wordOf (C m)) slices_S40x256_o0_0_S40x128) shapeCasts_S40x128_S1x1x40x128⟩]

/-- The tile's codes, side by side. -/
def codesOf (C : Fin 32 → IVec S160x256 32) : IVec S160x32x256 8 :=
  trunci 8 (concatenate S160x32x256 1 (subs.map fun m => ⟨S160x1x256, shapeCast S160x1x256 (C m) shapeCasts_S160x256_S160x1x256⟩)
    (by exact concatenates_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x32x256_d1)) natLt_8_32

/-- The sums of the minima, in every lane. -/
def tsumOf (mn : FVec F S160x128 .f32) : FVec F S160x128 .f32 := k0_pay210 mn
/-- The scales, in every lane. -/
def deltaOf (mx : FVec F S160x128 .f32) : FVec F S160x128 .f32 := k0_pay209 mx

end Cert.Tables.Tab

end
-- ==== Proof.TabKernelRunA.lean ====
/- The run of the tables kernel's body at the first point, on any staging buffers: the pieces it leaves in each buffer it writes are the witness the run finds. -/
module

public import proofs.«01_k».proof.Proof.TabKernelBase

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

set_option maxHeartbeats 4000000 in
/-- The body at the first point. -/
noncomputable def kernelRun0_A (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i)
    (x0 : Vec F S2x160x128 .bf16) (x1 : Vec F S256x256 .fp8e4m3) (x2 : Vec F S128 .f32) (xs0 : Vec F S128x160x256 .f32) :
    Σ' (LS0 : List (View.Piece (Elt F) S128x160x256 .f32)) (LS1 : List (View.Piece (Elt F) S160x128 .f32)), { LS2 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread (xs0)) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_tables i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_tables_eq_skeleton]; unfold cc0_tables_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, Hk⟩
    obtain rfl := harg10.eq_unread hfs0; obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexact HS0
    isplitl [HS1]; · iexists _; iexact HS1
    iexists _; iexact HS2

end Cert.Tables.Tab

end
-- ==== Proof.TabKernelRunB.lean ====
/- The run of the tables kernel's body at the further points of phase 0, on any staging buffers: the pieces it leaves in each buffer it writes are the witness the run finds. -/
module

public import proofs.«01_k».proof.Proof.TabKernelRunA

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

set_option maxHeartbeats 4000000 in
/-- The body at the further points of phase 0. -/
noncomputable def kernelRun0_B (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i)
    (x0 : Vec F S2x160x128 .bf16) (x1 : Vec F S256x256 .fp8e4m3) (x2 : Vec F S128 .f32) (xs0 : Vec F S128x160x256 .f32) (xs1 : Vec F S160x128 .f32) (xs2 : Vec F S160x128 .f32) :
    Σ' (LS0 : List (View.Piece (Elt F) S128x160x256 .f32)) (LS1 : List (View.Piece (Elt F) S160x128 .f32)), { LS2 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread (xs0)) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_tables i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_tables_eq_skeleton]; unfold cc0_tables_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg10.eq_unread hfs0; obtain rfl := harg2.eq_unread hf0; obtain rfl := harg3.eq_unread hf1; obtain rfl := harg4.eq_unread hf2; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexact HS0
    isplitl [HS1]; · iexists _; iexact HS1
    iexists _; iexact HS2

end Cert.Tables.Tab

end
-- ==== Proof.TabKernelRunC.lean ====
/- The run of the tables kernel's body at the points of phase 1, on any staging buffers: the pieces it leaves in each buffer it writes are the witness the run finds. -/
module

public import proofs.«01_k».proof.Proof.TabKernelRunB

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

set_option maxHeartbeats 4000000 in
/-- The body at the points of phase 1. -/
noncomputable def kernelRun0_C (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i)
    (x0 : Vec F S2x160x128 .bf16) (x1 : Vec F S256x256 .fp8e4m3) (x2 : Vec F S128 .f32) (xs0 : Vec F S128x160x256 .f32) (xs1 : Vec F S160x128 .f32) (xs2 : Vec F S160x128 .f32) :
    Σ' (L3 : List (View.Piece (Elt F) S32x2x40x128 .i32)) (L4 : List (View.Piece (Elt F) S160x32x256 .i8)) (L5 : List (View.Piece (Elt F) S160x128 .f32)) (L6 : List (View.Piece (Elt F) S160x128 .f32)), { L7 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_tables i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_tables_eq_skeleton]; unfold cc0_tables_skel
    simp only [k0_part71_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg10.eq_unread hfs0; obtain rfl := harg2.eq_unread hf0; obtain rfl := harg3.eq_unread hf1; obtain rfl := harg4.eq_unread hf2; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.Tables.Tab

end
-- ==== Proof.TabKernelLoads.lean ====
/- The pieces the body of the tables kernel leaves are those of its steps. -/
module

public import proofs.«01_k».proof.Proof.TabKernelStep
public import proofs.«01_k».proof.Proof.TabKernelRunA
public import proofs.«01_k».proof.Proof.TabKernelRunB
public import proofs.«01_k».proof.Proof.TabKernelRunC

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

/-- The loads of the body's inputs. -/
abbrev ldX (arg2 : Memref sig .tc .vmem S2x160x128 .bf16) (harg2 : arg2.IsWhole) (x0 : Vec F S2x160x128 .bf16) (h : Fin 2) : Vec F S1x160x128 .bf16 :=
  match h with
  | 0 => View.readAt (Elt F) arg2.view (Rect.unit (s := S2x160x128) ![0, 0, 0] S1x160x128.size inb_S2x160x128_S1x160x128_0_0_0).toLoadRect (harg2.unread x0)
  | 1 => View.readAt (Elt F) arg2.view (Rect.unit (s := S2x160x128) ![1, 0, 0] S1x160x128.size inb_S2x160x128_S1x160x128_1_0_0).toLoadRect (harg2.unread x0)
abbrev ldC (arg3 : Memref sig .tc .vmem S256x256 .fp8e4m3) (harg3 : arg3.IsWhole) (x1 : Vec F S256x256 .fp8e4m3) (h : Fin 2) : Vec F S128x256 .fp8e4m3 :=
  match h with
  | 0 => View.readAt (Elt F) arg3.view (Rect.unit (s := S256x256) ![0, 0] S128x256.size inb_S256x256_S128x256_0_0).toLoadRect (harg3.unread x1)
  | 1 => View.readAt (Elt F) arg3.view (Rect.unit (s := S256x256) ![128, 0] S128x256.size inb_S256x256_S128x256_128_0).toLoadRect (harg3.unread x1)
abbrev ldS (i : grid0.Coords) (hc1 : cond0_1 i) (arg4 : Memref sig .tc .smem S128 .f32) (harg4 : arg4.IsWhole) (x2 : Vec F S128 .f32) (m : Fin 32) : Elt F .f32 :=
  View.readAt (Elt F) arg4.view (Rect.unit (s := S128) (k0_off1 i (BitVec.ofNat 32 m.val)) S1.size (scInb i hc1 m)).toLoadRect (harg4.unread x2) (Shape.Idx.first (numel1_S1 ▸ Nat.one_pos : 0 < S1.numel))
abbrev ldM (arg11 : Memref sig .tc .vmem S160x128 .f32) (harg11 : arg11.IsWhole) (xs1 : Vec F S160x128 .f32) : Vec F S160x128 .f32 :=
  View.readAt (Elt F) arg11.view (Rect.unit (s := S160x128) ![0, 0] S160x128.size inb_S160x128_S160x128_0_0).toLoadRect (harg11.unread xs1)
abbrev ldT (i : grid0.Coords) (hc2 : cond0_2 i) (arg10 : Memref sig .tc .vmem S128x160x256 .f32) (harg10 : arg10.IsWhole) (xs0 : Vec F S128x160x256 .f32) (m : Fin 32) : Vec F S1x160x256 .f32 :=
  View.readAt (Elt F) arg10.view (Rect.unit (s := S128x160x256) (k0_off3 i (BitVec.ofNat 32 m.val)) S1x160x256.size (rdInb i hc2 m)).toLoadRect (harg10.unread xs0)

abbrev ldTabs (i : grid0.Coords) (hc1 : cond0_1 i) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole)
    (x0 : Vec F S2x160x128 .bf16) (x1 : Vec F S256x256 .fp8e4m3) (x2 : Vec F S128 .f32) : Fin 32 → FVec F S160x256 .f32 :=
  tabs (ldX arg2 harg2 x0) (ldC arg3 harg3 x1) (ldS i hc1 arg4 harg4 x2)
abbrev ldCode (i : grid0.Coords) (hc2 : cond0_2 i) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole)
    (xs0 : Vec F S128x160x256 .f32) (xs1 xs2 : Vec F S160x128 .f32) (m : Fin 32) : IVec S160x256 32 :=
  codeOf (BitVec.ofNat 32 (i 1).val) m (ldM arg11 harg11 xs1) (k0_pay211 (ldM arg12 harg12 xs2)) (ldT i hc2 arg10 harg10 xs0 m)

end Cert.Tables.Tab

end
-- ==== Proof.TabKernelPieces.lean ====
/- The pieces the body of the tables kernel leaves are those of its steps. -/
module

public import proofs.«01_k».proof.Proof.TabKernelLoads
public import Idealize.ShloMosaic.Lib.VecWindow

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

set_option maxHeartbeats 0 in
theorem pieces_B_tab (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) :
    (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).1 = tabPieces i hc1 (ldTabs i hc1 arg2 harg2 arg3 harg3 arg4 harg4 x0 x1 x2) := by
  sl_kernel_rfl

set_option maxHeartbeats 0 in
theorem pieces_B_min (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) :
    (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1 = [⟨Rect.unit (s := S160x128) ![0, 0] S160x128.size inb_S160x128_S160x128_0_0, shapeCast S160x128 (minFold (BitVec.ofNat 32 (i 1).val) (ldTabs i hc1 arg2 harg2 arg3 harg3 arg4 harg4 x0 x1 x2) (ldM arg11 harg11 xs1)) shapeCasts_S160x128_S160x128⟩] := by
  sl_kernel_rfl

set_option maxHeartbeats 0 in
theorem pieces_B_max (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) :
    (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1 = [⟨Rect.unit (s := S160x128) ![0, 0] S160x128.size inb_S160x128_S160x128_0_0, shapeCast S160x128 (maxFold (ldTabs i hc1 arg2 harg2 arg3 harg3 arg4 harg4 x0 x1 x2) (ldM arg12 harg12 xs2)) shapeCasts_S160x128_S160x128⟩] := by
  sl_kernel_rfl

set_option maxHeartbeats 0 in
theorem pieces_A_tab (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) :
    (kernelRun0_A c i arg2 harg2 arg3 harg3 arg4 harg4 arg5 harg5 arg6 harg6 arg7 harg7 arg8 harg8 arg9 harg9 arg10 harg10 arg11 harg11 arg12 harg12 hc0 hc1 hc2 x0 x1 x2 xs0).1 = tabPieces i hc1 (ldTabs i hc1 arg2 harg2 arg3 harg3 arg4 harg4 x0 x1 x2) := by
  sl_kernel_rfl

set_option maxHeartbeats 0 in
theorem pieces_A_min (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) :
    (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.1 = [⟨Rect.unit (s := S160x128) ![0, 0] S160x128.size inb_S160x128_S160x128_0_0, shapeCast S160x128 (minFold (BitVec.ofNat 32 (i 1).val) (ldTabs i hc1 arg2 harg2 arg3 harg3 arg4 harg4 x0 x1 x2) (kernelRun0_A.sl.v42 c arg11)) shapeCasts_S160x128_S160x128⟩, ⟨Rect.unit (s := S160x128) ![0, 0] S160x128.size inb_S160x128_S160x128_0_0, k0_pay1⟩] := by
  sl_kernel_rfl

set_option maxHeartbeats 0 in
theorem pieces_A_max (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) :
    (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.2.1 = [⟨Rect.unit (s := S160x128) ![0, 0] S160x128.size inb_S160x128_S160x128_0_0, shapeCast S160x128 (maxFold (ldTabs i hc1 arg2 harg2 arg3 harg3 arg4 harg4 x0 x1 x2) (kernelRun0_A.sl.v43 c arg12)) shapeCasts_S160x128_S160x128⟩, ⟨Rect.unit (s := S160x128) ![0, 0] S160x128.size inb_S160x128_S160x128_0_0, k0_pay2⟩] := by
  sl_kernel_rfl

set_option maxHeartbeats 0 in
theorem pieces_C_words (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1 = wordPieces (ldCode i hc2 arg10 harg10 arg11 harg11 arg12 harg12 xs0 xs1 xs2) := by
  sl_kernel_rfl

set_option maxHeartbeats 0 in
theorem pieces_C_codes (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1 = [⟨Rect.unit (s := S160x32x256) ![0, 0, 0] S160x32x256.size inb_S160x32x256_S160x32x256_0_0_0, codesOf (ldCode i hc2 arg10 harg10 arg11 harg11 arg12 harg12 xs0 xs1 xs2)⟩] := by
  sl_kernel_rfl

set_option maxHeartbeats 0 in
theorem pieces_C_delta (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1 = [⟨Rect.unit (s := S160x128) ![0, 0] S160x128.size inb_S160x128_S160x128_0_0, deltaOf (ldM arg12 harg12 xs2)⟩] := by
  sl_kernel_rfl

set_option maxHeartbeats 0 in
theorem pieces_C_tmin (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.1 = [⟨Rect.unit (s := S160x128) ![0, 0] S160x128.size inb_S160x128_S160x128_0_0, ldM arg11 harg11 xs1⟩] := by
  sl_kernel_rfl

set_option maxHeartbeats 0 in
theorem pieces_C_tsum (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.2.1 = [⟨Rect.unit (s := S160x128) ![0, 0] S160x128.size inb_S160x128_S160x128_0_0, tsumOf (ldM arg11 harg11 xs1)⟩] := by
  sl_kernel_rfl

theorem prevMin (c : Dev nD) (arg11 : Memref sig .tc .vmem S160x128 .f32) : kernelRun0_A.sl.v42 (F := F) c arg11 = k0_pay1 :=
  View.readCov_full _ _ _ _ _
theorem prevMax (c : Dev nD) (arg12 : Memref sig .tc .vmem S160x128 .f32) : kernelRun0_A.sl.v43 (F := F) c arg12 = k0_pay2 :=
  View.readCov_full _ _ _ _ _

end Cert.Tables.Tab

end
-- ==== Proof.TabKernelReads.lean ====
/- The loads of the tables kernel's body, and what its scratch reads after a tile's stores. -/
module

public import proofs.«01_k».proof.Proof.TabKernelLoads
public import Idealize.ShloMosaic.Lib.WholeRead
public import Idealize.ShloMosaic.Lib.WritesUnit
public import Idealize.ShloMosaic.Lib.ValueLayout
public import Idealize.ShloMosaic.Lib.PointwiseCore
public import Idealize.ShloMosaic.Lib.Pipeline.ReadBack
public import Idealize.ShloMosaic.Lib.Pipeline.ValueKit

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

/-- A tile of queries of the block. -/
def xld (x0 : Vec F S2x160x128 .bf16) (h : Fin 2) : Vec F S1x160x128 .bf16 := fun y => x0 (ix3 h (y 1 : Fin 160) (y 2 : Fin 128))
/-- A tile of centroids of the block. -/
def cld (x1 : Vec F S256x256 .fp8e4m3) (h : Fin 2) : Vec F S128x256 .fp8e4m3 :=
  fun y => x1 (ix2 (⟨128 * h.val + (y 0).val, by have h1 : (y 0).val < 128 := (y 0).isLt; have := h.isLt; omega⟩ : Fin 256) (y 1 : Fin 256))
/-- The scale of a tile's sub-space. -/
def sld (n : Fin 4) (x2 : Vec F S128 .f32) (m : Fin 32) : Elt F .f32 := x2 (ix1 (⟨32 * n.val + m.val, by omega⟩ : Fin 128))
/-- A sub-space's table in the scratch. -/
def tld (n : Fin 4) (d : Vec F S128x160x256 .f32) (m : Fin 32) : Vec F S1x160x256 .f32 :=
  fun y => d (ix3 (⟨32 * n.val + m.val, by omega⟩ : Fin 128) (y 1 : Fin 160) (y 2 : Fin 256))

theorem ldX_eq (arg2 : Memref sig .tc .vmem S2x160x128 .bf16) (harg2 : arg2.IsWhole) (x0 : Vec F S2x160x128 .bf16) (h : Fin 2) :
    ldX arg2 harg2 x0 h = xld x0 h := by
  funext y
  fin_cases h
  · exact (harg2.readAt_unread x0 (Rect.unit (s := S2x160x128) ![0, 0, 0] S1x160x128.size inb_S2x160x128_S1x160x128_0_0_0).toLoadRect y).trans (congrArg x0 (funext fun a => Fin.ext (by
      fin_cases a
      · have := (y 0).isLt; show 0 + 1 * (y 0).val = 0; have h1 : (y 0).val < 1 := this; omega
      · show 0 + 1 * (y 1).val = (y 1).val; omega
      · show 0 + 1 * (y 2).val = (y 2).val; omega)))
  · exact (harg2.readAt_unread x0 (Rect.unit (s := S2x160x128) ![1, 0, 0] S1x160x128.size inb_S2x160x128_S1x160x128_1_0_0).toLoadRect y).trans (congrArg x0 (funext fun a => Fin.ext (by
      fin_cases a
      · have := (y 0).isLt; show 1 + 1 * (y 0).val = 1; have h1 : (y 0).val < 1 := this; omega
      · show 0 + 1 * (y 1).val = (y 1).val; omega
      · show 0 + 1 * (y 2).val = (y 2).val; omega)))

theorem ldC_eq (arg3 : Memref sig .tc .vmem S256x256 .fp8e4m3) (harg3 : arg3.IsWhole) (x1 : Vec F S256x256 .fp8e4m3) (h : Fin 2) :
    ldC arg3 harg3 x1 h = cld x1 h := by
  funext y
  fin_cases h
  · exact (harg3.readAt_unread x1 (Rect.unit (s := S256x256) ![0, 0] S128x256.size inb_S256x256_S128x256_0_0).toLoadRect y).trans (congrArg x1 (funext fun a => Fin.ext (by
      fin_cases a
      · show 0 + 1 * (y 0).val = 128 * 0 + (y 0).val; omega
      · show 0 + 1 * (y 1).val = (y 1).val; omega)))
  · exact (harg3.readAt_unread x1 (Rect.unit (s := S256x256) ![128, 0] S128x256.size inb_S256x256_S128x256_128_0).toLoadRect y).trans (congrArg x1 (funext fun a => Fin.ext (by
      fin_cases a
      · show 128 + 1 * (y 0).val = 128 * 1 + (y 0).val; omega
      · show 0 + 1 * (y 1).val = (y 1).val; omega)))

theorem ldS_eq (i : grid0.Coords) (hc1 : cond0_1 i) (arg4 : Memref sig .tc .smem S128 .f32) (harg4 : arg4.IsWhole) (x2 : Vec F S128 .f32) (m : Fin 32) :
    ldS i hc1 arg4 harg4 x2 m = sld (i 1) x2 m := by
  refine (harg4.readAt_unread x2 _ _).trans (congrArg x2 (funext fun a => Fin.ext ?_))
  fin_cases a
  show (k0_off1 i (BitVec.ofNat 32 m.val)) 0 + 1 * 0 = 32 * (i 1).val + m.val
  rw [k0_off1_eq i m]; rfl

theorem ldM_eq (arg11 : Memref sig .tc .vmem S160x128 .f32) (harg11 : arg11.IsWhole) (xs1 : Vec F S160x128 .f32) : ldM arg11 harg11 xs1 = xs1 := by
  funext y
  refine (harg11.readAt_unread xs1 (Rect.unit (s := S160x128) ![0, 0] S160x128.size inb_S160x128_S160x128_0_0).toLoadRect y).trans (congrArg xs1 (funext fun a => Fin.ext ?_))
  fin_cases a
  · show 0 + 1 * (y 0).val = (y 0).val; omega
  · show 0 + 1 * (y 1).val = (y 1).val; omega

theorem ldT_eq (i : grid0.Coords) (hc2 : cond0_2 i) (arg10 : Memref sig .tc .vmem S128x160x256 .f32) (harg10 : arg10.IsWhole) (xs0 : Vec F S128x160x256 .f32) (m : Fin 32) :
    ldT i hc2 arg10 harg10 xs0 m = tld (i 1) xs0 m := by
  funext y
  refine (harg10.readAt_unread xs0 (Rect.unit (s := S128x160x256) (k0_off3 i (BitVec.ofNat 32 m.val)) S1x160x256.size (rdInb i hc2 m)).toLoadRect y).trans (congrArg xs0 (funext fun a => Fin.ext ?_))
  have e := k0_off3_eq i m
  fin_cases a
  · show (k0_off3 i (BitVec.ofNat 32 m.val)) 0 + 1 * (y 0).val = 32 * (i 1).val + m.val
    rw [e]; have h1 : (y 0).val < 1 := (y 0).isLt
    show 32 * (i 1).val + m.val + 1 * (y 0).val = _; omega
  · show (k0_off3 i (BitVec.ofNat 32 m.val)) 1 + 1 * (y 1).val = (y 1).val
    rw [e]; show 0 + 1 * (y 1).val = (y 1).val; omega
  · show (k0_off3 i (BitVec.ofNat 32 m.val)) 2 + 1 * (y 2).val = (y 2).val
    rw [e]; show 0 + 1 * (y 2).val = (y 2).val; omega

/-- The tile's tables from its blocks. -/
def blockTabs (n : Fin 4) (x0 : Vec F S2x160x128 .bf16) (x1 : Vec F S256x256 .fp8e4m3) (x2 : Vec F S128 .f32) : Fin 32 → FVec F S160x256 .f32 :=
  tabs (xld x0) (cld x1) (sld n x2)

theorem ldTabs_eq (i : grid0.Coords) (hc1 : cond0_1 i) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole)
    (x0 : Vec F S2x160x128 .bf16) (x1 : Vec F S256x256 .fp8e4m3) (x2 : Vec F S128 .f32) :
    ldTabs i hc1 arg2 harg2 arg3 harg3 arg4 harg4 x0 x1 x2 = blockTabs (i 1) x0 x1 x2 := by
  unfold ldTabs blockTabs
  rw [show ldX arg2 harg2 x0 = xld x0 from funext fun h => ldX_eq arg2 harg2 x0 h,
    show ldC arg3 harg3 x1 = cld x1 from funext fun h => ldC_eq arg3 harg3 x1 h,
    show ldS i hc1 arg4 harg4 x2 = sld (i 1) x2 from funext fun h => ldS_eq i hc1 arg4 harg4 x2 h]

/-- The tile's codes from the scratch. -/
def blockCode (n : Fin 4) (d : Vec F S128x160x256 .f32) (mn mx : Vec F S160x128 .f32) (m : Fin 32) : IVec S160x256 32 :=
  codeOf (BitVec.ofNat 32 n.val) m mn (k0_pay211 mx) (tld n d m)

theorem ldCode_eq (i : grid0.Coords) (hc2 : cond0_2 i) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole)
    (xs0 : Vec F S128x160x256 .f32) (xs1 xs2 : Vec F S160x128 .f32) :
    ldCode i hc2 arg10 harg10 arg11 harg11 arg12 harg12 xs0 xs1 xs2 = blockCode (i 1) xs0 xs1 xs2 := by
  funext m
  unfold ldCode blockCode
  rw [ldM_eq, ldM_eq, ldT_eq]

/-- What the tables' scratch reads after a tile's stores: the tile's tables at the tile's sub-spaces, what it held elsewhere. -/
theorem read_tabs (v : View sig .tc .vmem S128x160x256 .f32) (f : v.ty.Contents (Elt F)) (i : grid0.Coords) (hc1 : cond0_1 i)
    (T : Fin 32 → FVec F S160x256 .f32) (l : List (Fin 32)) (g : Fin 128) (q : Fin 160) (k : Fin 256) :
    (∀ m ∈ l, g.val = 32 * (i 1).val + m.val →
      v.read (Elt F) (v.writes (Elt F) f (l.map fun m => ⟨tabRect i hc1 m, shapeCast S1x160x256 (T m) shapeCasts_S160x256_S1x160x256⟩)) (ix3 g q k) = T m (ix2 q k))
    ∧ ((∀ m ∈ l, g.val ≠ 32 * (i 1).val + m.val) →
      v.read (Elt F) (v.writes (Elt F) f (l.map fun m => ⟨tabRect i hc1 m, shapeCast S1x160x256 (T m) shapeCasts_S160x256_S1x160x256⟩)) (ix3 g q k) = v.read (Elt F) f (ix3 g q k)) := by
  induction l with
  | nil => exact ⟨fun m hm => absurd hm List.not_mem_nil, fun _ => rfl⟩
  | cons m0 l ih =>
    have hit : g.val = 32 * (i 1).val + m0.val →
        v.read (Elt F) (v.writes (Elt F) f ((m0 :: l).map fun m => ⟨tabRect i hc1 m, shapeCast S1x160x256 (T m) shapeCasts_S160x256_S1x160x256⟩)) (ix3 g q k) = T m0 (ix2 q k) := by
      intro hg
      refine (View.read_writes_cons_unit_of_mem v f (tabInb i hc1 m0) _ _ (ix3 g q k) (ix3 (0 : Fin 1) q k) (k0_off2_eq i m0) (fun a => ?_)).trans ?_
      · fin_cases a
        · show g.val = 32 * (i 1).val + m0.val + 0; omega
        · show q.val = 0 + q.val; omega
        · show k.val = 0 + k.val; omega
      · pointwise [shapeCast]
    have miss : g.val ≠ 32 * (i 1).val + m0.val →
        v.read (Elt F) (v.writes (Elt F) f ((m0 :: l).map fun m => ⟨tabRect i hc1 m, shapeCast S1x160x256 (T m) shapeCasts_S160x256_S1x160x256⟩)) (ix3 g q k)
          = v.read (Elt F) (v.writes (Elt F) f (l.map fun m => ⟨tabRect i hc1 m, shapeCast S1x160x256 (T m) shapeCasts_S160x256_S1x160x256⟩)) (ix3 g q k) := by
      intro hg
      refine View.read_writes_cons_unit_of_not_mem v f (tabInb i hc1 m0) _ _ (ix3 g q k) (k0_off2_eq i m0) 0 ?_
      show g.val < 32 * (i 1).val + m0.val ∨ 32 * (i 1).val + m0.val + 1 ≤ g.val
      omega
    refine ⟨fun m hm hg => ?_, fun hno => ?_⟩
    · by_cases h0 : g.val = 32 * (i 1).val + m0.val
      · have : m = m0 := Fin.ext (by omega)
        subst this; exact hit h0
      · rcases List.mem_cons.mp hm with rfl | hm'
        · exact absurd hg h0
        · exact (miss h0).trans (ih.1 m hm' hg)
    · exact (miss (hno m0 List.mem_cons_self)).trans (ih.2 fun m hm => hno m (List.mem_cons_of_mem _ hm))

end Cert.Tables.Tab

end
-- ==== Proof.TabKernelAfter.lean ====
/- What each buffer the body of the tables kernel writes reads after it. -/
module

public import proofs.«01_k».proof.Proof.TabKernelPieces
public import proofs.«01_k».proof.Proof.TabKernelReads

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

theorem mem_subs : ∀ m : Fin 32, m ∈ subs.reverse := by decide

theorem readMinA (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.1) = shapeCast S160x128 (minFold (BitVec.ofNat 32 (i 1).val) (blockTabs (i 1) x0 x1 x2) k0_pay1) shapeCasts_S160x128_S160x128 := by
  rw [pieces_A_min, ldTabs_eq, prevMin]
  exact View.read_writes_full _ _ _ _ _

theorem readMaxA (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.2.1) = shapeCast S160x128 (maxFold (blockTabs (i 1) x0 x1 x2) k0_pay2) shapeCasts_S160x128_S160x128 := by
  rw [pieces_A_max, ldTabs_eq, prevMax]
  exact View.read_writes_full _ _ _ _ _

theorem readTabA (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) (g : Fin 128) (q : Fin 160) (k : Fin 256) :
    (∀ m : Fin 32, g.val = 32 * (i 1).val + m.val → arg10.view.read (Elt F) (arg10.view.writes (Elt F) (harg10.unread xs0) (kernelRun0_A c i arg2 harg2 arg3 harg3 arg4 harg4 arg5 harg5 arg6 harg6 arg7 harg7 arg8 harg8 arg9 harg9 arg10 harg10 arg11 harg11 arg12 harg12 hc0 hc1 hc2 x0 x1 x2 xs0).1) (ix3 g q k) = blockTabs (i 1) x0 x1 x2 m (ix2 q k))
    ∧ (g.val < 32 * (i 1).val → arg10.view.read (Elt F) (arg10.view.writes (Elt F) (harg10.unread xs0) (kernelRun0_A c i arg2 harg2 arg3 harg3 arg4 harg4 arg5 harg5 arg6 harg6 arg7 harg7 arg8 harg8 arg9 harg9 arg10 harg10 arg11 harg11 arg12 harg12 hc0 hc1 hc2 x0 x1 x2 xs0).1) (ix3 g q k) = xs0 (ix3 g q k)) := by
  rw [pieces_A_tab, ldTabs_eq]
  have h := read_tabs arg10.view (harg10.unread xs0) i hc1 (blockTabs (i 1) x0 x1 x2) subs.reverse g q k
  exact ⟨fun m hm => h.1 m (mem_subs m) hm, fun hg => (h.2 fun m _ => by omega).trans (congrFun (harg10.read_unread xs0) _)⟩

theorem readMinB (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1) = shapeCast S160x128 (minFold (BitVec.ofNat 32 (i 1).val) (blockTabs (i 1) x0 x1 x2) xs1) shapeCasts_S160x128_S160x128 := by
  rw [pieces_B_min, ldTabs_eq, ldM_eq]
  exact View.read_writes_full _ _ _ _ _

theorem readMaxB (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1) = shapeCast S160x128 (maxFold (blockTabs (i 1) x0 x1 x2) xs2) shapeCasts_S160x128_S160x128 := by
  rw [pieces_B_max, ldTabs_eq, ldM_eq]
  exact View.read_writes_full _ _ _ _ _

theorem readTabB (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) (g : Fin 128) (q : Fin 160) (k : Fin 256) :
    (∀ m : Fin 32, g.val = 32 * (i 1).val + m.val → arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).1) (ix3 g q k) = blockTabs (i 1) x0 x1 x2 m (ix2 q k))
    ∧ (g.val < 32 * (i 1).val → arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).1) (ix3 g q k) = xs0 (ix3 g q k)) := by
  rw [pieces_B_tab, ldTabs_eq]
  have h := read_tabs arg10.view (harg10.unread xs0) i hc1 (blockTabs (i 1) x0 x1 x2) subs.reverse g q k
  exact ⟨fun m hm => h.1 m (mem_subs m) hm, fun hg => (h.2 fun m _ => by omega).trans (congrFun (harg10.read_unread xs0) _)⟩

theorem readCodes (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1) = codesOf (blockCode (i 1) xs0 xs1 xs2) := by
  rw [pieces_C_codes, ldCode_eq]
  exact View.read_writes_full _ _ _ _ _

theorem readDelta (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1) = deltaOf xs2 := by
  rw [pieces_C_delta, ldM_eq]
  exact View.read_writes_full _ _ _ _ _

theorem readTmin (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.1) = xs1 := by
  rw [pieces_C_tmin, ldM_eq]
  exact View.read_writes_full _ _ _ _ _

theorem readTsum (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.2.1) = tsumOf xs1 := by
  rw [pieces_C_tsum, ldM_eq]
  exact View.read_writes_full _ _ _ _ _

theorem coverWords (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (y : S32x2x40x128.Idx) : ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1 S1x1x40x128.size (by sl_kernel_rfl) y

/-- A buffer of words, to state what the stores leave. -/
abbrev VO3 : View sig .tc .vmem S32x2x40x128 .i32 := (win0_3.stage 0).view
/-- The words the stores leave. -/
def wordsOf (C : Fin 32 → IVec S160x256 32) : Vec F S32x2x40x128 .i32 :=
  VO3.read (Elt F) (VO3.writes (Elt F) VO3.junk (wordPieces C))

theorem readWords (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg5.view.ty.Contents (Elt F)) :
    arg5.view.read (Elt F) (arg5.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1) = wordsOf (F := F) (blockCode (i 1) xs0 xs1 xs2) := by
  have h := coverWords c i arg2 harg2 arg3 harg3 arg4 harg4 arg5 harg5 arg6 harg6 arg7 harg7 arg8 harg8 arg9 harg9 arg10 harg10 arg11 harg11 arg12 harg12 hc0 hc1 hc2 x0 x1 x2 xs0 xs1 xs2
  unfold wordsOf
  rw [pieces_C_words, ldCode_eq] at h ⊢
  exact View.read_writes_of_cover _ _ _ _ _ h

end Cert.Tables.Tab

end
-- ==== Proof.TabKernelData.lean ====
/- The proof data of the tables kernel's pipeline: what it carries between points and what it leaves in its outputs. -/
module

public import proofs.«01_k».proof.Proof.TabKernelAfter

@[expose] public section

set_option maxRecDepth 16384

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first phase's point of a tile. -/
abbrev pt (n : Fin 4) : Fin cfg0.N := ⟨n.val, by have h := N_0; have hn := n.isLt; show n.val < grid0.N; omega⟩

/-- A tile's tables. -/
def TTn (c : Dev nD) (n : Fin 4) : Fin 32 → FVec F S160x256 .f32 := blockTabs n (iblk m c 0 (pt n)) (iblk m c 1 (pt n)) (iblk m c 2 (pt n))
/-- The tables of all sub-spaces. -/
def TT (c : Dev nD) (g : Fin 128) : FVec F S160x256 .f32 := TTn m c ⟨g.val / 32, by omega⟩ ⟨g.val % 32, Nat.mod_lt _ (by decide)⟩

/-- The minima after the first tiles. -/
def MN (c : Dev nD) : ℕ → Vec F S160x128 .f32
  | 0 => k0_pay1
  | n + 1 => if h : n < 4 then shapeCast S160x128 (minFold (BitVec.ofNat 32 n) (TTn m c ⟨n, h⟩) (MN c n)) shapeCasts_S160x128_S160x128 else MN c n
/-- The largest spreads after the first tiles. -/
def MX (c : Dev nD) : ℕ → Vec F S160x128 .f32
  | 0 => k0_pay2
  | n + 1 => if h : n < 4 then shapeCast S160x128 (maxFold (TTn m c ⟨n, h⟩) (MX c n)) shapeCasts_S160x128_S160x128 else MX c n

theorem MN_succ (c : Dev nD) (n : Fin 4) : MN m c (n.val + 1) = shapeCast S160x128 (minFold (BitVec.ofNat 32 n.val) (TTn m c n) (MN m c n.val)) shapeCasts_S160x128_S160x128 := by
  rw [MN, dif_pos n.isLt]
theorem MX_succ (c : Dev nD) (n : Fin 4) : MX m c (n.val + 1) = shapeCast S160x128 (maxFold (TTn m c n) (MX m c n.val)) shapeCasts_S160x128_S160x128 := by
  rw [MX, dif_pos n.isLt]

/-- The scratch holds the first `n` tiles' tables. -/
def Tab (c : Dev nD) (n : ℕ) (d : Vec F S128x160x256 .f32) : Prop :=
  ∀ (g : Fin 128) (q : Fin 160) (k : Fin 256), g.val < 32 * n → d (ix3 g q k) = TT m c g (ix2 q k)

theorem Tab_succ (c : Dev nD) (n : Fin 4) (d d' : Vec F S128x160x256 .f32) (hd : Tab m c n.val d)
    (hnew : ∀ (g : Fin 128) (q : Fin 160) (k : Fin 256), (∀ u : Fin 32, g.val = 32 * n.val + u.val → d' (ix3 g q k) = TTn m c n u (ix2 q k))
      ∧ (g.val < 32 * n.val → d' (ix3 g q k) = d (ix3 g q k))) : Tab m c (n.val + 1) d' := by
  intro g q k hg
  by_cases h : g.val < 32 * n.val
  · exact ((hnew g q k).2 h).trans (hd g q k h)
  · refine ((hnew g q k).1 ⟨g.val % 32, Nat.mod_lt _ (by decide)⟩ (by show g.val = 32 * n.val + g.val % 32; omega)).trans ?_
    unfold TT
    rw [show (⟨g.val / 32, by omega⟩ : Fin 4) = n from Fin.ext (by show g.val / 32 = n.val; omega)]

/-- A tile's codes. -/
def CC (c : Dev nD) (n : Fin 4) (u : Fin 32) : IVec S160x256 32 :=
  codeOf (BitVec.ofNat 32 n.val) u (MN m c 4) (k0_pay211 (MX m c 4)) (fun y : S1x160x256.Idx => TTn m c n u (ix2 (y 1 : Fin 160) (y 2 : Fin 256)))

theorem blockCode_eq (c : Dev nD) (n : Fin 4) (d : Vec F S128x160x256 .f32) (hd : Tab m c 4 d) :
    blockCode n d (MN m c 4) (MX m c 4) = CC m c n := by
  funext u
  unfold blockCode CC
  refine congrArg (codeOf (BitVec.ofNat 32 n.val) u (MN m c 4) (k0_pay211 (MX m c 4))) (funext fun y => ?_)
  unfold tld
  refine (hd _ _ _ (by show 32 * n.val + u.val < 32 * 4; omega)).trans ?_
  unfold TT
  have e1 : (⟨(32 * n.val + u.val) / 32, by omega⟩ : Fin 4) = n := Fin.ext (by show (32 * n.val + u.val) / 32 = n.val; omega)
  have e2 : (⟨(32 * n.val + u.val) % 32, Nat.mod_lt _ (by decide)⟩ : Fin 32) = u := Fin.ext (by show (32 * n.val + u.val) % 32 = u.val; omega)
  show TTn m c ⟨(32 * n.val + u.val) / 32, _⟩ ⟨(32 * n.val + u.val) % 32, _⟩ _ = _
  rw [e1, e2]

/-- What the kernel carries from point to point. -/
def PhiS (c : Dev nD) : ℕ → sProp 𝕄
  | 0 => Pipeline.ΦA spec0 c
  | n + 1 => iprop((∃ d, owns (c : Thread nD τ) scM0_0 fullShare d ∗ ⌜Tab m c (min (n + 1) 4) d⌝) ∗ owns (c : Thread nD τ) scM0_1 fullShare (MN m c (min (n + 1) 4))
      ∗ owns (c : Thread nD τ) scM0_2 fullShare (MX m c (min (n + 1) 4)) ∗ (∃ r, prngReg c r))

theorem PhiS_succ (c : Dev nD) (n : ℕ) : PhiS m c (n + 1) = iprop((∃ d, owns (c : Thread nD τ) scM0_0 fullShare d ∗ ⌜Tab m c (min (n + 1) 4) d⌝) ∗ owns (c : Thread nD τ) scM0_1 fullShare (MN m c (min (n + 1) 4))
      ∗ owns (c : Thread nD τ) scM0_2 fullShare (MX m c (min (n + 1) 4)) ∗ (∃ r, prngReg c r)) := rfl

/-- The tile of a point. -/
abbrev tl (t : Fin cfg0.N) : Fin 4 := ⟨t.val % 4, Nat.mod_lt _ (by decide)⟩

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wordsOf (F := F) (CC m c (tl t))
    | ⟨4, _⟩ => codesOf (CC m c (tl t))
    | ⟨5, _⟩ => deltaOf (MX m c 4)
    | ⟨6, _⟩ => MN m c 4
    | ⟨7, _⟩ => tsumOf (MN m c 4)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = wordsOf (F := F) (CC m c (tl t)) := by dsimp only [dats]
theorem after0_4 (c : Dev nD) (t : Fin cfg0.N) : (dats m 0 c).after 4 t = codesOf (CC m c (tl t)) := by dsimp only [dats]
theorem after0_5 (c : Dev nD) (t : Fin cfg0.N) : (dats m 0 c).after 5 t = deltaOf (MX m c 4) := by dsimp only [dats]
theorem after0_6 (c : Dev nD) (t : Fin cfg0.N) : (dats m 0 c).after 6 t = MN m c 4 := by dsimp only [dats]
theorem after0_7 (c : Dev nD) (t : Fin cfg0.N) : (dats m 0 c).after 7 t = tsumOf (MN m c 4) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem out_fetch : ∀ (w : Fin 8), 3 ≤ w.val → ∀ t : Fin cfg0.N, (cfg0.win w).fetch t = false :=
  (by decide +kernel : ∀ (w : Fin 8), 3 ≤ w.val → ∀ t : Fin grid0.N, (cfg0.win w).fetch t = false)
theorem out_idle : ∀ (w : Fin 8), 3 ≤ w.val → ∀ t : Fin cfg0.N, t.val < 4 → cfg0.idle w (grid0.coords t) = true :=
  (by decide +kernel : ∀ (w : Fin 8), 3 ≤ w.val → ∀ t : Fin grid0.N, t.val < 4 → idle0 w (grid0.coords t) = true)
theorem out_live : ∀ (w : Fin 8) (t : Fin cfg0.N), 4 ≤ t.val → cfg0.idle w (grid0.coords t) = false :=
  (by decide +kernel : ∀ (w : Fin 8) (t : Fin grid0.N), 4 ≤ t.val → idle0 w (grid0.coords t) = false)
theorem out_flush : ∀ (w : Fin 8), 3 ≤ w.val → ∀ t : Fin cfg0.N, t.val < 4 → (cfg0.win w).flush t = false :=
  (by decide +kernel : ∀ (w : Fin 8), 3 ≤ w.val → ∀ t : Fin grid0.N, t.val < 4 → (cfg0.win w).flush t = false)

/-- Through the first phase an output's buffer is what it was at first. -/
theorem before_out (c : Dev nD) (w : Fin 8) (hw : 3 ≤ w.val) : ∀ (n : ℕ) (hn : n < cfg0.N), n < 4 → ∀ d, (dats m 0 c).before w ⟨n, hn⟩ d = d
  | 0, hn, _, d => by
    unfold Dat.before
    rw [out_fetch w hw ⟨0, hn⟩, if_neg Bool.false_ne_true, if_pos rfl]
  | n + 1, hn, h4, d => by
    rw [(dats m 0 c).before_of_pos w ⟨n + 1, hn⟩ (Nat.succ_ne_zero n) (out_fetch w hw _) d]
    have hn' : n < cfg0.N := Nat.lt_of_succ_lt hn
    rw [show (⟨(⟨n + 1, hn⟩ : Fin cfg0.N).val - 1, Nat.lt_of_le_of_lt (Nat.sub_le _ _) (⟨n + 1, hn⟩ : Fin cfg0.N).isLt⟩ : Fin cfg0.N) = ⟨n, hn'⟩ from rfl,
      out_flush w hw ⟨n, hn'⟩ (Nat.lt_of_succ_lt h4), if_neg Bool.false_ne_true]
    unfold Dat.left
    rw [show cfg0.idle w (cfg0.grid.coords ⟨n, hn'⟩) = true from out_idle w hw ⟨n, hn'⟩ (Nat.lt_of_succ_lt h4)]
    exact before_out c w hw n hn' (Nat.lt_of_succ_lt h4) d

theorem leaves_idle (c : Dev nD) (w : Fin 8) (hw : 3 ≤ w.val) (t : Fin cfg0.N) (h : t.val < 4) (X : (cfg0.win w).block.Idx → Elt F (cfg0.win w).elt) :
    owns (c : Thread nD τ) ((cfg0.win w).stage (cfg0.slots t w)) fullShare X ⊢ (dats m 0 c).leavesExact w t := by
  rw [(dats m 0 c).leavesExact_idle w t (out_idle w hw t h) (out_flush w hw t h)]
  iintro H
  iexists X
  rw [before_out m c w hw t.val t.isLt h X]
  iexact H

theorem leaves_live (c : Dev nD) (w : Fin 8) (t : Fin cfg0.N) (h : w.val < 3 ∨ 4 ≤ t.val) :
    (dats m 0 c).leavesExact w t = owns (c : Thread nD τ) ((cfg0.win w).stage (cfg0.slots t w)) fullShare ((dats m 0 c).after w t) := by
  have hi : cfg0.idle w (cfg0.grid.coords t) = false := by
    rcases h with h | h
    · have h3 : w = 0 ∨ w = 1 ∨ w = 2 := by
        rcases w with ⟨w, hw⟩; have : w < 3 := h
        rcases (by omega : w = 0 ∨ w = 1 ∨ w = 2) with rfl | rfl | rfl
        · exact .inl rfl
        · exact .inr (.inl rfl)
        · exact .inr (.inr rfl)
      rcases h3 with rfl | rfl | rfl <;> rfl
    · exact out_live w t h
  unfold Dat.leavesExact; rw [hi]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The tile of a point is its second coordinate. -/
theorem coord (t : Fin cfg0.N) : (grid0.coords t 1 : Fin 4) = tl t :=
  Fin.ext (by
    have e1 : (grid0.coords t 1).val = t.val / 1 % 4 := Pipeline.Grid.coords_val t 1 (by decide) rfl
    exact e1.trans (by rw [Nat.div_one]))

theorem tl_pt (t : Fin cfg0.N) (h : t.val < 4) : pt (tl t) = t := Fin.ext (by show t.val % 4 = t.val; omega)

theorem blockTabs_eq (c : Dev nD) (t : Fin cfg0.N) (h : t.val < 4) :
    blockTabs (grid0.coords t 1) (iblk m c 0 t) (iblk m c 1 t) (iblk m c 2 t) = TTn m c (tl t) := by
  unfold TTn
  rw [coord t]
  have e := tl_pt t h
  rw [e]

end Cert.Tables.Tab

end
-- ==== Proof.TabKernelFrame.lean ====
/- The body of the tables kernel at every point, and its run. -/
module

public import proofs.«01_k».proof.Proof.TabKernelData
public import Idealize.ShloMosaic.Lib.Claim

@[expose] public section

set_option maxRecDepth 16384
set_option maxHeartbeats 4000000

noncomputable section

namespace Cert.Tables.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first point. -/
theorem sound_A (c : Dev nD) (t : Fin cfg0.N) (ht : t.val = 0) :
    bodyPre m c t ⊢ wp frame (wpE (defs₀ (F := F)) Variants.none c none) Set.univ (bodyAt0 t) (fun _ => bodyPost m c t) := by
  have h0 : t.val % 8 = 0 := by omega
  have h1 : t.val < 4 := by omega
  have h2 : ¬ 4 ≤ t.val := by omega
  unfold bodyPre bodyPost bodyAt0
  simp only [before0_0, before0_1, before0_2]
  rw [show (dats m 0 c).owesAt () t.succ = (dats m 0 c).owesAt () t.castSucc from rfl]
  rw [leaves_live m c 0 t (.inl (by decide)), leaves_live m c 1 t (.inl (by decide)), leaves_live m c 2 t (.inl (by decide)), after0_0, after0_1, after0_2]
  rw [show (dats m 0 c).Φ t.castSucc = PhiS m c t.val from rfl, show (dats m 0 c).Φ t.succ = PhiS m c (t.val + 1) from rfl]
  have hT := blockTabs_eq m c t h1
  have ec : ((grid0.coords t 1 : Fin 4)).val = (tl t).val := congrArg Fin.val (coord t)
  have et : (tl t).val = t.val := by show t.val % 4 = t.val; omega
  have em : min (t.val + 1) 4 = (tl t).val + 1 := by omega
  rw [show PhiS m c t.val = Pipeline.ΦA spec0 c from by rw [ht]; rfl, PhiA0_eq, PhiS_succ, em]
  iintro ⟨⟨⟨⟨%e0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ (Memref.isWhole_whole _) _ (Memref.isWhole_whole _) _ (Memref.isWhole_whole _) ((hcond0_0 t).mpr h0) ((hcond0_1 t).mpr h1) (fun h => h2 ((hcond0_2 t).mp h)) (iblk m c 0 t) (iblk m c 1 t) (iblk m c 2 t) e0).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, ⟨%g3, H3⟩, ⟨%g4, H4⟩, ⟨%g5, H5⟩, ⟨%g6, H6⟩, ⟨%g7, H7⟩, HS0, ⟨%es1, HS1⟩, ⟨%es2, HS2⟩⟩
  isplitl [HS0 HS1 HS2 Hg]
  · isplitl [HS0]
    · iexists _; isplitl [HS0]
      · unfold owns; iexists _; isplitr
        swap; · iexact HS0
        ipureintro; rfl
      ipureintro
      refine Tab_succ m c (tl t) e0 _ (fun g q k hg => absurd hg (by omega)) fun g q k => ?_
      have h := readTabA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) e0 g q k
      rw [hT, ec] at h
      exact h
    isplitl [HS1]
    · unfold owns; iexists _; isplitr
      swap; · iexact HS1
      ipureintro
      refine (readMinA c _ _ _ _ _ _ _ _ _ _ _ _ _ _ _ _ _ _ _ _ _ _ _ _ _ _ _ _ _ _ _).trans ?_
      rw [hT, ec, MN_succ, et, ht]; rfl
    isplitl [HS2]
    · unfold owns; iexists _; isplitr
      swap; · iexact HS2
      ipureintro
      refine (readMaxA c _ _ _ _ _ _ _ _ _ _ _ _ _ _ _ _ _ _ _ _ _ _ _ _ _ _ _ _ _ _ _).trans ?_
      rw [hT, MX_succ, et, ht]; rfl
    iexact Hg
  isplitl [Ho]; · iexact Ho
  isplitl [H0]; · iexact H0
  isplitl [H1]; · iexact H1
  isplitl [H2]; · iexact H2
  isplitl [H3]; · iapply (leaves_idle m c 3 (by decide) t h1 g3); iexact H3
  isplitl [H4]; · iapply (leaves_idle m c 4 (by decide) t h1 g4); iexact H4
  isplitl [H5]; · iapply (leaves_idle m c 5 (by decide) t h1 g5); iexact H5
  isplitl [H6]; · iapply (leaves_idle m c 6 (by decide) t h1 g6); iexact H6
  iapply (leaves_idle m c 7 (by decide) t h1 g7); iexact H7

/-- The body at a later point of the first phase. -/
theorem sound_B (c : Dev nD) (t : Fin cfg0.N) (hz : t.val ≠ 0) (h1 : t.val < 4) :
    bodyPre m c t ⊢ wp frame (wpE (defs₀ (F := F)) Variants.none c none) Set.univ (bodyAt0 t) (fun _ => bodyPost m c t) := by
  have h0 : ¬ t.val % 8 = 0 := by omega
  obtain ⟨n, hn⟩ : ∃ n, t.val = n + 1 := ⟨t.val - 1, by omega⟩
  have en : min (n + 1) 4 = (tl t).val := by show min (n + 1) 4 = t.val % 4; omega
  have h2 : ¬ 4 ≤ t.val := by omega
  unfold bodyPre bodyPost bodyAt0
  simp only [before0_0, before0_1, before0_2]
  rw [show (dats m 0 c).owesAt () t.succ = (dats m 0 c).owesAt () t.castSucc from rfl]
  rw [leaves_live m c 0 t (.inl (by decide)), leaves_live m c 1 t (.inl (by decide)), leaves_live m c 2 t (.inl (by decide)), after0_0, after0_1, after0_2]
  rw [show (dats m 0 c).Φ t.castSucc = PhiS m c t.val from rfl, show (dats m 0 c).Φ t.succ = PhiS m c (t.val + 1) from rfl]
  have hT := blockTabs_eq m c t h1
  have ec : ((grid0.coords t 1 : Fin 4)).val = (tl t).val := congrArg Fin.val (coord t)
  have et : (tl t).val = t.val := by show t.val % 4 = t.val; omega
  have em : min (t.val + 1) 4 = (tl t).val + 1 := by omega
  rw [show PhiS m c t.val = PhiS m c (n + 1) from by rw [hn]]
  rw [PhiS_succ m c n, PhiS_succ m c t.val, em, en]
  iintro ⟨⟨⟨%e0, HS0, %hE⟩, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ (Memref.isWhole_whole _) _ (Memref.isWhole_whole _) _ (Memref.isWhole_whole _) (fun h => h0 ((hcond0_0 t).mp h)) ((hcond0_1 t).mpr h1) (fun h => h2 ((hcond0_2 t).mp h)) (iblk m c 0 t) (iblk m c 1 t) (iblk m c 2 t) e0 _ _).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, ⟨%g3, H3⟩, ⟨%g4, H4⟩, ⟨%g5, H5⟩, ⟨%g6, H6⟩, ⟨%g7, H7⟩, HS0, ⟨%es1, HS1⟩, ⟨%es2, HS2⟩⟩
  isplitl [HS0 HS1 HS2 Hg]
  · isplitl [HS0]
    · iexists _; isplitl [HS0]
      · unfold owns; iexists _; isplitr
        swap; · iexact HS0
        ipureintro; rfl
      ipureintro
      refine Tab_succ m c (tl t) e0 _ hE fun g q k => ?_
      have h := readTabB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) e0 (MN m c (tl t).val) (MX m c (tl t).val) g q k
      rw [hT, ec] at h
      exact h
    isplitl [HS1]
    · unfold owns; iexists _; isplitr
      swap; · iexact HS1
      ipureintro
      refine (readMinB c _ _ _ _ _ _ _ _ _ _ _ _ _ _ _ _ _ _ _ _ _ _ _ _ _ _ _ _ _ _ _ _ _).trans ?_
      rw [hT, ec, MN_succ]
    isplitl [HS2]
    · unfold owns; iexists _; isplitr
      swap; · iexact HS2
      ipureintro
      refine (readMaxB c _ _ _ _ _ _ _ _ _ _ _ _ _ _ _ _ _ _ _ _ _ _ _ _ _ _ _ _ _ _ _ _ _).trans ?_
      rw [hT, MX_succ]
    iexact Hg
  isplitl [Ho]; · iexact Ho
  isplitl [H0]; · iexact H0
  isplitl [H1]; · iexact H1
  isplitl [H2]; · iexact H2
  isplitl [H3]; · iapply (leaves_idle m c 3 (by decide) t h1 g3); iexact H3
  isplitl [H4]; · iapply (leaves_idle m c 4 (by decide) t h1 g4); iexact H4
  isplitl [H5]; · iapply (leaves_idle m c 5 (by decide) t h1 g5); iexact H5
  isplitl [H6]; · iapply (leaves_idle m c 6 (by decide) t h1 g6); iexact H6
  iapply (leaves_idle m c 7 (by decide) t h1 g7); iexact H7

/-- The body at a point of the second phase. -/
theorem sound_C (c : Dev nD) (t : Fin cfg0.N) (h2 : 4 ≤ t.val) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have h0 : ¬ t.val % 8 = 0 := by omega
  obtain ⟨n, hn⟩ : ∃ n, t.val = n + 1 := ⟨t.val - 1, by omega⟩
  have en : min (n + 1) 4 = 4 := by omega
  have h1 : ¬ t.val < 4 := by omega
  unfold bodyPre bodyPost bodyAt0
  simp only [before0_0, before0_1, before0_2]
  rw [show (dats m 0 c).owesAt () t.succ = (dats m 0 c).owesAt () t.castSucc from rfl]
  rw [leaves_live m c 0 t (.inl (by decide)), leaves_live m c 1 t (.inl (by decide)), leaves_live m c 2 t (.inl (by decide)), after0_0, after0_1, after0_2]
  rw [leaves_live m c 3 t (.inr h2), leaves_live m c 4 t (.inr h2), leaves_live m c 5 t (.inr h2), leaves_live m c 6 t (.inr h2), leaves_live m c 7 t (.inr h2), after0_3, after0_4, after0_5, after0_6, after0_7]
  rw [show (dats m 0 c).Φ t.castSucc = PhiS m c t.val from rfl, show (dats m 0 c).Φ t.succ = PhiS m c (t.val + 1) from rfl]
  have em : min (t.val + 1) 4 = 4 := by omega
  rw [show PhiS m c t.val = PhiS m c (n + 1) from by rw [hn]]
  rw [PhiS_succ m c n, PhiS_succ m c t.val, em, en]
  iintro ⟨⟨⟨%e0, HS0, %hE⟩, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc0 := (fun h => h0 ((hcond0_0 t).mp h) : ¬ cond0_0 (grid0.coords t))
  have hc1 := (fun h => h1 ((hcond0_1 t).mp h) : ¬ cond0_1 (grid0.coords t))
  have hc2 := (hcond0_2 t).mpr h2
  have hcode : blockCode (grid0.coords t 1) e0 (MN m c 4) (MX m c 4) = CC m c (tl t) := by
    rw [← blockCode_eq m c (tl t) e0 hE, ← coord t]
  iapply ((kernelRun0_C c (grid0.coords t) _ _ _ _ _ _ _ _ _ _ _ _ _ _ _ _ _ (Memref.isWhole_whole _) _ (Memref.isWhole_whole _) _ (Memref.isWhole_whole _) hc0 hc1 hc2 (iblk m c 0 t) (iblk m c 1 t) (iblk m c 2 t) e0 (MN m c 4) (MX m c 4)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, ⟨%g3, H3⟩, ⟨%g4, H4⟩, ⟨%g5, H5⟩, ⟨%g6, H6⟩, ⟨%g7, H7⟩, HS0, HS1, HS2⟩
  isplitl [HS0 HS1 HS2 Hg]
  · isplitl [HS0]
    · iexists e0; isplitl [HS0]
      · iexact HS0
      ipureintro; exact hE
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (readWords c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g3).trans (by rw [hcode])
  isplitl [H4]
  · unfold owns; iexists _; isplitr
    swap; · iexact H4
    ipureintro; exact (readCodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g4).trans (by rw [hcode])
  isplitl [H5]
  · unfold owns; iexists _; isplitr
    swap; · iexact H5
    ipureintro; exact (readDelta c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g5)
  isplitl [H6]
  · unfold owns; iexists _; isplitr
    swap; · iexact H6
    ipureintro; exact (readTmin c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g6)
  unfold owns; iexists _; isplitr
  swap; · iexact H7
  ipureintro; exact (readTsum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g7)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_A m c t ht
  · by_cases h1 : t.val < 4
    · exact sound_B m c t ht h1
    · exact sound_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (7 + 1) from rfl, PhiA0_eq, PhiS_succ]
  iintro ⟨⟨%e0, HS0, %hE⟩, HS1, HS2, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: what the pipeline's arrays end at, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Tables.Tab

end
-- ==== Proof.TabIdealBase.lean ====
/- The tables kernel: the conditions of its branches over the grid, its staging buffers and its scratch. -/
module

public import proofs.«01_k».proof.Proof.Gen.TablesIdeal.Launch
public import proofs.«01_k».proof.Proof.Gen.TablesIdeal.Skeleton
public import proofs.«01_k».proof.Proof.Gen.TablesIdeal.Points
public import proofs.«01_k».proof.Proof.Gen.TablesIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 4 — by arithmetic of the point. -/
theorem hcond0_1 : ∀ t : Fin cfg0.N, cond0_1 (grid0.coords t) ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at the points from point 4 on — by arithmetic of the point. -/
theorem hcond0_2 : ∀ t : Fin cfg0.N, cond0_2 (grid0.coords t) ↔ 4 ≤ t.val :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ 4 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x160x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2x40x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S160x32x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S160x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S160x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S160x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x160x256 .f32 := Memref.whole cc0_scratch0
abbrev scM0_1 : Memref sig .tc .vmem S160x128 .f32 := Memref.whole cc0_scratch1
abbrev scM0_2 : Memref sig .tc .vmem S160x128 .f32 := Memref.whole cc0_scratch2
/-- The scratch `arg11` the kernel carries between points, as a view: what it holds is stated through it. -/
abbrev VS0_1 : View sig .tc .vmem S160x128 .f32 := scM0_1.view
/-- The scratch `arg12` the kernel carries between points, as a view: what it holds is stated through it. -/
abbrev VS0_2 : View sig .tc .vmem S160x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.TablesIdeal.Tab

end
-- ==== Proof.TabIdealStep.lean ====
/- The tables kernel: what one sub-space contributes, as functions of the loaded tiles. -/
module

public import proofs.«01_k».proof.Proof.TabIdealBase

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

/-- The sub-spaces of one tile, in the order the body takes them. -/
def subs : List (Fin 32) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩]

theorem slicesC (j : Fin 16) : S128x256.Slices ![8 * j.val, 0] S8x256 :=
  ⟨rfl, fun a => by fin_cases a <;> simp [S128x256, S8x256] <;> omega⟩
theorem slicesN (j : Fin 16) : S160x128.Slices ![0, j.val] S160x1 :=
  ⟨rfl, fun a => by fin_cases a <;> simp [S160x128, S160x1] <;> omega⟩

/-- The squared norms' column sums of a tile of queries. -/
def xnOf (xv : Vec F S1x160x128 .bf16) : FVec F S160x128 .f32 :=
  k0_pay13 k0_pay7 (k0_pay11 xv) (k0_pay12 xv) (constant S160x128 .f32 0x00000000#32)

/-- The products of the tile's queries with the centroids of its sub-space `j`, scaled. -/
def dotOf (j : Fin 16) (xv : Vec F S1x160x128 .bf16) (cv : Vec F S128x256 .fp8e4m3) (s : Elt F .f32) : FVec F S160x256 .f32 :=
  mulf (matmul dot_S160x128_S128x256_S160x256_1_0_0_1_n_n none (k0_pay8 xv)
    (truncf .bf16 (select (cmpi .eq k0_pay14 (broadcast S128x256 (BitVec.ofNat 32 j.val))) (k0_pay9 cv)
      (broadcast S128x256 (Scalar.ofBits .f32 0x00000000#32))) bitsLt_bf16_f32)
    (constant S160x256 .f32 0x00000000#32)) (broadcast S160x256 s)

/-- The centroids' squared norms in sub-space `j`, scaled. -/
def cnOf (j : Fin 16) (cv : Vec F S128x256 .fp8e4m3) (s : Elt F .f32) : FVec F S1x256 .f32 :=
  mulf (broadcast S1x256 (Scalar.mulf s s))
    (shapeCast S1x256 (multiReduction .add [0] S256
      (mulf (extractStridedSlice S8x256 ![8 * j.val, 0] (k0_pay9 cv) (slicesC j))
        (extractStridedSlice S8x256 ![8 * j.val, 0] (k0_pay9 cv) (slicesC j)))
      0x00000000#32 reduces_S8x256_S256 (.inl rfl) rfl) shapeCasts_S256_S1x256)

/-- The table of sub-space `j`. -/
def tOf (j : Fin 16) (xv : Vec F S1x160x128 .bf16) (cv : Vec F S128x256 .fp8e4m3) (s : Elt F .f32) : FVec F S160x256 .f32 :=
  subf (addf
      (broadcastTo S160x256 (extractStridedSlice S160x1 ![0, j.val] (xnOf xv) (slicesN j)) broadcasts_S160x1_S160x256)
      (broadcastTo S160x256 (cnOf j cv s) broadcasts_S1x256_S160x256))
    (mulf (broadcast S160x256 (Scalar.ofBits .f32 0x40000000#32)) (dotOf j xv cv s))

/-- The rows' minima. -/
def loOf (t : FVec F S160x256 .f32) : FVec F S160x1 .f32 :=
  shapeCast S160x1 (multiReduction .minimumf [1] S160 t 0x7F800000#32 reduces_S160x256_S160 (.inl rfl) rfl) shapeCasts_S160_S160x1

/-- The rows' maxima. -/
def hiOf (t : FVec F S160x256 .f32) : FVec F S160x1 .f32 :=
  shapeCast S160x1 (multiReduction .maximumf [1] S160 t 0xFF800000#32 reduces_S160x256_S160 (.inl rfl) rfl) shapeCasts_S160_S160x1

/-- The largest spread so far. -/
def maxStep (prev : FVec F S160x128 .f32) (t : FVec F S160x256 .f32) : FVec F S160x128 .f32 :=
  maximumf prev (broadcastTo S160x128 (subf (hiOf t) (loOf t)) broadcasts_S160x1_S160x128)

/-- The minima so far, one lane per sub-space. -/
def minStep (iv : BitVec 32) (m : Fin 32) (prev : FVec F S160x128 .f32) (t : FVec F S160x256 .f32) : FVec F S160x128 .f32 :=
  select (cmpi .eq (iota .tc S160x128 32 [1] iota_S160x128_d1_w32)
      (broadcast S160x128 (Scalar.addi (Scalar.muli iv 32#32) (BitVec.ofNat 32 m.val))))
    (broadcastTo S160x128 (shapeCast S160x1 (loOf t) shapeCasts_S160x1_S160x1) broadcasts_S160x1_S160x128) prev

/-- The tile's 32 tables, from its two query tiles, its two centroid tiles and its 32 scales. -/
def tabs (XV : Fin 2 → Vec F S1x160x128 .bf16) (CV : Fin 2 → Vec F S128x256 .fp8e4m3) (SV : Fin 32 → Elt F .f32)
    (m : Fin 32) : FVec F S160x256 .f32 :=
  tOf ⟨m.val % 16, Nat.mod_lt _ (by decide)⟩ (XV ⟨m.val / 16, by omega⟩) (CV ⟨m.val / 16, by omega⟩) (SV m)

theorem tabInb (i : grid0.Coords) (hc1 : k0_cond2 i = 1#1) (m : Fin 32) (a : Fin 3) :
    (k0_off2 i (BitVec.ofNat 32 m.val)) a + S1x160x256.size a ≤ S128x160x256.size a := k0_off2_inb i hc1 m a
theorem scInb (i : grid0.Coords) (hc1 : k0_cond2 i = 1#1) (m : Fin 32) (a : Fin 1) :
    (k0_off1 i (BitVec.ofNat 32 m.val)) a + S1.size a ≤ S128.size a := k0_off1_inb i hc1 m a
theorem rdInb (i : grid0.Coords) (hc2 : k0_cond3 i = 1#1) (m : Fin 32) (a : Fin 3) :
    (k0_off3 i (BitVec.ofNat 32 m.val)) a + S1x160x256.size a ≤ S128x160x256.size a := k0_off3_inb i hc2 m a

abbrev tabRect (i : grid0.Coords) (hc1 : k0_cond2 i = 1#1) (m : Fin 32) : Rect S128x160x256 :=
  Rect.unit (s := S128x160x256) (k0_off2 i (BitVec.ofNat 32 m.val)) S1x160x256.size (tabInb i hc1 m)

/-- The pieces the body stores in the tables' scratch. -/
def tabPieces (i : grid0.Coords) (hc1 : cond0_1 i) (T : Fin 32 → FVec F S160x256 .f32) :
    List (View.Piece (Elt F) S128x160x256 .f32) :=
  subs.reverse.map fun m => ⟨tabRect i hc1 m,
    shapeCast S1x160x256 (T m) shapeCasts_S160x256_S1x160x256⟩

/-- The minima after the tile. -/
def minFold (iv : BitVec 32) (T : Fin 32 → FVec F S160x256 .f32) (prev : FVec F S160x128 .f32) : FVec F S160x128 .f32 :=
  subs.foldl (fun a m => minStep iv m a (T m)) prev
/-- The spreads after the tile. -/
def maxFold (T : Fin 32 → FVec F S160x256 .f32) (prev : FVec F S160x128 .f32) : FVec F S160x128 .f32 :=
  subs.foldl (fun a m => maxStep a (T m)) prev

/-! ## The second phase -/

/-- One sub-space's codes, from the minima, the scale's column and its table. -/
def codeOf (iv : BitVec 32) (m : Fin 32) (mn : FVec F S160x128 .f32) (d : FVec F S160x1 .f32)
    (tv : Vec F S1x160x256 .f32) : IVec S160x256 32 :=
  fptosi 32 (minimumf (broadcast S160x256 (Scalar.ofBits .f32 0x437F0000#32))
    (maximumf (broadcast S160x256 (Scalar.ofBits .f32 0x00000000#32))
      (roundeven (divf (subf (shapeCast S160x256 tv shapeCasts_S1x160x256_S160x256)
        (broadcastTo S160x256 (shapeCast S160x1 (multiReduction .add [1] S160
          (select (cmpi .eq (iota .tc S160x128 32 [1] iota_S160x128_d1_w32)
              (broadcast S160x128 (Scalar.addi (Scalar.muli iv 32#32) (BitVec.ofNat 32 m.val)))) mn
            (broadcast S160x128 (Scalar.ofBits .f32 0x00000000#32)))
          0x00000000#32 reduces_S160x128_S160 (.inl rfl) rfl) shapeCasts_S160_S160x1) broadcasts_S160x1_S160x256))
        (broadcastTo S160x256 d broadcasts_S160x1_S160x256)))))

/-- Four query groups' codes packed in words. -/
def wordOf (c : IVec S160x256 32) : IVec S40x256 32 :=
  ori (ori (ori (extractStridedSlice S40x256 ![0, 0] c slices_S160x256_o0_0_S40x256)
      (shli (extractStridedSlice S40x256 ![40, 0] c slices_S160x256_o40_0_S40x256) (broadcast S40x256 8#32)))
      (shli (extractStridedSlice S40x256 ![80, 0] c slices_S160x256_o80_0_S40x256) (broadcast S40x256 16#32)))
    (shli (extractStridedSlice S40x256 ![120, 0] c slices_S160x256_o120_0_S40x256) (broadcast S40x256 24#32))

theorem wordInb (m : Fin 32) (u : Fin 2) : ∀ a, (![m.val, u.val, 0, 0] : Fin 4 → ℕ) a + S1x1x40x128.size a ≤ S32x2x40x128.size a := by
  intro a; fin_cases a <;> simp [S1x1x40x128, S32x2x40x128] <;> omega

abbrev wordRect (m : Fin 32) (u : Fin 2) : Rect S32x2x40x128 :=
  Rect.unit (s := S32x2x40x128) ![m.val, u.val, 0, 0] S1x1x40x128.size (wordInb m u)

/-- The words' pieces of one sub-space, the last first. -/
def wordPieces (C : Fin 32 → IVec S160x256 32) : List (View.Piece (Elt F) S32x2x40x128 .i32) :=
  subs.reverse.flatMap fun m =>
    [⟨wordRect m 1,
        shapeCast S1x1x40x128 (extractStridedSlice S40x128 ![0, 128] (wordOf (C m)) slices_S40x256_o0_128_S40x128) shapeCasts_S40x128_S1x1x40x128⟩,
     ⟨wordRect m 0,
        shapeCast S1x1x40x128 (extractStridedSlice S40x128 ![0, 0] (wordOf (C m)) slices_S40x256_o0_0_S40x128) shapeCasts_S40x128_S1x1x40x128⟩]

/-- The tile's codes, side by side. -/
def codesOf (C : Fin 32 → IVec S160x256 32) : IVec S160x32x256 8 :=
  trunci 8 (concatenate S160x32x256 1 (subs.map fun m => ⟨S160x1x256, shapeCast S160x1x256 (C m) shapeCasts_S160x256_S160x1x256⟩)
    (by exact concatenates_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x1x256_S160x32x256_d1)) natLt_8_32

/-- The sums of the minima, in every lane. -/
def tsumOf (mn : FVec F S160x128 .f32) : FVec F S160x128 .f32 := k0_pay210 mn
/-- The scales, in every lane. -/
def deltaOf (mx : FVec F S160x128 .f32) : FVec F S160x128 .f32 := k0_pay209 mx

end Cert.TablesIdeal.Tab

end
-- ==== Proof.TabIdealRunA.lean ====
/- The run of the tables kernel's body at the first point, on any staging buffers: the pieces it leaves in each buffer it writes are the witness the run finds. -/
module

public import proofs.«01_k».proof.Proof.TabIdealBase

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

set_option maxHeartbeats 4000000 in
/-- The body at the first point. -/
noncomputable def kernelRun0_A (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i)
    (x0 : Vec F S2x160x128 .bf16) (x1 : Vec F S256x256 .fp8e4m3) (x2 : Vec F S128 .f32) (xs0 : Vec F S128x160x256 .f32) :
    Σ' (LS0 : List (View.Piece (Elt F) S128x160x256 .f32)) (LS1 : List (View.Piece (Elt F) S160x128 .f32)), { LS2 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread (xs0)) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_tables i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_tables_eq_skeleton]; unfold cc0_tables_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, Hk⟩
    obtain rfl := harg10.eq_unread hfs0; obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexact HS0
    isplitl [HS1]; · iexists _; iexact HS1
    iexists _; iexact HS2

end Cert.TablesIdeal.Tab

end
-- ==== Proof.TabIdealRunB.lean ====
/- The run of the tables kernel's body at the further points of phase 0, on any staging buffers: the pieces it leaves in each buffer it writes are the witness the run finds. -/
module

public import proofs.«01_k».proof.Proof.TabIdealRunA

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

set_option maxHeartbeats 4000000 in
/-- The body at the further points of phase 0. -/
noncomputable def kernelRun0_B (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i)
    (x0 : Vec F S2x160x128 .bf16) (x1 : Vec F S256x256 .fp8e4m3) (x2 : Vec F S128 .f32) (xs0 : Vec F S128x160x256 .f32) (xs1 : Vec F S160x128 .f32) (xs2 : Vec F S160x128 .f32) :
    Σ' (LS0 : List (View.Piece (Elt F) S128x160x256 .f32)) (LS1 : List (View.Piece (Elt F) S160x128 .f32)), { LS2 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread (xs0)) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_tables i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_tables_eq_skeleton]; unfold cc0_tables_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg10.eq_unread hfs0; obtain rfl := harg2.eq_unread hf0; obtain rfl := harg3.eq_unread hf1; obtain rfl := harg4.eq_unread hf2; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexact HS0
    isplitl [HS1]; · iexists _; iexact HS1
    iexists _; iexact HS2

end Cert.TablesIdeal.Tab

end
-- ==== Proof.TabIdealRunC.lean ====
/- The run of the tables kernel's body at the points of phase 1, on any staging buffers: the pieces it leaves in each buffer it writes are the witness the run finds. -/
module

public import proofs.«01_k».proof.Proof.TabIdealRunB

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

set_option maxHeartbeats 4000000 in
/-- The body at the points of phase 1. -/
noncomputable def kernelRun0_C (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i)
    (x0 : Vec F S2x160x128 .bf16) (x1 : Vec F S256x256 .fp8e4m3) (x2 : Vec F S128 .f32) (xs0 : Vec F S128x160x256 .f32) (xs1 : Vec F S160x128 .f32) (xs2 : Vec F S160x128 .f32) :
    Σ' (L3 : List (View.Piece (Elt F) S32x2x40x128 .i32)) (L4 : List (View.Piece (Elt F) S160x32x256 .i8)) (L5 : List (View.Piece (Elt F) S160x128 .f32)) (L6 : List (View.Piece (Elt F) S160x128 .f32)), { L7 : List (View.Piece (Elt F) S160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_tables i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_tables_eq_skeleton]; unfold cc0_tables_skel
    simp only [k0_part71_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg10.eq_unread hfs0; obtain rfl := harg2.eq_unread hf0; obtain rfl := harg3.eq_unread hf1; obtain rfl := harg4.eq_unread hf2; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.TablesIdeal.Tab

end
-- ==== Proof.TabIdealLoads.lean ====
/- The pieces the body of the tables kernel leaves are those of its steps. -/
module

public import proofs.«01_k».proof.Proof.TabIdealStep
public import proofs.«01_k».proof.Proof.TabIdealRunA
public import proofs.«01_k».proof.Proof.TabIdealRunB
public import proofs.«01_k».proof.Proof.TabIdealRunC

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

/-- The loads of the body's inputs. -/
abbrev ldX (arg2 : Memref sig .tc .vmem S2x160x128 .bf16) (harg2 : arg2.IsWhole) (x0 : Vec F S2x160x128 .bf16) (h : Fin 2) : Vec F S1x160x128 .bf16 :=
  match h with
  | 0 => View.readAt (Elt F) arg2.view (Rect.unit (s := S2x160x128) ![0, 0, 0] S1x160x128.size inb_S2x160x128_S1x160x128_0_0_0).toLoadRect (harg2.unread x0)
  | 1 => View.readAt (Elt F) arg2.view (Rect.unit (s := S2x160x128) ![1, 0, 0] S1x160x128.size inb_S2x160x128_S1x160x128_1_0_0).toLoadRect (harg2.unread x0)
abbrev ldC (arg3 : Memref sig .tc .vmem S256x256 .fp8e4m3) (harg3 : arg3.IsWhole) (x1 : Vec F S256x256 .fp8e4m3) (h : Fin 2) : Vec F S128x256 .fp8e4m3 :=
  match h with
  | 0 => View.readAt (Elt F) arg3.view (Rect.unit (s := S256x256) ![0, 0] S128x256.size inb_S256x256_S128x256_0_0).toLoadRect (harg3.unread x1)
  | 1 => View.readAt (Elt F) arg3.view (Rect.unit (s := S256x256) ![128, 0] S128x256.size inb_S256x256_S128x256_128_0).toLoadRect (harg3.unread x1)
abbrev ldS (i : grid0.Coords) (hc1 : cond0_1 i) (arg4 : Memref sig .tc .smem S128 .f32) (harg4 : arg4.IsWhole) (x2 : Vec F S128 .f32) (m : Fin 32) : Elt F .f32 :=
  View.readAt (Elt F) arg4.view (Rect.unit (s := S128) (k0_off1 i (BitVec.ofNat 32 m.val)) S1.size (scInb i hc1 m)).toLoadRect (harg4.unread x2) (Shape.Idx.first (numel1_S1 ▸ Nat.one_pos : 0 < S1.numel))
abbrev ldM (arg11 : Memref sig .tc .vmem S160x128 .f32) (harg11 : arg11.IsWhole) (xs1 : Vec F S160x128 .f32) : Vec F S160x128 .f32 :=
  View.readAt (Elt F) arg11.view (Rect.unit (s := S160x128) ![0, 0] S160x128.size inb_S160x128_S160x128_0_0).toLoadRect (harg11.unread xs1)
abbrev ldT (i : grid0.Coords) (hc2 : cond0_2 i) (arg10 : Memref sig .tc .vmem S128x160x256 .f32) (harg10 : arg10.IsWhole) (xs0 : Vec F S128x160x256 .f32) (m : Fin 32) : Vec F S1x160x256 .f32 :=
  View.readAt (Elt F) arg10.view (Rect.unit (s := S128x160x256) (k0_off3 i (BitVec.ofNat 32 m.val)) S1x160x256.size (rdInb i hc2 m)).toLoadRect (harg10.unread xs0)

abbrev ldTabs (i : grid0.Coords) (hc1 : cond0_1 i) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole)
    (x0 : Vec F S2x160x128 .bf16) (x1 : Vec F S256x256 .fp8e4m3) (x2 : Vec F S128 .f32) : Fin 32 → FVec F S160x256 .f32 :=
  tabs (ldX arg2 harg2 x0) (ldC arg3 harg3 x1) (ldS i hc1 arg4 harg4 x2)
abbrev ldCode (i : grid0.Coords) (hc2 : cond0_2 i) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole)
    (xs0 : Vec F S128x160x256 .f32) (xs1 xs2 : Vec F S160x128 .f32) (m : Fin 32) : IVec S160x256 32 :=
  codeOf (BitVec.ofNat 32 (i 1).val) m (ldM arg11 harg11 xs1) (k0_pay211 (ldM arg12 harg12 xs2)) (ldT i hc2 arg10 harg10 xs0 m)

end Cert.TablesIdeal.Tab

end
-- ==== Proof.TabIdealPieces.lean ====
/- The pieces the body of the tables kernel leaves are those of its steps. -/
module

public import proofs.«01_k».proof.Proof.TabIdealLoads
public import Idealize.ShloMosaic.Lib.VecWindow

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

set_option maxHeartbeats 0 in
theorem pieces_B_tab (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) :
    (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).1 = tabPieces i hc1 (ldTabs i hc1 arg2 harg2 arg3 harg3 arg4 harg4 x0 x1 x2) := by
  sl_kernel_rfl

set_option maxHeartbeats 0 in
theorem pieces_B_min (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) :
    (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1 = [⟨Rect.unit (s := S160x128) ![0, 0] S160x128.size inb_S160x128_S160x128_0_0, shapeCast S160x128 (minFold (BitVec.ofNat 32 (i 1).val) (ldTabs i hc1 arg2 harg2 arg3 harg3 arg4 harg4 x0 x1 x2) (ldM arg11 harg11 xs1)) shapeCasts_S160x128_S160x128⟩] := by
  sl_kernel_rfl

set_option maxHeartbeats 0 in
theorem pieces_B_max (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) :
    (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1 = [⟨Rect.unit (s := S160x128) ![0, 0] S160x128.size inb_S160x128_S160x128_0_0, shapeCast S160x128 (maxFold (ldTabs i hc1 arg2 harg2 arg3 harg3 arg4 harg4 x0 x1 x2) (ldM arg12 harg12 xs2)) shapeCasts_S160x128_S160x128⟩] := by
  sl_kernel_rfl

set_option maxHeartbeats 0 in
theorem pieces_A_tab (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) :
    (kernelRun0_A c i arg2 harg2 arg3 harg3 arg4 harg4 arg5 harg5 arg6 harg6 arg7 harg7 arg8 harg8 arg9 harg9 arg10 harg10 arg11 harg11 arg12 harg12 hc0 hc1 hc2 x0 x1 x2 xs0).1 = tabPieces i hc1 (ldTabs i hc1 arg2 harg2 arg3 harg3 arg4 harg4 x0 x1 x2) := by
  sl_kernel_rfl

set_option maxHeartbeats 0 in
theorem pieces_A_min (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) :
    (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.1 = [⟨Rect.unit (s := S160x128) ![0, 0] S160x128.size inb_S160x128_S160x128_0_0, shapeCast S160x128 (minFold (BitVec.ofNat 32 (i 1).val) (ldTabs i hc1 arg2 harg2 arg3 harg3 arg4 harg4 x0 x1 x2) (kernelRun0_A.sl.v42 c arg11)) shapeCasts_S160x128_S160x128⟩, ⟨Rect.unit (s := S160x128) ![0, 0] S160x128.size inb_S160x128_S160x128_0_0, k0_pay1⟩] := by
  sl_kernel_rfl

set_option maxHeartbeats 0 in
theorem pieces_A_max (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) :
    (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.2.1 = [⟨Rect.unit (s := S160x128) ![0, 0] S160x128.size inb_S160x128_S160x128_0_0, shapeCast S160x128 (maxFold (ldTabs i hc1 arg2 harg2 arg3 harg3 arg4 harg4 x0 x1 x2) (kernelRun0_A.sl.v43 c arg12)) shapeCasts_S160x128_S160x128⟩, ⟨Rect.unit (s := S160x128) ![0, 0] S160x128.size inb_S160x128_S160x128_0_0, k0_pay2⟩] := by
  sl_kernel_rfl

set_option maxHeartbeats 0 in
theorem pieces_C_words (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1 = wordPieces (ldCode i hc2 arg10 harg10 arg11 harg11 arg12 harg12 xs0 xs1 xs2) := by
  sl_kernel_rfl

set_option maxHeartbeats 0 in
theorem pieces_C_codes (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1 = [⟨Rect.unit (s := S160x32x256) ![0, 0, 0] S160x32x256.size inb_S160x32x256_S160x32x256_0_0_0, codesOf (ldCode i hc2 arg10 harg10 arg11 harg11 arg12 harg12 xs0 xs1 xs2)⟩] := by
  sl_kernel_rfl

set_option maxHeartbeats 0 in
theorem pieces_C_delta (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1 = [⟨Rect.unit (s := S160x128) ![0, 0] S160x128.size inb_S160x128_S160x128_0_0, deltaOf (ldM arg12 harg12 xs2)⟩] := by
  sl_kernel_rfl

set_option maxHeartbeats 0 in
theorem pieces_C_tmin (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.1 = [⟨Rect.unit (s := S160x128) ![0, 0] S160x128.size inb_S160x128_S160x128_0_0, ldM arg11 harg11 xs1⟩] := by
  sl_kernel_rfl

set_option maxHeartbeats 0 in
theorem pieces_C_tsum (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) :
    (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.2.1 = [⟨Rect.unit (s := S160x128) ![0, 0] S160x128.size inb_S160x128_S160x128_0_0, tsumOf (ldM arg11 harg11 xs1)⟩] := by
  sl_kernel_rfl

theorem prevMin (c : Dev nD) (arg11 : Memref sig .tc .vmem S160x128 .f32) : kernelRun0_A.sl.v42 (F := F) c arg11 = k0_pay1 :=
  View.readCov_full _ _ _ _ _
theorem prevMax (c : Dev nD) (arg12 : Memref sig .tc .vmem S160x128 .f32) : kernelRun0_A.sl.v43 (F := F) c arg12 = k0_pay2 :=
  View.readCov_full _ _ _ _ _

end Cert.TablesIdeal.Tab

end
-- ==== Proof.TabIdealReads.lean ====
/- The loads of the tables kernel's body, and what its scratch reads after a tile's stores. -/
module

public import proofs.«01_k».proof.Proof.TabIdealLoads
public import Idealize.ShloMosaic.Lib.WholeRead
public import Idealize.ShloMosaic.Lib.WritesUnit
public import Idealize.ShloMosaic.Lib.ValueLayout
public import Idealize.ShloMosaic.Lib.PointwiseCore
public import Idealize.ShloMosaic.Lib.Pipeline.ReadBack
public import Idealize.ShloMosaic.Lib.Pipeline.ValueKit

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

/-- A tile of queries of the block. -/
def xld (x0 : Vec F S2x160x128 .bf16) (h : Fin 2) : Vec F S1x160x128 .bf16 := fun y => x0 (ix3 h (y 1 : Fin 160) (y 2 : Fin 128))
/-- A tile of centroids of the block. -/
def cld (x1 : Vec F S256x256 .fp8e4m3) (h : Fin 2) : Vec F S128x256 .fp8e4m3 :=
  fun y => x1 (ix2 (⟨128 * h.val + (y 0).val, by have h1 : (y 0).val < 128 := (y 0).isLt; have := h.isLt; omega⟩ : Fin 256) (y 1 : Fin 256))
/-- The scale of a tile's sub-space. -/
def sld (n : Fin 4) (x2 : Vec F S128 .f32) (m : Fin 32) : Elt F .f32 := x2 (ix1 (⟨32 * n.val + m.val, by omega⟩ : Fin 128))
/-- A sub-space's table in the scratch. -/
def tld (n : Fin 4) (d : Vec F S128x160x256 .f32) (m : Fin 32) : Vec F S1x160x256 .f32 :=
  fun y => d (ix3 (⟨32 * n.val + m.val, by omega⟩ : Fin 128) (y 1 : Fin 160) (y 2 : Fin 256))

theorem ldX_eq (arg2 : Memref sig .tc .vmem S2x160x128 .bf16) (harg2 : arg2.IsWhole) (x0 : Vec F S2x160x128 .bf16) (h : Fin 2) :
    ldX arg2 harg2 x0 h = xld x0 h := by
  funext y
  fin_cases h
  · exact (harg2.readAt_unread x0 (Rect.unit (s := S2x160x128) ![0, 0, 0] S1x160x128.size inb_S2x160x128_S1x160x128_0_0_0).toLoadRect y).trans (congrArg x0 (funext fun a => Fin.ext (by
      fin_cases a
      · have := (y 0).isLt; show 0 + 1 * (y 0).val = 0; have h1 : (y 0).val < 1 := this; omega
      · show 0 + 1 * (y 1).val = (y 1).val; omega
      · show 0 + 1 * (y 2).val = (y 2).val; omega)))
  · exact (harg2.readAt_unread x0 (Rect.unit (s := S2x160x128) ![1, 0, 0] S1x160x128.size inb_S2x160x128_S1x160x128_1_0_0).toLoadRect y).trans (congrArg x0 (funext fun a => Fin.ext (by
      fin_cases a
      · have := (y 0).isLt; show 1 + 1 * (y 0).val = 1; have h1 : (y 0).val < 1 := this; omega
      · show 0 + 1 * (y 1).val = (y 1).val; omega
      · show 0 + 1 * (y 2).val = (y 2).val; omega)))

theorem ldC_eq (arg3 : Memref sig .tc .vmem S256x256 .fp8e4m3) (harg3 : arg3.IsWhole) (x1 : Vec F S256x256 .fp8e4m3) (h : Fin 2) :
    ldC arg3 harg3 x1 h = cld x1 h := by
  funext y
  fin_cases h
  · exact (harg3.readAt_unread x1 (Rect.unit (s := S256x256) ![0, 0] S128x256.size inb_S256x256_S128x256_0_0).toLoadRect y).trans (congrArg x1 (funext fun a => Fin.ext (by
      fin_cases a
      · show 0 + 1 * (y 0).val = 128 * 0 + (y 0).val; omega
      · show 0 + 1 * (y 1).val = (y 1).val; omega)))
  · exact (harg3.readAt_unread x1 (Rect.unit (s := S256x256) ![128, 0] S128x256.size inb_S256x256_S128x256_128_0).toLoadRect y).trans (congrArg x1 (funext fun a => Fin.ext (by
      fin_cases a
      · show 128 + 1 * (y 0).val = 128 * 1 + (y 0).val; omega
      · show 0 + 1 * (y 1).val = (y 1).val; omega)))

theorem ldS_eq (i : grid0.Coords) (hc1 : cond0_1 i) (arg4 : Memref sig .tc .smem S128 .f32) (harg4 : arg4.IsWhole) (x2 : Vec F S128 .f32) (m : Fin 32) :
    ldS i hc1 arg4 harg4 x2 m = sld (i 1) x2 m := by
  refine (harg4.readAt_unread x2 _ _).trans (congrArg x2 (funext fun a => Fin.ext ?_))
  fin_cases a
  show (k0_off1 i (BitVec.ofNat 32 m.val)) 0 + 1 * 0 = 32 * (i 1).val + m.val
  rw [k0_off1_eq i m]; rfl

theorem ldM_eq (arg11 : Memref sig .tc .vmem S160x128 .f32) (harg11 : arg11.IsWhole) (xs1 : Vec F S160x128 .f32) : ldM arg11 harg11 xs1 = xs1 := by
  funext y
  refine (harg11.readAt_unread xs1 (Rect.unit (s := S160x128) ![0, 0] S160x128.size inb_S160x128_S160x128_0_0).toLoadRect y).trans (congrArg xs1 (funext fun a => Fin.ext ?_))
  fin_cases a
  · show 0 + 1 * (y 0).val = (y 0).val; omega
  · show 0 + 1 * (y 1).val = (y 1).val; omega

theorem ldT_eq (i : grid0.Coords) (hc2 : cond0_2 i) (arg10 : Memref sig .tc .vmem S128x160x256 .f32) (harg10 : arg10.IsWhole) (xs0 : Vec F S128x160x256 .f32) (m : Fin 32) :
    ldT i hc2 arg10 harg10 xs0 m = tld (i 1) xs0 m := by
  funext y
  refine (harg10.readAt_unread xs0 (Rect.unit (s := S128x160x256) (k0_off3 i (BitVec.ofNat 32 m.val)) S1x160x256.size (rdInb i hc2 m)).toLoadRect y).trans (congrArg xs0 (funext fun a => Fin.ext ?_))
  have e := k0_off3_eq i m
  fin_cases a
  · show (k0_off3 i (BitVec.ofNat 32 m.val)) 0 + 1 * (y 0).val = 32 * (i 1).val + m.val
    rw [e]; have h1 : (y 0).val < 1 := (y 0).isLt
    show 32 * (i 1).val + m.val + 1 * (y 0).val = _; omega
  · show (k0_off3 i (BitVec.ofNat 32 m.val)) 1 + 1 * (y 1).val = (y 1).val
    rw [e]; show 0 + 1 * (y 1).val = (y 1).val; omega
  · show (k0_off3 i (BitVec.ofNat 32 m.val)) 2 + 1 * (y 2).val = (y 2).val
    rw [e]; show 0 + 1 * (y 2).val = (y 2).val; omega

/-- The tile's tables from its blocks. -/
def blockTabs (n : Fin 4) (x0 : Vec F S2x160x128 .bf16) (x1 : Vec F S256x256 .fp8e4m3) (x2 : Vec F S128 .f32) : Fin 32 → FVec F S160x256 .f32 :=
  tabs (xld x0) (cld x1) (sld n x2)

theorem ldTabs_eq (i : grid0.Coords) (hc1 : cond0_1 i) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole)
    (x0 : Vec F S2x160x128 .bf16) (x1 : Vec F S256x256 .fp8e4m3) (x2 : Vec F S128 .f32) :
    ldTabs i hc1 arg2 harg2 arg3 harg3 arg4 harg4 x0 x1 x2 = blockTabs (i 1) x0 x1 x2 := by
  unfold ldTabs blockTabs
  rw [show ldX arg2 harg2 x0 = xld x0 from funext fun h => ldX_eq arg2 harg2 x0 h,
    show ldC arg3 harg3 x1 = cld x1 from funext fun h => ldC_eq arg3 harg3 x1 h,
    show ldS i hc1 arg4 harg4 x2 = sld (i 1) x2 from funext fun h => ldS_eq i hc1 arg4 harg4 x2 h]

/-- The tile's codes from the scratch. -/
def blockCode (n : Fin 4) (d : Vec F S128x160x256 .f32) (mn mx : Vec F S160x128 .f32) (m : Fin 32) : IVec S160x256 32 :=
  codeOf (BitVec.ofNat 32 n.val) m mn (k0_pay211 mx) (tld n d m)

theorem ldCode_eq (i : grid0.Coords) (hc2 : cond0_2 i) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole)
    (xs0 : Vec F S128x160x256 .f32) (xs1 xs2 : Vec F S160x128 .f32) :
    ldCode i hc2 arg10 harg10 arg11 harg11 arg12 harg12 xs0 xs1 xs2 = blockCode (i 1) xs0 xs1 xs2 := by
  funext m
  unfold ldCode blockCode
  rw [ldM_eq, ldM_eq, ldT_eq]

/-- What the tables' scratch reads after a tile's stores: the tile's tables at the tile's sub-spaces, what it held elsewhere. -/
theorem read_tabs (v : View sig .tc .vmem S128x160x256 .f32) (f : v.ty.Contents (Elt F)) (i : grid0.Coords) (hc1 : cond0_1 i)
    (T : Fin 32 → FVec F S160x256 .f32) (l : List (Fin 32)) (g : Fin 128) (q : Fin 160) (k : Fin 256) :
    (∀ m ∈ l, g.val = 32 * (i 1).val + m.val →
      v.read (Elt F) (v.writes (Elt F) f (l.map fun m => ⟨tabRect i hc1 m, shapeCast S1x160x256 (T m) shapeCasts_S160x256_S1x160x256⟩)) (ix3 g q k) = T m (ix2 q k))
    ∧ ((∀ m ∈ l, g.val ≠ 32 * (i 1).val + m.val) →
      v.read (Elt F) (v.writes (Elt F) f (l.map fun m => ⟨tabRect i hc1 m, shapeCast S1x160x256 (T m) shapeCasts_S160x256_S1x160x256⟩)) (ix3 g q k) = v.read (Elt F) f (ix3 g q k)) := by
  induction l with
  | nil => exact ⟨fun m hm => absurd hm List.not_mem_nil, fun _ => rfl⟩
  | cons m0 l ih =>
    have hit : g.val = 32 * (i 1).val + m0.val →
        v.read (Elt F) (v.writes (Elt F) f ((m0 :: l).map fun m => ⟨tabRect i hc1 m, shapeCast S1x160x256 (T m) shapeCasts_S160x256_S1x160x256⟩)) (ix3 g q k) = T m0 (ix2 q k) := by
      intro hg
      refine (View.read_writes_cons_unit_of_mem v f (tabInb i hc1 m0) _ _ (ix3 g q k) (ix3 (0 : Fin 1) q k) (k0_off2_eq i m0) (fun a => ?_)).trans ?_
      · fin_cases a
        · show g.val = 32 * (i 1).val + m0.val + 0; omega
        · show q.val = 0 + q.val; omega
        · show k.val = 0 + k.val; omega
      · pointwise [shapeCast]
    have miss : g.val ≠ 32 * (i 1).val + m0.val →
        v.read (Elt F) (v.writes (Elt F) f ((m0 :: l).map fun m => ⟨tabRect i hc1 m, shapeCast S1x160x256 (T m) shapeCasts_S160x256_S1x160x256⟩)) (ix3 g q k)
          = v.read (Elt F) (v.writes (Elt F) f (l.map fun m => ⟨tabRect i hc1 m, shapeCast S1x160x256 (T m) shapeCasts_S160x256_S1x160x256⟩)) (ix3 g q k) := by
      intro hg
      refine View.read_writes_cons_unit_of_not_mem v f (tabInb i hc1 m0) _ _ (ix3 g q k) (k0_off2_eq i m0) 0 ?_
      show g.val < 32 * (i 1).val + m0.val ∨ 32 * (i 1).val + m0.val + 1 ≤ g.val
      omega
    refine ⟨fun m hm hg => ?_, fun hno => ?_⟩
    · by_cases h0 : g.val = 32 * (i 1).val + m0.val
      · have : m = m0 := Fin.ext (by omega)
        subst this; exact hit h0
      · rcases List.mem_cons.mp hm with rfl | hm'
        · exact absurd hg h0
        · exact (miss h0).trans (ih.1 m hm' hg)
    · exact (miss (hno m0 List.mem_cons_self)).trans (ih.2 fun m hm => hno m (List.mem_cons_of_mem _ hm))

end Cert.TablesIdeal.Tab

end
-- ==== Proof.TabIdealAfter.lean ====
/- What each buffer the body of the tables kernel writes reads after it. -/
module

public import proofs.«01_k».proof.Proof.TabIdealPieces
public import proofs.«01_k».proof.Proof.TabIdealReads

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

theorem mem_subs : ∀ m : Fin 32, m ∈ subs.reverse := by decide

theorem readMinA (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.1) = shapeCast S160x128 (minFold (BitVec.ofNat 32 (i 1).val) (blockTabs (i 1) x0 x1 x2) k0_pay1) shapeCasts_S160x128_S160x128 := by
  rw [pieces_A_min, ldTabs_eq, prevMin]
  exact View.read_writes_full _ _ _ _ _

theorem readMaxA (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 hc0 hc1 hc2 x0 x1 x2 xs0).2.2.1) = shapeCast S160x128 (maxFold (blockTabs (i 1) x0 x1 x2) k0_pay2) shapeCasts_S160x128_S160x128 := by
  rw [pieces_A_max, ldTabs_eq, prevMax]
  exact View.read_writes_full _ _ _ _ _

theorem readTabA (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : cond0_0 i) (hc1 : cond0_1 i) (hc2 : ¬cond0_2 i) (x0 : Vec F S2x160x128 .bf16) (x1 : Vec F S256x256 .fp8e4m3) (x2 : Vec F S128 .f32) (xs0 : Vec F S128x160x256 .f32) (g : Fin 128) (q : Fin 160) (k : Fin 256) :
    (∀ m : Fin 32, g.val = 32 * (i 1).val + m.val → arg10.view.read (Elt F) (arg10.view.writes (Elt F) (harg10.unread xs0) (kernelRun0_A c i arg2 harg2 arg3 harg3 arg4 harg4 arg5 harg5 arg6 harg6 arg7 harg7 arg8 harg8 arg9 harg9 arg10 harg10 arg11 harg11 arg12 harg12 hc0 hc1 hc2 x0 x1 x2 xs0).1) (ix3 g q k) = blockTabs (i 1) x0 x1 x2 m (ix2 q k))
    ∧ (g.val < 32 * (i 1).val → arg10.view.read (Elt F) (arg10.view.writes (Elt F) (harg10.unread xs0) (kernelRun0_A c i arg2 harg2 arg3 harg3 arg4 harg4 arg5 harg5 arg6 harg6 arg7 harg7 arg8 harg8 arg9 harg9 arg10 harg10 arg11 harg11 arg12 harg12 hc0 hc1 hc2 x0 x1 x2 xs0).1) (ix3 g q k) = xs0 (ix3 g q k)) := by
  rw [pieces_A_tab, ldTabs_eq]
  have h := read_tabs arg10.view (harg10.unread xs0) i hc1 (blockTabs (i 1) x0 x1 x2) subs.reverse g q k
  exact ⟨fun m hm => h.1 m (mem_subs m) hm, fun hg => (h.2 fun m _ => by omega).trans (congrFun (harg10.read_unread xs0) _)⟩

theorem readMinB (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1) = shapeCast S160x128 (minFold (BitVec.ofNat 32 (i 1).val) (blockTabs (i 1) x0 x1 x2) xs1) shapeCasts_S160x128_S160x128 := by
  rw [pieces_B_min, ldTabs_eq, ldM_eq]
  exact View.read_writes_full _ _ _ _ _

theorem readMaxB (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1) = shapeCast S160x128 (maxFold (blockTabs (i 1) x0 x1 x2) xs2) shapeCasts_S160x128_S160x128 := by
  rw [pieces_B_max, ldTabs_eq, ldM_eq]
  exact View.read_writes_full _ _ _ _ _

theorem readTabB (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : cond0_1 i) (hc2 : ¬cond0_2 i) (x0 : Vec F S2x160x128 .bf16) (x1 : Vec F S256x256 .fp8e4m3) (x2 : Vec F S128 .f32) (xs0 : Vec F S128x160x256 .f32) (xs1 xs2 : Vec F S160x128 .f32) (g : Fin 128) (q : Fin 160) (k : Fin 256) :
    (∀ m : Fin 32, g.val = 32 * (i 1).val + m.val → arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).1) (ix3 g q k) = blockTabs (i 1) x0 x1 x2 m (ix2 q k))
    ∧ (g.val < 32 * (i 1).val → arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 hc0 hc1 hc2 x0 x1 x2 xs0 xs1 xs2).1) (ix3 g q k) = xs0 (ix3 g q k)) := by
  rw [pieces_B_tab, ldTabs_eq]
  have h := read_tabs arg10.view (harg10.unread xs0) i hc1 (blockTabs (i 1) x0 x1 x2) subs.reverse g q k
  exact ⟨fun m hm => h.1 m (mem_subs m) hm, fun hg => (h.2 fun m _ => by omega).trans (congrFun (harg10.read_unread xs0) _)⟩

theorem readCodes (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.1) = codesOf (blockCode (i 1) xs0 xs1 xs2) := by
  rw [pieces_C_codes, ldCode_eq]
  exact View.read_writes_full _ _ _ _ _

theorem readDelta (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.1) = deltaOf xs2 := by
  rw [pieces_C_delta, ldM_eq]
  exact View.read_writes_full _ _ _ _ _

theorem readTmin (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.1) = xs1 := by
  rw [pieces_C_tmin, ldM_eq]
  exact View.read_writes_full _ _ _ _ _

theorem readTsum (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).2.2.2.2.1) = tsumOf xs1 := by
  rw [pieces_C_tsum, ldM_eq]
  exact View.read_writes_full _ _ _ _ _

theorem coverWords (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (y : S32x2x40x128.Idx) : ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1 S1x1x40x128.size (by sl_kernel_rfl) y

/-- A buffer of words, to state what the stores leave. -/
abbrev VO3 : View sig .tc .vmem S32x2x40x128 .i32 := (win0_3.stage 0).view
/-- The words the stores leave. -/
def wordsOf (C : Fin 32 → IVec S160x256 32) : Vec F S32x2x40x128 .i32 :=
  VO3.read (Elt F) (VO3.writes (Elt F) VO3.junk (wordPieces C))

theorem readWords (c : Dev nD) (i : grid0.Coords) (arg2 : Memref sig .tc .vmem S2x160x128 .bf16) (harg2 : arg2.IsWhole) (arg3 : Memref sig .tc .vmem S256x256 .fp8e4m3) (harg3 : arg3.IsWhole) (arg4 : Memref sig .tc .smem S128 .f32) (harg4 : arg4.IsWhole) (arg5 : Memref sig .tc .vmem S32x2x40x128 .i32) (harg5 : arg5.IsWhole) (arg6 : Memref sig .tc .vmem S160x32x256 .i8) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x160x256 .f32) (harg10 : arg10.IsWhole) (arg11 : Memref sig .tc .vmem S160x128 .f32) (harg11 : arg11.IsWhole) (arg12 : Memref sig .tc .vmem S160x128 .f32) (harg12 : arg12.IsWhole) (hc0 : ¬cond0_0 i) (hc1 : ¬cond0_1 i) (hc2 : cond0_2 i) (x0 : Vec F S2x160x128 .bf16) (x1 : Vec F S256x256 .fp8e4m3) (x2 : Vec F S128 .f32) (xs0 : Vec F S128x160x256 .f32) (xs1 xs2 : Vec F S160x128 .f32) (f : arg5.view.ty.Contents (Elt F)) :
    arg5.view.read (Elt F) (arg5.view.writes (Elt F) f (kernelRun0_C c i arg2 harg2 arg3 harg3 arg4 harg4 arg5 harg5 arg6 harg6 arg7 harg7 arg8 harg8 arg9 harg9 arg10 harg10 arg11 harg11 arg12 harg12 hc0 hc1 hc2 x0 x1 x2 xs0 xs1 xs2).1) = wordsOf (F := F) (blockCode (i 1) xs0 xs1 xs2) := by
  have h := coverWords c i arg2 harg2 arg3 harg3 arg4 harg4 arg5 harg5 arg6 harg6 arg7 harg7 arg8 harg8 arg9 harg9 arg10 harg10 arg11 harg11 arg12 harg12 hc0 hc1 hc2 x0 x1 x2 xs0 xs1 xs2
  unfold wordsOf
  rw [pieces_C_words, ldCode_eq] at h ⊢
  exact View.read_writes_of_cover _ _ _ _ _ h

end Cert.TablesIdeal.Tab

end
-- ==== Proof.TabIdealData.lean ====
/- The proof data of the tables kernel's pipeline: what it carries between points and what it leaves in its outputs. -/
module

public import proofs.«01_k».proof.Proof.TabIdealAfter

@[expose] public section

set_option maxRecDepth 16384

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first phase's point of a tile. -/
abbrev pt (n : Fin 4) : Fin cfg0.N := ⟨n.val, by have h := N_0; have hn := n.isLt; show n.val < grid0.N; omega⟩

/-- A tile's tables. -/
def TTn (c : Dev nD) (n : Fin 4) : Fin 32 → FVec F S160x256 .f32 := blockTabs n (iblk m c 0 (pt n)) (iblk m c 1 (pt n)) (iblk m c 2 (pt n))
/-- The tables of all sub-spaces. -/
def TT (c : Dev nD) (g : Fin 128) : FVec F S160x256 .f32 := TTn m c ⟨g.val / 32, by omega⟩ ⟨g.val % 32, Nat.mod_lt _ (by decide)⟩

/-- The minima after the first tiles. -/
def MN (c : Dev nD) : ℕ → Vec F S160x128 .f32
  | 0 => k0_pay1
  | n + 1 => if h : n < 4 then shapeCast S160x128 (minFold (BitVec.ofNat 32 n) (TTn m c ⟨n, h⟩) (MN c n)) shapeCasts_S160x128_S160x128 else MN c n
/-- The largest spreads after the first tiles. -/
def MX (c : Dev nD) : ℕ → Vec F S160x128 .f32
  | 0 => k0_pay2
  | n + 1 => if h : n < 4 then shapeCast S160x128 (maxFold (TTn m c ⟨n, h⟩) (MX c n)) shapeCasts_S160x128_S160x128 else MX c n

theorem MN_succ (c : Dev nD) (n : Fin 4) : MN m c (n.val + 1) = shapeCast S160x128 (minFold (BitVec.ofNat 32 n.val) (TTn m c n) (MN m c n.val)) shapeCasts_S160x128_S160x128 := by
  rw [MN, dif_pos n.isLt]
theorem MX_succ (c : Dev nD) (n : Fin 4) : MX m c (n.val + 1) = shapeCast S160x128 (maxFold (TTn m c n) (MX m c n.val)) shapeCasts_S160x128_S160x128 := by
  rw [MX, dif_pos n.isLt]

/-- The scratch holds the first `n` tiles' tables. -/
def Tab (c : Dev nD) (n : ℕ) (d : Vec F S128x160x256 .f32) : Prop :=
  ∀ (g : Fin 128) (q : Fin 160) (k : Fin 256), g.val < 32 * n → d (ix3 g q k) = TT m c g (ix2 q k)

theorem Tab_succ (c : Dev nD) (n : Fin 4) (d d' : Vec F S128x160x256 .f32) (hd : Tab m c n.val d)
    (hnew : ∀ (g : Fin 128) (q : Fin 160) (k : Fin 256), (∀ u : Fin 32, g.val = 32 * n.val + u.val → d' (ix3 g q k) = TTn m c n u (ix2 q k))
      ∧ (g.val < 32 * n.val → d' (ix3 g q k) = d (ix3 g q k))) : Tab m c (n.val + 1) d' := by
  intro g q k hg
  by_cases h : g.val < 32 * n.val
  · exact ((hnew g q k).2 h).trans (hd g q k h)
  · refine ((hnew g q k).1 ⟨g.val % 32, Nat.mod_lt _ (by decide)⟩ (by show g.val = 32 * n.val + g.val % 32; omega)).trans ?_
    unfold TT
    rw [show (⟨g.val / 32, by omega⟩ : Fin 4) = n from Fin.ext (by show g.val / 32 = n.val; omega)]

/-- A tile's codes. -/
def CC (c : Dev nD) (n : Fin 4) (u : Fin 32) : IVec S160x256 32 :=
  codeOf (BitVec.ofNat 32 n.val) u (MN m c 4) (k0_pay211 (MX m c 4)) (fun y : S1x160x256.Idx => TTn m c n u (ix2 (y 1 : Fin 160) (y 2 : Fin 256)))

theorem blockCode_eq (c : Dev nD) (n : Fin 4) (d : Vec F S128x160x256 .f32) (hd : Tab m c 4 d) :
    blockCode n d (MN m c 4) (MX m c 4) = CC m c n := by
  funext u
  unfold blockCode CC
  refine congrArg (codeOf (BitVec.ofNat 32 n.val) u (MN m c 4) (k0_pay211 (MX m c 4))) (funext fun y => ?_)
  unfold tld
  refine (hd _ _ _ (by show 32 * n.val + u.val < 32 * 4; omega)).trans ?_
  unfold TT
  have e1 : (⟨(32 * n.val + u.val) / 32, by omega⟩ : Fin 4) = n := Fin.ext (by show (32 * n.val + u.val) / 32 = n.val; omega)
  have e2 : (⟨(32 * n.val + u.val) % 32, Nat.mod_lt _ (by decide)⟩ : Fin 32) = u := Fin.ext (by show (32 * n.val + u.val) % 32 = u.val; omega)
  show TTn m c ⟨(32 * n.val + u.val) / 32, _⟩ ⟨(32 * n.val + u.val) % 32, _⟩ _ = _
  rw [e1, e2]

/-- What the kernel carries from point to point. -/
def PhiS (c : Dev nD) : ℕ → sProp 𝕄
  | 0 => Pipeline.ΦA spec0 c
  | n + 1 => iprop((∃ d, owns (c : Thread nD τ) scM0_0 fullShare d ∗ ⌜Tab m c (min (n + 1) 4) d⌝) ∗ owns (c : Thread nD τ) scM0_1 fullShare (MN m c (min (n + 1) 4))
      ∗ owns (c : Thread nD τ) scM0_2 fullShare (MX m c (min (n + 1) 4)) ∗ (∃ r, prngReg c r))

theorem PhiS_succ (c : Dev nD) (n : ℕ) : PhiS m c (n + 1) = iprop((∃ d, owns (c : Thread nD τ) scM0_0 fullShare d ∗ ⌜Tab m c (min (n + 1) 4) d⌝) ∗ owns (c : Thread nD τ) scM0_1 fullShare (MN m c (min (n + 1) 4))
      ∗ owns (c : Thread nD τ) scM0_2 fullShare (MX m c (min (n + 1) 4)) ∗ (∃ r, prngReg c r)) := rfl

/-- The tile of a point. -/
abbrev tl (t : Fin cfg0.N) : Fin 4 := ⟨t.val % 4, Nat.mod_lt _ (by decide)⟩

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wordsOf (F := F) (CC m c (tl t))
    | ⟨4, _⟩ => codesOf (CC m c (tl t))
    | ⟨5, _⟩ => deltaOf (MX m c 4)
    | ⟨6, _⟩ => MN m c 4
    | ⟨7, _⟩ => tsumOf (MN m c 4)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = wordsOf (F := F) (CC m c (tl t)) := by dsimp only [dats]
theorem after0_4 (c : Dev nD) (t : Fin cfg0.N) : (dats m 0 c).after 4 t = codesOf (CC m c (tl t)) := by dsimp only [dats]
theorem after0_5 (c : Dev nD) (t : Fin cfg0.N) : (dats m 0 c).after 5 t = deltaOf (MX m c 4) := by dsimp only [dats]
theorem after0_6 (c : Dev nD) (t : Fin cfg0.N) : (dats m 0 c).after 6 t = MN m c 4 := by dsimp only [dats]
theorem after0_7 (c : Dev nD) (t : Fin cfg0.N) : (dats m 0 c).after 7 t = tsumOf (MN m c 4) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem out_fetch : ∀ (w : Fin 8), 3 ≤ w.val → ∀ t : Fin cfg0.N, (cfg0.win w).fetch t = false :=
  (by decide +kernel : ∀ (w : Fin 8), 3 ≤ w.val → ∀ t : Fin grid0.N, (cfg0.win w).fetch t = false)
theorem out_idle : ∀ (w : Fin 8), 3 ≤ w.val → ∀ t : Fin cfg0.N, t.val < 4 → cfg0.idle w (grid0.coords t) = true :=
  (by decide +kernel : ∀ (w : Fin 8), 3 ≤ w.val → ∀ t : Fin grid0.N, t.val < 4 → idle0 w (grid0.coords t) = true)
theorem out_live : ∀ (w : Fin 8) (t : Fin cfg0.N), 4 ≤ t.val → cfg0.idle w (grid0.coords t) = false :=
  (by decide +kernel : ∀ (w : Fin 8) (t : Fin grid0.N), 4 ≤ t.val → idle0 w (grid0.coords t) = false)
theorem out_flush : ∀ (w : Fin 8), 3 ≤ w.val → ∀ t : Fin cfg0.N, t.val < 4 → (cfg0.win w).flush t = false :=
  (by decide +kernel : ∀ (w : Fin 8), 3 ≤ w.val → ∀ t : Fin grid0.N, t.val < 4 → (cfg0.win w).flush t = false)

/-- Through the first phase an output's buffer is what it was at first. -/
theorem before_out (c : Dev nD) (w : Fin 8) (hw : 3 ≤ w.val) : ∀ (n : ℕ) (hn : n < cfg0.N), n < 4 → ∀ d, (dats m 0 c).before w ⟨n, hn⟩ d = d
  | 0, hn, _, d => by
    unfold Dat.before
    rw [out_fetch w hw ⟨0, hn⟩, if_neg Bool.false_ne_true, if_pos rfl]
  | n + 1, hn, h4, d => by
    rw [(dats m 0 c).before_of_pos w ⟨n + 1, hn⟩ (Nat.succ_ne_zero n) (out_fetch w hw _) d]
    have hn' : n < cfg0.N := Nat.lt_of_succ_lt hn
    rw [show (⟨(⟨n + 1, hn⟩ : Fin cfg0.N).val - 1, Nat.lt_of_le_of_lt (Nat.sub_le _ _) (⟨n + 1, hn⟩ : Fin cfg0.N).isLt⟩ : Fin cfg0.N) = ⟨n, hn'⟩ from rfl,
      out_flush w hw ⟨n, hn'⟩ (Nat.lt_of_succ_lt h4), if_neg Bool.false_ne_true]
    unfold Dat.left
    rw [show cfg0.idle w (cfg0.grid.coords ⟨n, hn'⟩) = true from out_idle w hw ⟨n, hn'⟩ (Nat.lt_of_succ_lt h4)]
    exact before_out c w hw n hn' (Nat.lt_of_succ_lt h4) d

theorem leaves_idle (c : Dev nD) (w : Fin 8) (hw : 3 ≤ w.val) (t : Fin cfg0.N) (h : t.val < 4) (X : (cfg0.win w).block.Idx → Elt F (cfg0.win w).elt) :
    owns (c : Thread nD τ) ((cfg0.win w).stage (cfg0.slots t w)) fullShare X ⊢ (dats m 0 c).leavesExact w t := by
  rw [(dats m 0 c).leavesExact_idle w t (out_idle w hw t h) (out_flush w hw t h)]
  iintro H
  iexists X
  rw [before_out m c w hw t.val t.isLt h X]
  iexact H

theorem leaves_live (c : Dev nD) (w : Fin 8) (t : Fin cfg0.N) (h : w.val < 3 ∨ 4 ≤ t.val) :
    (dats m 0 c).leavesExact w t = owns (c : Thread nD τ) ((cfg0.win w).stage (cfg0.slots t w)) fullShare ((dats m 0 c).after w t) := by
  have hi : cfg0.idle w (cfg0.grid.coords t) = false := by
    rcases h with h | h
    · have h3 : w = 0 ∨ w = 1 ∨ w = 2 := by
        rcases w with ⟨w, hw⟩; have : w < 3 := h
        rcases (by omega : w = 0 ∨ w = 1 ∨ w = 2) with rfl | rfl | rfl
        · exact .inl rfl
        · exact .inr (.inl rfl)
        · exact .inr (.inr rfl)
      rcases h3 with rfl | rfl | rfl <;> rfl
    · exact out_live w t h
  unfold Dat.leavesExact; rw [hi]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The tile of a point is its second coordinate. -/
theorem coord (t : Fin cfg0.N) : (grid0.coords t 1 : Fin 4) = tl t :=
  Fin.ext (by
    have e1 : (grid0.coords t 1).val = t.val / 1 % 4 := Pipeline.Grid.coords_val t 1 (by decide) rfl
    exact e1.trans (by rw [Nat.div_one]))

theorem tl_pt (t : Fin cfg0.N) (h : t.val < 4) : pt (tl t) = t := Fin.ext (by show t.val % 4 = t.val; omega)

theorem blockTabs_eq (c : Dev nD) (t : Fin cfg0.N) (h : t.val < 4) :
    blockTabs (grid0.coords t 1) (iblk m c 0 t) (iblk m c 1 t) (iblk m c 2 t) = TTn m c (tl t) := by
  unfold TTn
  rw [coord t]
  have e := tl_pt t h
  rw [e]

end Cert.TablesIdeal.Tab

end
-- ==== Proof.TabIdealFrame.lean ====
/- The body of the tables kernel at every point, and its run. -/
module

public import proofs.«01_k».proof.Proof.TabIdealData
public import Idealize.ShloMosaic.Lib.Claim

@[expose] public section

set_option maxRecDepth 16384
set_option maxHeartbeats 4000000

noncomputable section

namespace Cert.TablesIdeal.Tab

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at the first point. -/
theorem sound_A (c : Dev nD) (t : Fin cfg0.N) (ht : t.val = 0) :
    bodyPre m c t ⊢ wp frame (wpE (defs₀ (F := F)) Variants.none c none) Set.univ (bodyAt0 t) (fun _ => bodyPost m c t) := by
  have h0 : t.val % 8 = 0 := by omega
  have h1 : t.val < 4 := by omega
  have h2 : ¬ 4 ≤ t.val := by omega
  unfold bodyPre bodyPost bodyAt0
  simp only [before0_0, before0_1, before0_2]
  rw [show (dats m 0 c).owesAt () t.succ = (dats m 0 c).owesAt () t.castSucc from rfl]
  rw [leaves_live m c 0 t (.inl (by decide)), leaves_live m c 1 t (.inl (by decide)), leaves_live m c 2 t (.inl (by decide)), after0_0, after0_1, after0_2]
  rw [show (dats m 0 c).Φ t.castSucc = PhiS m c t.val from rfl, show (dats m 0 c).Φ t.succ = PhiS m c (t.val + 1) from rfl]
  have hT := blockTabs_eq m c t h1
  have ec : ((grid0.coords t 1 : Fin 4)).val = (tl t).val := congrArg Fin.val (coord t)
  have et : (tl t).val = t.val := by show t.val % 4 = t.val; omega
  have em : min (t.val + 1) 4 = (tl t).val + 1 := by omega
  rw [show PhiS m c t.val = Pipeline.ΦA spec0 c from by rw [ht]; rfl, PhiA0_eq, PhiS_succ, em]
  iintro ⟨⟨⟨⟨%e0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ (Memref.isWhole_whole _) _ (Memref.isWhole_whole _) _ (Memref.isWhole_whole _) ((hcond0_0 t).mpr h0) ((hcond0_1 t).mpr h1) (fun h => h2 ((hcond0_2 t).mp h)) (iblk m c 0 t) (iblk m c 1 t) (iblk m c 2 t) e0).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, ⟨%g3, H3⟩, ⟨%g4, H4⟩, ⟨%g5, H5⟩, ⟨%g6, H6⟩, ⟨%g7, H7⟩, HS0, ⟨%es1, HS1⟩, ⟨%es2, HS2⟩⟩
  isplitl [HS0 HS1 HS2 Hg]
  · isplitl [HS0]
    · iexists _; isplitl [HS0]
      · unfold owns; iexists _; isplitr
        swap; · iexact HS0
        ipureintro; rfl
      ipureintro
      refine Tab_succ m c (tl t) e0 _ (fun g q k hg => absurd hg (by omega)) fun g q k => ?_
      have h := readTabA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) e0 g q k
      rw [hT, ec] at h
      exact h
    isplitl [HS1]
    · unfold owns; iexists _; isplitr
      swap; · iexact HS1
      ipureintro
      refine (readMinA c _ _ _ _ _ _ _ _ _ _ _ _ _ _ _ _ _ _ _ _ _ _ _ _ _ _ _ _ _ _ _).trans ?_
      rw [hT, ec, MN_succ, et, ht]; rfl
    isplitl [HS2]
    · unfold owns; iexists _; isplitr
      swap; · iexact HS2
      ipureintro
      refine (readMaxA c _ _ _ _ _ _ _ _ _ _ _ _ _ _ _ _ _ _ _ _ _ _ _ _ _ _ _ _ _ _ _).trans ?_
      rw [hT, MX_succ, et, ht]; rfl
    iexact Hg
  isplitl [Ho]; · iexact Ho
  isplitl [H0]; · iexact H0
  isplitl [H1]; · iexact H1
  isplitl [H2]; · iexact H2
  isplitl [H3]; · iapply (leaves_idle m c 3 (by decide) t h1 g3); iexact H3
  isplitl [H4]; · iapply (leaves_idle m c 4 (by decide) t h1 g4); iexact H4
  isplitl [H5]; · iapply (leaves_idle m c 5 (by decide) t h1 g5); iexact H5
  isplitl [H6]; · iapply (leaves_idle m c 6 (by decide) t h1 g6); iexact H6
  iapply (leaves_idle m c 7 (by decide) t h1 g7); iexact H7

/-- The body at a later point of the first phase. -/
theorem sound_B (c : Dev nD) (t : Fin cfg0.N) (hz : t.val ≠ 0) (h1 : t.val < 4) :
    bodyPre m c t ⊢ wp frame (wpE (defs₀ (F := F)) Variants.none c none) Set.univ (bodyAt0 t) (fun _ => bodyPost m c t) := by
  have h0 : ¬ t.val % 8 = 0 := by omega
  obtain ⟨n, hn⟩ : ∃ n, t.val = n + 1 := ⟨t.val - 1, by omega⟩
  have en : min (n + 1) 4 = (tl t).val := by show min (n + 1) 4 = t.val % 4; omega
  have h2 : ¬ 4 ≤ t.val := by omega
  unfold bodyPre bodyPost bodyAt0
  simp only [before0_0, before0_1, before0_2]
  rw [show (dats m 0 c).owesAt () t.succ = (dats m 0 c).owesAt () t.castSucc from rfl]
  rw [leaves_live m c 0 t (.inl (by decide)), leaves_live m c 1 t (.inl (by decide)), leaves_live m c 2 t (.inl (by decide)), after0_0, after0_1, after0_2]
  rw [show (dats m 0 c).Φ t.castSucc = PhiS m c t.val from rfl, show (dats m 0 c).Φ t.succ = PhiS m c (t.val + 1) from rfl]
  have hT := blockTabs_eq m c t h1
  have ec : ((grid0.coords t 1 : Fin 4)).val = (tl t).val := congrArg Fin.val (coord t)
  have et : (tl t).val = t.val := by show t.val % 4 = t.val; omega
  have em : min (t.val + 1) 4 = (tl t).val + 1 := by omega
  rw [show PhiS m c t.val = PhiS m c (n + 1) from by rw [hn]]
  rw [PhiS_succ m c n, PhiS_succ m c t.val, em, en]
  iintro ⟨⟨⟨%e0, HS0, %hE⟩, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ (Memref.isWhole_whole _) _ (Memref.isWhole_whole _) _ (Memref.isWhole_whole _) (fun h => h0 ((hcond0_0 t).mp h)) ((hcond0_1 t).mpr h1) (fun h => h2 ((hcond0_2 t).mp h)) (iblk m c 0 t) (iblk m c 1 t) (iblk m c 2 t) e0 _ _).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, ⟨%g3, H3⟩, ⟨%g4, H4⟩, ⟨%g5, H5⟩, ⟨%g6, H6⟩, ⟨%g7, H7⟩, HS0, ⟨%es1, HS1⟩, ⟨%es2, HS2⟩⟩
  isplitl [HS0 HS1 HS2 Hg]
  · isplitl [HS0]
    · iexists _; isplitl [HS0]
      · unfold owns; iexists _; isplitr
        swap; · iexact HS0
        ipureintro; rfl
      ipureintro
      refine Tab_succ m c (tl t) e0 _ hE fun g q k => ?_
      have h := readTabB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) e0 (MN m c (tl t).val) (MX m c (tl t).val) g q k
      rw [hT, ec] at h
      exact h
    isplitl [HS1]
    · unfold owns; iexists _; isplitr
      swap; · iexact HS1
      ipureintro
      refine (readMinB c _ _ _ _ _ _ _ _ _ _ _ _ _ _ _ _ _ _ _ _ _ _ _ _ _ _ _ _ _ _ _ _ _).trans ?_
      rw [hT, ec, MN_succ]
    isplitl [HS2]
    · unfold owns; iexists _; isplitr
      swap; · iexact HS2
      ipureintro
      refine (readMaxB c _ _ _ _ _ _ _ _ _ _ _ _ _ _ _ _ _ _ _ _ _ _ _ _ _ _ _ _ _ _ _ _ _).trans ?_
      rw [hT, MX_succ]
    iexact Hg
  isplitl [Ho]; · iexact Ho
  isplitl [H0]; · iexact H0
  isplitl [H1]; · iexact H1
  isplitl [H2]; · iexact H2
  isplitl [H3]; · iapply (leaves_idle m c 3 (by decide) t h1 g3); iexact H3
  isplitl [H4]; · iapply (leaves_idle m c 4 (by decide) t h1 g4); iexact H4
  isplitl [H5]; · iapply (leaves_idle m c 5 (by decide) t h1 g5); iexact H5
  isplitl [H6]; · iapply (leaves_idle m c 6 (by decide) t h1 g6); iexact H6
  iapply (leaves_idle m c 7 (by decide) t h1 g7); iexact H7

/-- The body at a point of the second phase. -/
theorem sound_C (c : Dev nD) (t : Fin cfg0.N) (h2 : 4 ≤ t.val) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have h0 : ¬ t.val % 8 = 0 := by omega
  obtain ⟨n, hn⟩ : ∃ n, t.val = n + 1 := ⟨t.val - 1, by omega⟩
  have en : min (n + 1) 4 = 4 := by omega
  have h1 : ¬ t.val < 4 := by omega
  unfold bodyPre bodyPost bodyAt0
  simp only [before0_0, before0_1, before0_2]
  rw [show (dats m 0 c).owesAt () t.succ = (dats m 0 c).owesAt () t.castSucc from rfl]
  rw [leaves_live m c 0 t (.inl (by decide)), leaves_live m c 1 t (.inl (by decide)), leaves_live m c 2 t (.inl (by decide)), after0_0, after0_1, after0_2]
  rw [leaves_live m c 3 t (.inr h2), leaves_live m c 4 t (.inr h2), leaves_live m c 5 t (.inr h2), leaves_live m c 6 t (.inr h2), leaves_live m c 7 t (.inr h2), after0_3, after0_4, after0_5, after0_6, after0_7]
  rw [show (dats m 0 c).Φ t.castSucc = PhiS m c t.val from rfl, show (dats m 0 c).Φ t.succ = PhiS m c (t.val + 1) from rfl]
  have em : min (t.val + 1) 4 = 4 := by omega
  rw [show PhiS m c t.val = PhiS m c (n + 1) from by rw [hn]]
  rw [PhiS_succ m c n, PhiS_succ m c t.val, em, en]
  iintro ⟨⟨⟨%e0, HS0, %hE⟩, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc0 := (fun h => h0 ((hcond0_0 t).mp h) : ¬ cond0_0 (grid0.coords t))
  have hc1 := (fun h => h1 ((hcond0_1 t).mp h) : ¬ cond0_1 (grid0.coords t))
  have hc2 := (hcond0_2 t).mpr h2
  have hcode : blockCode (grid0.coords t 1) e0 (MN m c 4) (MX m c 4) = CC m c (tl t) := by
    rw [← blockCode_eq m c (tl t) e0 hE, ← coord t]
  iapply ((kernelRun0_C c (grid0.coords t) _ _ _ _ _ _ _ _ _ _ _ _ _ _ _ _ _ (Memref.isWhole_whole _) _ (Memref.isWhole_whole _) _ (Memref.isWhole_whole _) hc0 hc1 hc2 (iblk m c 0 t) (iblk m c 1 t) (iblk m c 2 t) e0 (MN m c 4) (MX m c 4)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, ⟨%g3, H3⟩, ⟨%g4, H4⟩, ⟨%g5, H5⟩, ⟨%g6, H6⟩, ⟨%g7, H7⟩, HS0, HS1, HS2⟩
  isplitl [HS0 HS1 HS2 Hg]
  · isplitl [HS0]
    · iexists e0; isplitl [HS0]
      · iexact HS0
      ipureintro; exact hE
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (readWords c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g3).trans (by rw [hcode])
  isplitl [H4]
  · unfold owns; iexists _; isplitr
    swap; · iexact H4
    ipureintro; exact (readCodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g4).trans (by rw [hcode])
  isplitl [H5]
  · unfold owns; iexists _; isplitr
    swap; · iexact H5
    ipureintro; exact (readDelta c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g5)
  isplitl [H6]
  · unfold owns; iexists _; isplitr
    swap; · iexact H6
    ipureintro; exact (readTmin c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g6)
  unfold owns; iexists _; isplitr
  swap; · iexact H7
  ipureintro; exact (readTsum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc0 hc1 hc2 (iblk m c 0 t) (iblk m c 1 t) (iblk m c 2 t) e0 (MN m c 4) (MX m c 4) g7)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_A m c t ht
  · by_cases h1 : t.val < 4
    · exact sound_B m c t ht h1
    · exact sound_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (7 + 1) from rfl, PhiA0_eq, PhiS_succ]
  iintro ⟨⟨%e0, HS0, %hE⟩, HS1, HS2, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: what the pipeline's arrays end at, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.TablesIdeal.Tab

end
-- ==== Proof.TabSpec.lean ====
/- The tables' mathematics over the extended reals, stated at coordinates, and the few facts of sums and maxima both sides use. -/
module

public import Idealize.ShloMosaic.PureOps.Ideal.Laws
public import Idealize.ShloMosaic.Lib.IdealHost

@[expose] public section

noncomputable section

namespace Cert.TabSpec

open Idealize.ShloMosaic

variable (x : Fin 160 → Fin 1024 → EReal) (cb : Fin 128 → Fin 256 → Fin 8 → EReal) (s : Fin 128 → EReal)

/-- Coordinate `d` of sub-space `g`. -/
abbrev at8 (g : Fin 128) (d : Fin 8) : Fin 1024 := ⟨8 * g.val + d.val, by omega⟩

/-- The squared distance of query `q` to centroid `k` of sub-space `g`. -/
def tv (q : Fin 160) (g : Fin 128) (k : Fin 256) : EReal :=
  ((∑ d : Fin 8, x q (at8 g d) * x q (at8 g d)) + (s g * s g) * ∑ d : Fin 8, cb g k d * cb g k d)
    - Ideal.ofBits .f32 0x40000000#32 * ((∑ d : Fin 8, x q (at8 g d) * cb g k d) * s g)

/-- A table's row minimum. -/
def lo (q : Fin 160) (g : Fin 128) : EReal := (Finset.univ : Finset (Fin 256)).fold min (Ideal.ofBits .f32 0x7F800000#32) (tv x cb s q g)
/-- A table's row maximum. -/
def hi (q : Fin 160) (g : Fin 128) : EReal := (Finset.univ : Finset (Fin 256)).fold max (Ideal.ofBits .f32 0xFF800000#32) (tv x cb s q g)

/-- `A` is the query's largest spread, no less than zero: by its upper bounds. -/
def IsTop (q : Fin 160) (A : EReal) : Prop := ∀ c : EReal, A ≤ c ↔ 0 ≤ c ∧ ∀ (g : Fin 128) (k : Fin 256), tv x cb s q g k - lo x cb s q g ≤ c

theorem IsTop.unique {q : Fin 160} {A B : EReal} (hA : IsTop x cb s q A) (hB : IsTop x cb s q B) : A = B :=
  le_antisymm ((hA B).2 ((hB B).1 le_rfl)) ((hB A).2 ((hA A).1 le_rfl))

/-- A code: the value's distance to the row minimum in units of the scale, rounded and clamped to a byte; `A` is the largest spread. -/
def code (A : EReal) (q : Fin 160) (g : Fin 128) (k : Fin 256) : BitVec 32 :=
  Ideal.fptosi 32 (min (Ideal.ofBits .f32 0x437F0000#32) (max (Ideal.ofBits .f32 0x00000000#32) (Ideal.liftRound Ideal.roundHalfEven
    (Ideal.div (tv x cb s q g k - lo x cb s q g) (Ideal.div A (Ideal.ofBits .f32 0x437F0000#32))))))

/-- Four codes packed in a word, the first in the lowest byte. -/
def pack (c : Fin 4 → BitVec 32) : BitVec 32 := ((c 0 ||| c 1 <<< 8) ||| c 2 <<< 16) ||| c 3 <<< 24

theorem shl_const (u : ArithUnit) (x : BitVec 32) (n : ℕ) (h : n < 32) : IntOp.shli u x (BitVec.ofNat 32 n) = x <<< n := by
  have hn : (BitVec.ofNat 32 n).toNat = n := by rw [BitVec.toNat_ofNat]; exact Nat.mod_eq_of_lt (by omega)
  unfold IntOp.shli
  rw [if_pos (by rw [hn]; exact h), BitVec.shiftLeft_eq', hn]

theorem ofBits_255 : Ideal.ofBits .f32 0x437F0000#32 = ((255 : ℝ) : EReal) := by
  simp [Ideal.ofBits, Ideal.ieee, -EReal.coe_mul]; norm_num

theorem neg_inf : Ideal.ofBits .f32 0xFF800000#32 = (⊥ : EReal) := by simp [Ideal.ofBits, Ideal.ieee]

/-- The largest difference to a fixed number is the difference of the largest. -/
theorem fold_max_sub_le {n : ℕ} (f : Fin (n + 1) → EReal) (a c : EReal) :
    (Finset.univ : Finset (Fin (n + 1))).fold max (Ideal.ofBits .f32 0xFF800000#32) f - a ≤ c ↔ ∀ k, f k - a ≤ c := by
  rw [neg_inf]
  constructor
  · intro h k
    refine le_trans (EReal.sub_le_sub ?_ le_rfl) h
    exact (Finset.le_fold_max _).2 (Or.inr ⟨k, Finset.mem_univ k, le_rfl⟩)
  · intro h
    obtain ⟨k0, -, hk⟩ := Finset.exists_max_image (Finset.univ : Finset (Fin (n + 1))) f ⟨0, Finset.mem_univ _⟩
    refine le_trans (EReal.sub_le_sub ?_ le_rfl) (h k0)
    exact (Finset.fold_max_le _).2 ⟨bot_le, fun k _ => hk k (Finset.mem_univ k)⟩

/-- Over 128 columns, only the eight of group `j`. -/
theorem sum_group (h : Fin 128 → EReal) (j : Fin 16) :
    (∑ e : Fin 128, if e.val / 8 = j.val then h e else 0) = ∑ d : Fin 8, h ⟨8 * j.val + d.val, by omega⟩ := by
  rw [← Finset.sum_filter]
  symm
  refine Finset.sum_bij (fun d _ => (⟨8 * j.val + d.val, by omega⟩ : Fin 128)) ?_ ?_ ?_ ?_
  · intro d _
    exact Finset.mem_filter.2 ⟨Finset.mem_univ _, by show (8 * j.val + d.val) / 8 = j.val; omega⟩
  · intro a _ b _ hab
    have := congrArg Fin.val hab
    exact Fin.ext (by have h' : 8 * j.val + a.val = 8 * j.val + b.val := this; omega)
  · intro e he
    have h' := (Finset.mem_filter.1 he).2
    exact ⟨⟨e.val % 8, Nat.mod_lt _ (by decide)⟩, Finset.mem_univ _, Fin.ext (by show 8 * j.val + e.val % 8 = e.val; omega)⟩
  · intro d _; rfl

/-- The sum that keeps one lane. -/
theorem sum_lane {n : ℕ} (h : Fin n → EReal) (g : Fin n) : (∑ l : Fin n, if l = g then h l else 0) = h g := by
  rw [Finset.sum_ite_eq' Finset.univ g h, if_pos (Finset.mem_univ g)]

/-- A finite square minus itself. -/
theorem sq_sub_self (a : EReal) (ht : a ≠ ⊤) (hb : a ≠ ⊥) : a * a - a * a = 0 := by
  lift a to ℝ using ⟨ht, hb⟩
  rw [← EReal.coe_mul, ← EReal.coe_sub, sub_self, EReal.coe_zero]

end Cert.TabSpec

end
-- ==== Proof.TabIdealFold.lean ====
/- The tables kernel: minima, spreads and codes read at coordinates. -/
module

public import proofs.«01_k».proof.Proof.TabIdealFrame
public import proofs.«01_k».proof.Proof.TabSpec
public import Idealize.ShloMosaic.Lib.Pointwise
public import Idealize.ShloMosaic.Lib.Pipeline.Value

@[expose] public section

set_option maxRecDepth 16384

noncomputable section

namespace Cert.TablesIdeal.Tab

open Idealize.ShloMosaic Idealize.ShloMosaic.TcCoe Idealize.SL.Sem
open Cert.TablesIdeal.Gen

variable {F : FTy → Type} [FloatOps F]

/-- The lane test. -/
theorem lane_eq : ∀ (n : Fin 4) (u : Fin 32) (l : Fin 128),
    IntOp.cmpi .eq (BitVec.ofNat 32 l.val) (IntOp.addi (IntOp.muli (BitVec.ofNat 32 n.val) 32#32) (BitVec.ofNat 32 u.val))
      = if l.val = 32 * n.val + u.val then 1#1 else 0#1 := by decide +kernel

theorem minStep_apply (n : Fin 4) (u : Fin 32) (prev : FVec F S160x128 .f32) (t : FVec F S160x256 .f32) (q : Fin 160) (l : Fin 128) :
    minStep (BitVec.ofNat 32 n.val) u prev t (ix2 q l) = if l.val = 32 * n.val + u.val then loOf t (ix2 q (0 : Fin 1)) else prev (ix2 q l) := by
  pointwise [minStep]
  refine (congrArg (fun z => Scalar.select z _ _) (lane_eq n u l)).trans ?_
  by_cases h : l.val = 32 * n.val + u.val
  · rw [if_pos h, if_pos h]; rfl
  · rw [if_neg h, if_neg h]; rfl

theorem maxStep_apply (prev : FVec F S160x128 .f32) (t : FVec F S160x256 .f32) (q : Fin 160) (l : Fin 128) :
    maxStep prev t (ix2 q l) = FloatOps.maximumf (prev (ix2 q l)) (FloatOps.subf (hiOf t (ix2 q (0 : Fin 1))) (loOf t (ix2 q (0 : Fin 1)))) := by
  pointwise [maxStep]

theorem codesOf_apply (C : Fin 32 → IVec S160x256 32) (q : Fin 160) (u : Fin 32) (k : Fin 256) :
    codesOf C (ix3 q u k) = BitVec.setWidth 8 (C u (ix2 q k)) := by
  have e : (shapeCast S160x1x256 (C u) shapeCasts_S160x256_S160x1x256 : S160x1x256.Idx → BitVec 32) (ix3 q (0 : Fin 1) k) = C u (ix2 q k) := by
    pointwise
  rw [← e]
  unfold codesOf
  refine congrArg (BitVec.setWidth 8) ?_
  exact concatenate_ofFn_unit_apply (s₁ := S160x1x256) (t := S160x32x256) 1 (fun u : Fin 32 => shapeCast S160x1x256 (C u) shapeCasts_S160x256_S160x1x256)
    _ rfl rfl (ix3 q u k) u rfl (ix3 q (0 : Fin 1) k) (fun b hb => by
      fin_cases b
      · rfl
      · exact absurd rfl hb
      · rfl)

/-- A list of sub-spaces folded into the minima: a lane of theirs holds the row's minimum. -/
theorem minFold_list (n : Fin 4) (T : Fin 32 → FVec F S160x256 .f32) (q : Fin 160) (l : Fin 128) (L : List (Fin 32)) (prev : FVec F S160x128 .f32) :
    (∀ u ∈ L, l.val = 32 * n.val + u.val → L.foldl (fun a m => minStep (BitVec.ofNat 32 n.val) m a (T m)) prev (ix2 q l) = loOf (T u) (ix2 q (0 : Fin 1)))
    ∧ ((∀ u ∈ L, l.val ≠ 32 * n.val + u.val) → L.foldl (fun a m => minStep (BitVec.ofNat 32 n.val) m a (T m)) prev (ix2 q l) = prev (ix2 q l)) := by
  induction L generalizing prev with
  | nil => exact ⟨fun u hu => absurd hu List.not_mem_nil, fun _ => rfl⟩
  | cons v L ih =>
    have ih' := ih (minStep (BitVec.ofNat 32 n.val) v prev (T v))
    constructor
    · intro u hu he
      by_cases hL : u ∈ L
      · exact ih'.1 u hL he
      · have huv : u = v := (List.mem_cons.1 hu).resolve_right hL
        subst huv
        refine (ih'.2 fun w hw hne => hL ?_).trans ?_
        · have : w = u := Fin.ext (by omega)
          exact this ▸ hw
        · rw [minStep_apply, if_pos he]
    · intro hno
      refine (ih'.2 fun w hw => hno w (List.mem_cons_of_mem _ hw)).trans ?_
      rw [minStep_apply, if_neg (hno v List.mem_cons_self)]

theorem mem_subs' : ∀ u : Fin 32, u ∈ subs := by decide

variable (m : (ℓ : Loc nD τ sig) → Buf (Elt F) ℓ)

/-- The minima after the first tiles. -/
theorem MN_apply (c : Dev nD) : ∀ (n : ℕ) (hn : n ≤ 4) (q : Fin 160) (l : Fin 128), l.val < 32 * n →
    MN m c n (ix2 q l) = loOf (TT m c l) (ix2 q (0 : Fin 1)) := by
  intro n
  induction n with
  | zero => intro _ q l hl; exact absurd hl (by omega)
  | succ n ih =>
    intro hn q l hl
    have e := congrFun (MN_succ m c ⟨n, by omega⟩) (ix2 q l)
    have h := minFold_list ⟨n, by omega⟩ (TTn m c ⟨n, by omega⟩) q l subs (MN m c n)
    refine e.trans ?_
    have e2 : (shapeCast S160x128 (minFold (BitVec.ofNat 32 n) (TTn m c ⟨n, by omega⟩) (MN m c n)) shapeCasts_S160x128_S160x128 : Vec F S160x128 .f32) (ix2 q l)
        = minFold (BitVec.ofNat 32 n) (TTn m c ⟨n, by omega⟩) (MN m c n) (ix2 q l) := by pointwise
    refine e2.trans ?_
    by_cases hlt : l.val < 32 * n
    · exact (h.2 fun u _ => by show l.val ≠ 32 * n + u.val; omega).trans (ih (by omega) q l hlt)
    · refine (h.1 ⟨l.val % 32, Nat.mod_lt _ (by decide)⟩ (mem_subs' _) (by show l.val = 32 * n + l.val % 32; omega)).trans ?_
      unfold TT
      rw [show (⟨l.val / 32, by omega⟩ : Fin 4) = ⟨n, by omega⟩ from Fin.ext (by show l.val / 32 = n; omega)]

end Cert.TablesIdeal.Tab

end
-- ==== Proof.TabIdealOps.lean ====
/- The tables kernel over the extended reals: one table's values. -/
module

public import proofs.«01_k».proof.Proof.TabIdealStep
public import proofs.«01_k».proof.Proof.TabSpec
public import Idealize.ShloMosaic.Lib.Pointwise
public import Idealize.ShloMosaic.Lib.ValueIdxCore

@[expose] public section

set_option maxRecDepth 16384

noncomputable section

namespace Cert.TablesIdeal.Tab

open Idealize.ShloMosaic Idealize.ShloMosaic.TcCoe Idealize.SL.Sem
open Cert.TablesIdeal.Gen

/-- The group of a row. -/
theorem pay14_at (e : Fin 128) (k : Fin 256) : k0_pay14 (ix2 e k) = BitVec.ofNat 32 (e.val / 8) := by
  pointwise [k0_pay14]
  clear k
  revert e
  decide +kernel

theorem group_bit : ∀ (e j : Fin 128), (BitVec.setWidth 32 (IntOp.cmpi .eq (BitVec.ofNat 32 (e.val / 8)) (BitVec.ofNat 32 j.val)) : BitVec 32)
    = if e.val / 8 = j.val then 1#32 else 0#32 := by decide +kernel

theorem group_bit' : ∀ (e : Fin 128) (j : Fin 16), IntOp.cmpi .eq (BitVec.ofNat 32 (e.val / 8)) (BitVec.ofNat 32 j.val)
    = if e.val / 8 = j.val then 1#1 else 0#1 := by decide +kernel

theorem floor_bits : ∀ e : Fin 128, (Scalar.select
            (IntOp.andi
              (IntOp.cmpi CmpIPredicate.ne
                (IntOp.subi (BitVec.setWidth 32 (IntOp.cmpi CmpIPredicate.sgt (BitVec.ofNat 32 e.val) 0#32))
                  (BitVec.setWidth 32 (IntOp.cmpi CmpIPredicate.slt (BitVec.ofNat 32 e.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 e.val) 8#32) 0#32))
            (IntOp.subi (IntOp.divsi ArithUnit.vector (BitVec.ofNat 32 e.val) 8#32) 1#32)
            (IntOp.divsi ArithUnit.vector (BitVec.ofNat 32 e.val) 8#32)) = BitVec.ofNat 32 (e.val / 8) := by decide +kernel

/-- The group-selection matrix. -/
theorem pay7_at (e j : Fin 128) : (k0_pay7 (F := Ideal)) (ix2 e j) = if e.val / 8 = j.val then (1 : EReal) else 0 := by
  pointwise [k0_pay7]
  refine (congrArg (fun z => FloatOps.sitofp (F := Ideal) FTy.f32 (BitVec.setWidth 32 (IntOp.cmpi CmpIPredicate.eq z (BitVec.ofNat 32 j.val)))) (floor_bits e)).trans ?_
  refine (congrArg (fun z => FloatOps.sitofp (F := Ideal) FTy.f32 z) (group_bit e j)).trans ?_
  by_cases h : e.val / 8 = j.val
  · rw [if_pos h, if_pos h]; show (((1#32 : BitVec 32).toInt : ℝ) : EReal) = 1; simp
  · rw [if_neg h, if_neg h]; show (((0#32 : BitVec 32).toInt : ℝ) : EReal) = 0; simp

theorem mmA (L : FVec Ideal S160x128 .bf16) (R : FVec Ideal S128x128 .bf16) (q : Fin 160) (j : Fin 128) :
    matmul dot_S160x128_S128x128_S160x128_1_0_0_1_n_n none L R (constant S160x128 .f32 0x00000000#32) (ix2 q j)
      = ∑ e : Fin 128, (L (ix2 q e) : EReal) * R (ix2 e j) := by
  refine (Ideal.matmul_constant_zero_apply _ none L R (ix2 q j)).trans ?_
  rw [← Equiv.sum_comp (ValueIdx.contrEquiv1 dot_S160x128_S128x128_S160x128_1_0_0_1_n_n 128 rfl rfl).symm]
  refine Finset.sum_congr rfl fun k _ => ?_
  have hk := ValueIdx.contrEquiv1_symm_val dot_S160x128_S128x128_S160x128_1_0_0_1_n_n 128 rfl rfl k
  have el : dot_S160x128_S128x128_S160x128_1_0_0_1_n_n.lhsIdx (ix2 q j) ((ValueIdx.contrEquiv1 dot_S160x128_S128x128_S160x128_1_0_0_1_n_n 128 rfl rfl).symm k) = ix2 q k := funext fun a => Fin.ext (by
    match a with
    | ⟨0, _⟩ => rfl
    | ⟨1, _⟩ => exact (dot_S160x128_S128x128_S160x128_1_0_0_1_n_n.lhsIdx_val_of_single rfl _ _).trans hk)
  have er : dot_S160x128_S128x128_S160x128_1_0_0_1_n_n.rhsIdx (ix2 q j) ((ValueIdx.contrEquiv1 dot_S160x128_S128x128_S160x128_1_0_0_1_n_n 128 rfl rfl).symm k) = ix2 k j := funext fun a => Fin.ext (by
    match a with
    | ⟨0, _⟩ => exact (dot_S160x128_S128x128_S160x128_1_0_0_1_n_n.rhsIdx_val_of_single rfl _ _).trans hk
    | ⟨1, _⟩ => rfl)
  rw [el, er]

theorem mmB (L : FVec Ideal S160x128 .bf16) (R : FVec Ideal S128x256 .bf16) (q : Fin 160) (j : Fin 256) :
    matmul dot_S160x128_S128x256_S160x256_1_0_0_1_n_n none L R (constant S160x256 .f32 0x00000000#32) (ix2 q j)
      = ∑ e : Fin 128, (L (ix2 q e) : EReal) * R (ix2 e j) := by
  refine (Ideal.matmul_constant_zero_apply _ none L R (ix2 q j)).trans ?_
  rw [← Equiv.sum_comp (ValueIdx.contrEquiv1 dot_S160x128_S128x256_S160x256_1_0_0_1_n_n 128 rfl rfl).symm]
  refine Finset.sum_congr rfl fun k _ => ?_
  have hk := ValueIdx.contrEquiv1_symm_val dot_S160x128_S128x256_S160x256_1_0_0_1_n_n 128 rfl rfl k
  have el : dot_S160x128_S128x256_S160x256_1_0_0_1_n_n.lhsIdx (ix2 q j) ((ValueIdx.contrEquiv1 dot_S160x128_S128x256_S160x256_1_0_0_1_n_n 128 rfl rfl).symm k) = ix2 q k := funext fun a => Fin.ext (by
    match a with
    | ⟨0, _⟩ => rfl
    | ⟨1, _⟩ => exact (dot_S160x128_S128x256_S160x256_1_0_0_1_n_n.lhsIdx_val_of_single rfl _ _).trans hk)
  have er : dot_S160x128_S128x256_S160x256_1_0_0_1_n_n.rhsIdx (ix2 q j) ((ValueIdx.contrEquiv1 dot_S160x128_S128x256_S160x256_1_0_0_1_n_n 128 rfl rfl).symm k) = ix2 k j := funext fun a => Fin.ext (by
    match a with
    | ⟨0, _⟩ => exact (dot_S160x128_S128x256_S160x256_1_0_0_1_n_n.rhsIdx_val_of_single rfl _ _).trans hk
    | ⟨1, _⟩ => rfl)
  rw [el, er]

/-- The squared norms in sub-space `j`: eight squares; the low halves of finite squares are zero. -/
theorem xnOf_at (xv : Vec Ideal S1x160x128 .bf16) (q : Fin 160) (j : Fin 16)
    (hfin : ∀ e : Fin 128, (xv (ix3 (0 : Fin 1) q e) : EReal) ≠ ⊤ ∧ (xv (ix3 (0 : Fin 1) q e) : EReal) ≠ ⊥) :
    xnOf xv (ix2 q (⟨j.val, by omega⟩ : Fin 128)) = ∑ d : Fin 8, (xv (ix3 (0 : Fin 1) q (⟨8 * j.val + d.val, by omega⟩ : Fin 128)) : EReal) * xv (ix3 (0 : Fin 1) q (⟨8 * j.val + d.val, by omega⟩ : Fin 128)) := by
  unfold xnOf k0_pay13
  show FloatOps.addf _ _ = _
  rw [mmA, mmA]
  pointwise [k0_pay11, k0_pay12, k0_pay10, k0_pay8]
  have h2 : (∑ x : Fin 128, ((xv (ix3 (0 : Fin 1) q x) : EReal) * xv (ix3 (0 : Fin 1) q x) - (xv (ix3 (0 : Fin 1) q x) : EReal) * xv (ix3 (0 : Fin 1) q x)) * (k0_pay7 (F := Ideal)) (ix2 x (⟨j.val, by omega⟩ : Fin 128))) = (0 : EReal) :=
    Finset.sum_eq_zero fun x _ => by rw [TabSpec.sq_sub_self _ (hfin x).1 (hfin x).2, zero_mul]
  have h1 : (∑ x : Fin 128, ((xv (ix3 (0 : Fin 1) q x) : EReal) * xv (ix3 (0 : Fin 1) q x)) * (k0_pay7 (F := Ideal)) (ix2 x (⟨j.val, by omega⟩ : Fin 128)))
      = ∑ x : Fin 128, if x.val / 8 = j.val then (xv (ix3 (0 : Fin 1) q x) : EReal) * xv (ix3 (0 : Fin 1) q x) else 0 :=
    Finset.sum_congr rfl fun x _ => by rw [pay7_at, mul_ite, mul_one, mul_zero]
  refine (congrArg₂ (fun a b : EReal => a + b) h1 h2).trans ?_
  rw [add_zero]
  exact TabSpec.sum_group (fun x => (xv (ix3 (0 : Fin 1) q x) : EReal) * xv (ix3 (0 : Fin 1) q x)) j

/-- One table's value. -/
theorem tOf_at (j : Fin 16) (xv : Vec Ideal S1x160x128 .bf16) (cv : Vec Ideal S128x256 .fp8e4m3) (s : Elt Ideal .f32) (q : Fin 160) (k : Fin 256)
    (hfin : ∀ e : Fin 128, (xv (ix3 (0 : Fin 1) q e) : EReal) ≠ ⊤ ∧ (xv (ix3 (0 : Fin 1) q e) : EReal) ≠ ⊥) :
    tOf j xv cv s (ix2 q k)
      = ((∑ d : Fin 8, (xv (ix3 (0 : Fin 1) q (⟨8 * j.val + d.val, by omega⟩ : Fin 128)) : EReal) * xv (ix3 (0 : Fin 1) q (⟨8 * j.val + d.val, by omega⟩ : Fin 128)))
          + ((s : EReal) * s) * ∑ d : Fin 8, (cv (ix2 (⟨8 * j.val + d.val, by omega⟩ : Fin 128) k) : EReal) * cv (ix2 (⟨8 * j.val + d.val, by omega⟩ : Fin 128) k))
        - Ideal.ofBits .f32 0x40000000#32 * ((∑ d : Fin 8, (xv (ix3 (0 : Fin 1) q (⟨8 * j.val + d.val, by omega⟩ : Fin 128)) : EReal) * cv (ix2 (⟨8 * j.val + d.val, by omega⟩ : Fin 128) k)) * s) := by
  have hd : (∑ x : Fin 128, Scalar.select (IntOp.cmpi CmpIPredicate.eq (k0_pay14 (ix2 x k)) (BitVec.ofNat 32 j.val))
        (((k0_pay8 xv (ix2 q x) : Ideal .bf16) : EReal) * k0_pay9 cv (ix2 x k)) 0)
      = ∑ d : Fin 8, (xv (ix3 (0 : Fin 1) q (⟨8 * j.val + d.val, by omega⟩ : Fin 128)) : EReal) * cv (ix2 (⟨8 * j.val + d.val, by omega⟩ : Fin 128) k) := by
    refine (Finset.sum_congr rfl fun x _ => ?_).trans (TabSpec.sum_group (fun x => (xv (ix3 (0 : Fin 1) q x) : EReal) * cv (ix2 x k)) j)
    rw [pay14_at, group_bit']
    have e8 : k0_pay8 xv (ix2 q x) = xv (ix3 (0 : Fin 1) q x) := by pointwise [k0_pay8]
    have e9 : (k0_pay9 cv (ix2 x k) : EReal) = cv (ix2 x k) := by pointwise [k0_pay9]
    by_cases h : x.val / 8 = j.val
    · rw [if_pos h, if_pos h, e8, e9]; rfl
    · rw [if_neg h, if_neg h]; rfl
  have hx := xnOf_at xv q j hfin
  pointwise [tOf, cnOf, dotOf]
  rw [hx, hd]
  have e9 : ∀ x : Fin 128, (k0_pay9 cv (ix2 x k) : EReal) = cv (ix2 x k) := fun x => by pointwise [k0_pay9]
  simp only [e9]

theorem loOf_at (t : FVec Ideal S160x256 .f32) (q : Fin 160) :
    loOf t (ix2 q (0 : Fin 1)) = (Finset.univ : Finset (Fin 256)).fold min (Ideal.ofBits .f32 0x7F800000#32) (fun x => (t (ix2 q x) : EReal)) := by
  pointwise [loOf]

theorem hiOf_at (t : FVec Ideal S160x256 .f32) (q : Fin 160) :
    hiOf t (ix2 q (0 : Fin 1)) = (Finset.univ : Finset (Fin 256)).fold max (Ideal.ofBits .f32 0xFF800000#32) (fun x => (t (ix2 q x) : EReal)) := by
  pointwise [hiOf]

theorem lane_eq' : ∀ (n : Fin 4) (u : Fin 32) (l : Fin 128),
    IntOp.cmpi .eq (BitVec.ofNat 32 l.val) (IntOp.addi (IntOp.muli (BitVec.ofNat 32 n.val) 32#32) (BitVec.ofNat 32 u.val))
      = if l = ⟨32 * n.val + u.val, by omega⟩ then 1#1 else 0#1 := by decide +kernel

/-- One code: the sum over the lanes reads the sub-space's minimum back. -/
theorem codeOf_at (n : Fin 4) (u : Fin 32) (mn : FVec Ideal S160x128 .f32) (d : FVec Ideal S160x1 .f32)
    (tv : Vec Ideal S1x160x256 .f32) (q : Fin 160) (k : Fin 256) :
    codeOf (BitVec.ofNat 32 n.val) u mn d tv (ix2 q k)
      = Ideal.fptosi 32 (min (Ideal.ofBits .f32 0x437F0000#32) (max (Ideal.ofBits .f32 0x00000000#32) (Ideal.liftRound Ideal.roundHalfEven
          (Ideal.div ((tv (ix3 (0 : Fin 1) q k) : EReal) - mn (ix2 q (⟨32 * n.val + u.val, by omega⟩ : Fin 128))) (d (ix2 q (0 : Fin 1))))))) := by
  have hs : (∑ l : Fin 128, Scalar.select (IntOp.cmpi .eq (BitVec.ofNat 32 l.val) (IntOp.addi (IntOp.muli (BitVec.ofNat 32 n.val) 32#32) (BitVec.ofNat 32 u.val)))
      (mn (ix2 q l) : EReal) 0) = mn (ix2 q (⟨32 * n.val + u.val, by omega⟩ : Fin 128)) := by
    refine (Finset.sum_congr rfl fun l _ => ?_).trans (TabSpec.sum_lane (fun l => (mn (ix2 q l) : EReal)) ⟨32 * n.val + u.val, by omega⟩)
    rw [lane_eq']
    by_cases h : l = ⟨32 * n.val + u.val, by omega⟩
    · rw [if_pos h, if_pos h]; rfl
    · rw [if_neg h, if_neg h]; rfl
  pointwise [codeOf]
  exact congrArg (fun z : EReal => Ideal.fptosi 32 (min (Ideal.ofBits .f32 0x437F0000#32) (max 0 (Ideal.liftRound Ideal.roundHalfEven
    (Ideal.div ((tv (ix3 (0 : Fin 1) q k) : EReal) - z) (d (ix2 q (0 : Fin 1)))))))) hs

end Cert.TablesIdeal.Tab

end
-- ==== Proof.TabIdealFinal.lean ====
/- The tables kernel: the result arrays after the run, and the input blocks in terms of the arguments. -/
module

public import proofs.«01_k».proof.Proof.TabIdealFrame
public import Idealize.ShloMosaic.Lib.Pointwise
public import Idealize.ShloMosaic.Lib.Pipeline.Value

@[expose] public section

set_option maxRecDepth 16384

noncomputable section

namespace Cert.TablesIdeal.Tab

open Idealize.ShloMosaic Idealize.ShloMosaic.TcCoe Idealize.SL.Sem
open Idealize.ShloMosaic.Pipeline (Dat)
open Cert.TablesIdeal.Gen

variable {F : FTy → Type} [FloatOps F]
variable (m : (ℓ : Loc nD τ sig) → Buf (Elt F) ℓ) (ρ : Dev nD → PrngReg)

/-- Where the windows' blocks lie. -/
theorem idx : ∀ t : Fin cfg0.N, win0_0.index t = ![(t.val % 4) * (1 - t.val / 4), 0, 0] ∧ win0_1.index t = ![(t.val % 4) * (1 - t.val / 4), 0] ∧ win0_2.index t = ![0]
    ∧ win0_4.index t = ![0, (t.val % 4) * (t.val / 4), 0] ∧ win0_5.index t = ![0, 0] ∧ win0_6.index t = ![0, 0] :=
  (by decide +kernel : ∀ t : Fin grid0.N, _)

theorem final5 (c : Dev nD) : (dats m 0 c).arrAt 5 (cfgs 0).N = (deltaOf (MX m c 4) : S160x128.Idx → F .f32) := by
  refine (dats m 0 c).arrAt_eq_of_covers 5 _ (by decide +kernel) fun t _ y => ?_
  have h0 : ((win0_5.blk t).view.emb y : S160x128.Idx) = y := funext fun a => Fin.ext (by fin_cases a <;> blk_simp [idx t])
  exact (congrArg (deltaOf (MX m c 4)) h0).symm

theorem final6 (c : Dev nD) : (dats m 0 c).arrAt 6 (cfgs 0).N = (MN m c 4 : S160x128.Idx → F .f32) := by
  refine (dats m 0 c).arrAt_eq_of_covers 6 _ (by decide +kernel) fun t _ y => ?_
  have h0 : ((win0_6.blk t).view.emb y : S160x128.Idx) = y := funext fun a => Fin.ext (by fin_cases a <;> blk_simp [idx t])
  exact (congrArg (MN m c 4) h0).symm

/-- The points that write the codes back. -/
theorem flush4 : ∀ t : Fin cfg0.N, (cfg0.win 4).flush t = true → 3 < t.val :=
  (by decide +kernel : ∀ t : Fin grid0.N, (cfg0.win 4).flush t = true → 3 < t.val)

theorem final4 (c : Dev nD) : (dats m 0 c).arrAt 4 (cfgs 0).N
    = fun i : S160x128x256.Idx => codesOf (CC m c ⟨(i 1).val / 32, by have h : (i 1).val < 128 := (i 1).isLt; omega⟩)
        (ix3 (i 0 : Fin 160) (⟨(i 1).val % 32, Nat.mod_lt _ (by decide)⟩ : Fin 32) (i 2 : Fin 256)) := by
  refine (dats m 0 c).arrAt_eq_of_covers 4 _ (by decide +kernel) fun t hf y => ?_
  obtain ⟨q, u, k, rfl⟩ : ∃ (q : Fin 160) (u : Fin 32) (k : Fin 256), y = ix3 q u k := ⟨y 0, y 1, y 2, eq_ix3 (n0 := 160) (n1 := 32) (n2 := 256) y⟩
  have ht := flush4 t hf
  have ht8 : t.val < 8 := t.isLt
  have h0 : ((win0_4.blk t).view.emb (ix3 q u k) 0 : Fin 160) = q := Fin.ext (by blk_simp [idx t])
  have h2 : ((win0_4.blk t).view.emb (ix3 q u k) 2 : Fin 256) = k := Fin.ext (by blk_simp [idx t])
  have hq : t.val / 4 = 1 := by omega
  have h1 : ((win0_4.blk t).view.emb (ix3 q u k) 1 : Fin 128).val = 32 * (t.val % 4) + u.val := by
    blk_simp [idx t]; rw [hq]; omega
  show codesOf (CC m c (tl t)) (ix3 q u k) = codesOf (CC m c ⟨((win0_4.blk t).view.emb (ix3 q u k) 1 : Fin 128).val / 32, _⟩)
        (ix3 ((win0_4.blk t).view.emb (ix3 q u k) 0 : Fin 160) (⟨((win0_4.blk t).view.emb (ix3 q u k) 1 : Fin 128).val % 32, _⟩ : Fin 32) ((win0_4.blk t).view.emb (ix3 q u k) 2 : Fin 256))
  have e1 : (⟨((win0_4.blk t).view.emb (ix3 q u k) 1 : Fin 128).val / 32, by omega⟩ : Fin 4) = tl t := Fin.ext (by show _ / 32 = t.val % 4; omega)
  have e2 : (⟨((win0_4.blk t).view.emb (ix3 q u k) 1 : Fin 128).val % 32, Nat.mod_lt _ (by decide)⟩ : Fin 32) = u := Fin.ext (by show _ % 32 = u.val; omega)
  rw [e1, e2, h0, h2]

theorem iblk0 (c : Dev nD) (n : Fin 4) (h : Fin 2) (q : Fin 160) (e : Fin 128) :
    (iblk m c 0 (pt n) : S2x160x128.Idx → F .bf16) (ix3 h q e)
      = (m ((c : Thread nD τ).loc main_arg0) : S160x1024.Idx → F .bf16) (ix2 q (⟨(2 * n.val + h.val) * 128 + e.val, by omega⟩ : Fin 1024)) := by
  blk_ext! [iblk, V, idx (pt n)]
  have e : n.val % 4 * (1 - n.val / 4) = n.val := by
    have hn := n.isLt
    rw [Nat.mod_eq_of_lt hn, Nat.div_eq_of_lt hn, Nat.sub_zero, Nat.mul_one]
  rw [e]
  omega

theorem iblk1 (c : Dev nD) (n : Fin 4) (r : Fin 256) (k : Fin 256) :
    (iblk m c 1 (pt n) : S256x256.Idx → F .fp8e4m3) (ix2 r k)
      = (m ((c : Thread nD τ).loc main_arg1) : S128x256x8.Idx → F .fp8e4m3) (ix3 (⟨(256 * n.val + r.val) / 8, by omega⟩ : Fin 128) k (⟨r.val % 8, Nat.mod_lt _ (by decide)⟩ : Fin 8)) := by
  blk_ext! [iblk, V, idx (pt n)]
  have e : n.val % 4 * (1 - n.val / 4) = n.val := by
    have hn := n.isLt
    rw [Nat.mod_eq_of_lt hn, Nat.div_eq_of_lt hn, Nat.sub_zero, Nat.mul_one]
  rw [e]
  omega

theorem iblk2 (c : Dev nD) (t : Fin cfg0.N) : iblk m c 2 t = m ((c : Thread nD τ).loc main_arg2) := by
  blk_ext! [iblk, V, idx t]

end Cert.TablesIdeal.Tab

end
-- ==== Proof.TabIdealValue.lean ====
/- The tables kernel over the extended reals: its result arrays at coordinates. -/
module

public import proofs.«01_k».proof.Proof.TabIdealFold
public import proofs.«01_k».proof.Proof.TabIdealOps
public import proofs.«01_k».proof.Proof.TabIdealFinal

@[expose] public section

set_option maxRecDepth 16384

noncomputable section

namespace Cert.TablesIdeal.Tab

open Idealize.ShloMosaic Idealize.ShloMosaic.TcCoe Idealize.SL.Sem
open Cert.TablesIdeal.Gen

variable (m : (ℓ : Loc nD τ sig) → Buf (Elt Ideal) ℓ)

/-- The queries, the centroids and the scales as the kernel finds them. -/
abbrev xs (c : Dev nD) : Fin 160 → Fin 1024 → EReal := fun q e => (m ((c : Thread nD τ).loc main_arg0) : S160x1024.Idx → EReal) (ix2 q e)
abbrev rs (c : Dev nD) : Fin 128 → Fin 256 → Fin 8 → EReal := fun g k d => (m ((c : Thread nD τ).loc main_arg1) : S128x256x8.Idx → EReal) (ix3 g k d)
abbrev ss (c : Dev nD) : Fin 128 → EReal := fun g => (m ((c : Thread nD τ).loc main_arg2) : S128.Idx → EReal) (ix1 g)

/-- Every query coordinate is a real number. -/
def Fin' (c : Dev nD) : Prop := ∀ (q : Fin 160) (e : Fin 1024), xs m c q e ≠ ⊤ ∧ xs m c q e ≠ ⊥

theorem TTn_at (c : Dev nD) (hf : Fin' m c) (n : Fin 4) (u : Fin 32) (q : Fin 160) (k : Fin 256) :
    TTn m c n u (ix2 q k) = TabSpec.tv (xs m c) (rs m c) (ss m c) q (⟨32 * n.val + u.val, by omega⟩ : Fin 128) k := by
  have hx : ∀ e : Fin 128, (xld (iblk m c 0 (pt n)) (⟨u.val / 16, by omega⟩ : Fin 2) (ix3 (0 : Fin 1) q e) : EReal)
      = xs m c q ⟨(2 * n.val + u.val / 16) * 128 + e.val, by omega⟩ := fun e => iblk0 m c n ⟨u.val / 16, by omega⟩ q e
  have hxd : ∀ d : Fin 8, (xld (iblk m c 0 (pt n)) (⟨u.val / 16, by omega⟩ : Fin 2) (ix3 (0 : Fin 1) q (⟨8 * (u.val % 16) + d.val, by omega⟩ : Fin 128)) : EReal)
      = xs m c q (TabSpec.at8 (⟨32 * n.val + u.val, by omega⟩ : Fin 128) d) := fun d => (hx _).trans
    (congrArg (xs m c q) (Fin.ext (by show (2 * n.val + u.val / 16) * 128 + (8 * (u.val % 16) + d.val) = 8 * (32 * n.val + u.val) + d.val; omega)))
  have hcd : ∀ d : Fin 8, (cld (iblk m c 1 (pt n)) (⟨u.val / 16, by omega⟩ : Fin 2) (ix2 (⟨8 * (u.val % 16) + d.val, by omega⟩ : Fin 128) k) : EReal)
      = rs m c (⟨32 * n.val + u.val, by omega⟩ : Fin 128) k d := fun d =>
    (iblk1 m c n ⟨128 * (u.val / 16) + (8 * (u.val % 16) + d.val), by omega⟩ k).trans
      (congrArg₂ (fun (a : Fin 128) (b : Fin 8) => rs m c a k b)
        (Fin.ext (by show (256 * n.val + (128 * (u.val / 16) + (8 * (u.val % 16) + d.val))) / 8 = 32 * n.val + u.val; omega))
        (Fin.ext (by show (128 * (u.val / 16) + (8 * (u.val % 16) + d.val)) % 8 = d.val; omega)))
  have hs : (sld n (iblk m c 2 (pt n)) u : EReal) = ss m c (⟨32 * n.val + u.val, by omega⟩ : Fin 128) :=
    congrFun (iblk2 m c (pt n)) (ix1 (⟨32 * n.val + u.val, by omega⟩ : Fin 128))
  unfold TTn blockTabs tabs
  refine (tOf_at ⟨u.val % 16, Nat.mod_lt _ (by decide)⟩ _ _ _ q k fun e => ?_).trans ?_
  · rw [hx]; exact hf q _
  · unfold TabSpec.tv
    simp only [hxd, hcd, hs]

theorem TT_at (c : Dev nD) (hf : Fin' m c) (g : Fin 128) (q : Fin 160) (k : Fin 256) :
    TT m c g (ix2 q k) = TabSpec.tv (xs m c) (rs m c) (ss m c) q g k :=
  (TTn_at m c hf ⟨g.val / 32, by omega⟩ ⟨g.val % 32, Nat.mod_lt _ (by decide)⟩ q k).trans
    (congrArg (fun g : Fin 128 => TabSpec.tv (xs m c) (rs m c) (ss m c) q g k) (Fin.ext (by show 32 * (g.val / 32) + g.val % 32 = g.val; omega)))

theorem loTT (c : Dev nD) (hf : Fin' m c) (g : Fin 128) (q : Fin 160) :
    loOf (TT m c g) (ix2 q (0 : Fin 1)) = TabSpec.lo (xs m c) (rs m c) (ss m c) q g :=
  (loOf_at _ q).trans (congrArg (fun f => Finset.fold min (Ideal.ofBits .f32 0x7F800000#32) f Finset.univ) (funext fun k => TT_at m c hf g q k))

theorem hiTT (c : Dev nD) (hf : Fin' m c) (g : Fin 128) (q : Fin 160) :
    hiOf (TT m c g) (ix2 q (0 : Fin 1)) = TabSpec.hi (xs m c) (rs m c) (ss m c) q g :=
  (hiOf_at _ q).trans (congrArg (fun f => Finset.fold max (Ideal.ofBits .f32 0xFF800000#32) f Finset.univ) (funext fun k => TT_at m c hf g q k))

/-- The minima. -/
theorem MN_at (c : Dev nD) (hf : Fin' m c) (q : Fin 160) (g : Fin 128) :
    MN m c 4 (ix2 q g) = TabSpec.lo (xs m c) (rs m c) (ss m c) q g :=
  (MN_apply m c 4 le_rfl q g g.isLt).trans (loTT m c hf g q)

theorem maxFold_list (T : Fin 32 → FVec Ideal S160x256 .f32) (q : Fin 160) (l : Fin 128) (z : EReal) (L : List (Fin 32)) (prev : FVec Ideal S160x128 .f32) :
    (L.foldl (fun a m => maxStep a (T m)) prev (ix2 q l) : EReal) ≤ z
      ↔ (prev (ix2 q l) : EReal) ≤ z ∧ ∀ u ∈ L, (hiOf (T u) (ix2 q (0 : Fin 1)) : EReal) - loOf (T u) (ix2 q (0 : Fin 1)) ≤ z := by
  induction L generalizing prev with
  | nil => exact ⟨fun h => ⟨h, fun u hu => absurd hu List.not_mem_nil⟩, fun h => h.1⟩
  | cons v L ih =>
    refine (ih (maxStep prev (T v))).trans ?_
    rw [maxStep_apply]
    refine (and_congr_left' (max_le_iff (a := (prev (ix2 q l) : EReal)))).trans ?_
    rw [and_assoc, List.forall_mem_cons]
    rfl

/-- The spreads after the first tiles, by their upper bounds. -/
theorem MX_le (c : Dev nD) (q : Fin 160) (l : Fin 128) (z : EReal) : ∀ (n : ℕ) (hn : n ≤ 4),
    (MX m c n (ix2 q l) : EReal) ≤ z ↔ 0 ≤ z ∧ ∀ g : Fin 128, g.val < 32 * n →
      (hiOf (TT m c g) (ix2 q (0 : Fin 1)) : EReal) - loOf (TT m c g) (ix2 q (0 : Fin 1)) ≤ z := by
  intro n
  induction n with
  | zero =>
    intro _
    have e : (MX m c 0 (ix2 q l) : EReal) = 0 := by
      show k0_pay2 (F := Ideal) (ix2 q l) = _
      pointwise [k0_pay2]
    rw [e]
    exact ⟨fun h => ⟨h, fun g hg => absurd hg (by omega)⟩, fun h => h.1⟩
  | succ n ih =>
    intro hn
    have e := congrFun (MX_succ m c ⟨n, by omega⟩) (ix2 q l)
    have e2 : (shapeCast S160x128 (maxFold (TTn m c ⟨n, by omega⟩) (MX m c n)) shapeCasts_S160x128_S160x128 : Vec Ideal S160x128 .f32) (ix2 q l)
        = maxFold (TTn m c ⟨n, by omega⟩) (MX m c n) (ix2 q l) := by pointwise
    rw [show (MX m c (n + 1) (ix2 q l) : EReal) = _ from e.trans e2]
    refine (maxFold_list (TTn m c ⟨n, by omega⟩) q l z subs (MX m c n)).trans ?_
    rw [ih (by omega), and_assoc]
    refine and_congr_right fun _ => ⟨fun h g hg => ?_, fun h => ⟨fun g hg => h g (by omega), fun u _ => ?_⟩⟩
    · by_cases hlt : g.val < 32 * n
      · exact h.1 g hlt
      · have h2 := h.2 ⟨g.val % 32, Nat.mod_lt _ (by decide)⟩ (mem_subs' _)
        unfold TT
        rw [show (⟨g.val / 32, by omega⟩ : Fin 4) = ⟨n, by omega⟩ from Fin.ext (by show g.val / 32 = n; omega)]
        exact h2
    · have h2 := h ⟨32 * n + u.val, by omega⟩ (by show 32 * n + u.val < 32 * (n + 1); omega)
      unfold TT at h2
      rw [show (⟨(32 * n + u.val) / 32, by omega⟩ : Fin 4) = ⟨n, by omega⟩ from Fin.ext (by show (32 * n + u.val) / 32 = n; omega),
        show (⟨(32 * n + u.val) % 32, Nat.mod_lt _ (by decide)⟩ : Fin 32) = u from Fin.ext (by show (32 * n + u.val) % 32 = u.val; omega)] at h2
      exact h2

/-- Every lane holds the largest spread. -/
theorem MX_top (c : Dev nD) (hf : Fin' m c) (q : Fin 160) (l : Fin 128) :
    TabSpec.IsTop (xs m c) (rs m c) (ss m c) q (MX m c 4 (ix2 q l)) := by
  intro z
  refine (MX_le m c q l z 4 le_rfl).trans (and_congr_right fun _ => ?_)
  constructor
  · intro h g k
    have h1 := h g (by omega)
    rw [hiTT m c hf, loTT m c hf] at h1
    exact (TabSpec.fold_max_sub_le (n := 255) _ _ _).1 h1 k
  · intro h g _
    rw [hiTT m c hf, loTT m c hf]
    exact (TabSpec.fold_max_sub_le (n := 255) _ _ _).2 (h g)

theorem delta_at (mx : FVec Ideal S160x128 .f32) (q : Fin 160) (l : Fin 128) :
    deltaOf mx (ix2 q l) = Ideal.div (mx (ix2 q l)) (Ideal.ofBits .f32 0x437F0000#32) := by
  pointwise [deltaOf, k0_pay209]

theorem deltaCol_at (mx : FVec Ideal S160x128 .f32) (q : Fin 160) :
    (k0_pay211 (F := Ideal) mx (ix2 q (0 : Fin 1)) : EReal) = Ideal.div (mx (ix2 q (0 : Fin 128))) (Ideal.ofBits .f32 0x437F0000#32) := by
  pointwise [k0_pay211, k0_pay209]

theorem CC_at (c : Dev nD) (hf : Fin' m c) (n : Fin 4) (u : Fin 32) (q : Fin 160) (k : Fin 256) :
    CC m c n u (ix2 q k) = TabSpec.code (xs m c) (rs m c) (ss m c) (MX m c 4 (ix2 q (0 : Fin 128))) q (⟨32 * n.val + u.val, by omega⟩ : Fin 128) k := by
  unfold CC
  refine (codeOf_at n u _ _ _ q k).trans ?_
  unfold TabSpec.code
  have e : TTn m c n u (ix2 (ix3 (0 : Fin 1) q k 1 : Fin 160) (ix3 (0 : Fin 1) q k 2 : Fin 256)) = TabSpec.tv (xs m c) (rs m c) (ss m c) q (⟨32 * n.val + u.val, by omega⟩ : Fin 128) k := TTn_at m c hf n u q k
  have e2 := deltaCol_at (MX m c 4) q
  rw [MN_at m c hf]
  exact congrArg₂ (fun a b : EReal => Ideal.fptosi 32 (min (Ideal.ofBits .f32 0x437F0000#32) (max (Ideal.ofBits .f32 0x00000000#32)
    (Ideal.liftRound Ideal.roundHalfEven (Ideal.div (a - TabSpec.lo (xs m c) (rs m c) (ss m c) q (⟨32 * n.val + u.val, by omega⟩ : Fin 128)) b))))) e e2

/-- THE CODES. -/
theorem codes_at (c : Dev nD) (hf : Fin' m c) (q : Fin 160) (g : Fin 128) (k : Fin 256) :
    ((dats m 0 c).arrAt 4 (cfgs 0).N : S160x128x256.Idx → BitVec 8) (ix3 q g k)
      = BitVec.setWidth 8 (TabSpec.code (xs m c) (rs m c) (ss m c) (MX m c 4 (ix2 q (0 : Fin 128))) q g k) := by
  refine (congrFun (final4 m c) (ix3 q g k)).trans ?_
  refine (codesOf_apply (CC m c ⟨g.val / 32, by omega⟩) q (⟨g.val % 32, Nat.mod_lt _ (by decide)⟩ : Fin 32) k).trans ?_
  rw [CC_at m c hf]
  exact congrArg (fun g : Fin 128 => BitVec.setWidth 8 (TabSpec.code (xs m c) (rs m c) (ss m c) (MX m c 4 (ix2 q (0 : Fin 128))) q g k))
    (Fin.ext (by show 32 * (g.val / 32) + g.val % 32 = g.val; omega))

/-- THE SCALES. -/
theorem delta_final (c : Dev nD) (q : Fin 160) (l : Fin 128) :
    ((dats m 0 c).arrAt 5 (cfgs 0).N : S160x128.Idx → EReal) (ix2 q l) = Ideal.div (MX m c 4 (ix2 q l)) (Ideal.ofBits .f32 0x437F0000#32) :=
  (congrFun (final5 m c) (ix2 q l)).trans (delta_at _ q l)

/-- THE MINIMA. -/
theorem tmin_final (c : Dev nD) (hf : Fin' m c) (q : Fin 160) (g : Fin 128) :
    ((dats m 0 c).arrAt 6 (cfgs 0).N : S160x128.Idx → EReal) (ix2 q g) = TabSpec.lo (xs m c) (rs m c) (ss m c) q g :=
  (congrFun (final6 m c) (ix2 q g)).trans (MN_at m c hf q g)

end Cert.TablesIdeal.Tab

end
-- ==== Proof.TabIdealWords.lean ====
/- The tables kernel: the packed words and the sums of the minima after the run. -/
module

public import proofs.«01_k».proof.Proof.TabIdealValue
public import Idealize.ShloMosaic.Lib.Pipeline.ReadBack

@[expose] public section

set_option maxRecDepth 16384

noncomputable section

namespace Cert.TablesIdeal.Tab

open Idealize.ShloMosaic Idealize.ShloMosaic.TcCoe Idealize.SL.Sem
open Idealize.ShloMosaic.Pipeline (Dat)
open Cert.TablesIdeal.Gen

section
variable {F : FTy → Type} [FloatOps F]

theorem wordOf_apply (c : IVec S160x256 32) (r : Fin 40) (k : Fin 256) :
    wordOf c (ix2 r k) = TabSpec.pack fun j => c (ix2 (⟨40 * j.val + r.val, by omega⟩ : Fin 160) k) := by
  pointwise [wordOf]
  unfold TabSpec.pack
  simp (discharger := decide) only [TabSpec.shl_const]
  have h0 : (⟨40 * (0 : Fin 4).val + r.val, by have h := r.isLt; show 40 * 0 + r.val < 160; omega⟩ : Fin 160) = ⟨r.val, by omega⟩ := Fin.ext (by show 40 * 0 + r.val = r.val; omega)
  rw [h0]
  rfl

/-- The words of a tile at their coordinates. -/
def wordAt (C : Fin 32 → IVec S160x256 32) (y : S32x2x40x128.Idx) : BitVec 32 :=
  wordOf (C (y 0 : Fin 32)) (ix2 (y 2 : Fin 40) (⟨128 * (y 1 : Fin 2).val + (y 3 : Fin 128).val, by
    have h1 : (y 1 : Fin 2).val < 2 := (y 1 : Fin 2).isLt
    have h3 : (y 3 : Fin 128).val < 128 := (y 3 : Fin 128).isLt
    omega⟩ : Fin 256))

theorem wordRect_emb (m : Fin 32) (u : Fin 2) (a b : Fin 1) (r : Fin 40) (l : Fin 128) :
    (wordRect m u).emb (ix4 a b r l) = ix4 m u r l := by
  funext x
  apply Fin.ext
  have ha := a.isLt
  have hb := b.isLt
  fin_cases x <;> simp [Rect.unit, Rect.emb, ix4] <;> omega

theorem word_piece (C : Fin 32 → IVec S160x256 32) (m : Fin 32) (u : Fin 2) (w : S1x1x40x128.Idx → BitVec 32)
    (hw : ∀ (r : Fin 40) (l : Fin 128), w (ix4 (0 : Fin 1) (0 : Fin 1) r l) = wordOf (C m) (ix2 r (⟨128 * u.val + l.val, by omega⟩ : Fin 256)))
    (x : S1x1x40x128.Idx) : w x = wordAt C ((wordRect m u).emb x) := by
  obtain ⟨a, b, r, l, rfl⟩ : ∃ (a : Fin 1) (b : Fin 1) (r : Fin 40) (l : Fin 128), x = ix4 a b r l := ⟨x 0, x 1, x 2, x 3, eq_ix4 (n0 := 1) (n1 := 1) (n2 := 40) (n3 := 128) x⟩
  rw [wordRect_emb, Subsingleton.elim a 0, Subsingleton.elim b 0, hw]
  rfl

theorem wordPieces_cover (C : Fin 32 → IVec S160x256 32) (y : S32x2x40x128.Idx) :
    ∃ pc ∈ wordPieces (F := F) C, y ∈ pc.1.set :=
  View.cover_of_tiledL (wordPieces (F := F) C) S1x1x40x128.size (by sl_kernel_rfl) y

theorem wordsOf_eq (C : Fin 32 → IVec S160x256 32) : wordsOf (F := F) C = (wordAt C : S32x2x40x128.Idx → BitVec 32) := by
  unfold wordsOf
  rw [View.read_writes_junk_eq_canon]
  funext y
  refine View.canon_apply_of_pieces (wordAt C) _ ?_ y (wordPieces_cover (F := F) C y)
  intro p hp
  unfold wordPieces at hp
  obtain ⟨m, -, hp⟩ := List.mem_flatMap.1 hp
  rcases List.mem_cons.1 hp with rfl | hp
  · exact word_piece C m 1 _ fun r l => by pointwise
  · rcases List.mem_cons.1 hp with rfl | hp
    · exact word_piece C m 0 _ fun r l => by pointwise
    · exact absurd hp List.not_mem_nil

variable (m : (ℓ : Loc nD τ sig) → Buf (Elt F) ℓ)

theorem idx3 : ∀ t : Fin cfg0.N, win0_3.index t = ![(t.val % 4) * (t.val / 4), 0, 0, 0] ∧ win0_7.index t = ![0, 0] :=
  (by decide +kernel : ∀ t : Fin grid0.N, _)

theorem flush3 : ∀ t : Fin cfg0.N, (cfg0.win 3).flush t = true → 3 < t.val :=
  (by decide +kernel : ∀ t : Fin grid0.N, (cfg0.win 3).flush t = true → 3 < t.val)

theorem final7 (c : Dev nD) : (dats m 0 c).arrAt 7 (cfgs 0).N = (tsumOf (MN m c 4) : S160x128.Idx → F .f32) := by
  refine (dats m 0 c).arrAt_eq_of_covers 7 _ (by decide +kernel) fun t _ y => ?_
  have h0 : ((win0_7.blk t).view.emb y : S160x128.Idx) = y := funext fun a => Fin.ext (by fin_cases a <;> blk_simp [idx3 t])
  exact (congrArg (tsumOf (MN m c 4)) h0).symm

set_option maxHeartbeats 2000000 in
theorem final3 (c : Dev nD) : (dats m 0 c).arrAt 3 (cfgs 0).N
    = fun i : S128x2x40x128.Idx => wordAt (CC m c ⟨(i 0).val / 32, by have h : (i 0).val < 128 := (i 0).isLt; omega⟩)
        (ix4 (⟨(i 0).val % 32, Nat.mod_lt _ (by decide)⟩ : Fin 32) (i 1 : Fin 2) (i 2 : Fin 40) (i 3 : Fin 128)) := by
  refine (dats m 0 c).arrAt_eq_of_covers 3 _ (by decide +kernel) fun t hf y => ?_
  obtain ⟨u, b, r, l, rfl⟩ : ∃ (u : Fin 32) (b : Fin 2) (r : Fin 40) (l : Fin 128), y = ix4 u b r l := ⟨y 0, y 1, y 2, y 3, eq_ix4 (n0 := 32) (n1 := 2) (n2 := 40) (n3 := 128) y⟩
  have ht := flush3 t hf
  have ht8 : t.val < 8 := t.isLt
  have h1 : ((win0_3.blk t).view.emb (ix4 u b r l) 1 : Fin 2) = b := Fin.ext (by blk_simp [idx3 t])
  have h2 : ((win0_3.blk t).view.emb (ix4 u b r l) 2 : Fin 40) = r := Fin.ext (by blk_simp [idx3 t])
  have h3 : ((win0_3.blk t).view.emb (ix4 u b r l) 3 : Fin 128) = l := Fin.ext (by blk_simp [idx3 t])
  have hq : t.val / 4 = 1 := by omega
  have h0 : ((win0_3.blk t).view.emb (ix4 u b r l) 0 : Fin 128).val = 32 * (t.val % 4) + u.val := by
    blk_simp [idx3 t]; rw [hq]; omega
  show wordsOf (F := F) (CC m c (tl t)) (ix4 u b r l) = wordAt (CC m c ⟨((win0_3.blk t).view.emb (ix4 u b r l) 0 : Fin 128).val / 32, _⟩)
        (ix4 (⟨((win0_3.blk t).view.emb (ix4 u b r l) 0 : Fin 128).val % 32, _⟩ : Fin 32) ((win0_3.blk t).view.emb (ix4 u b r l) 1 : Fin 2) ((win0_3.blk t).view.emb (ix4 u b r l) 2 : Fin 40) ((win0_3.blk t).view.emb (ix4 u b r l) 3 : Fin 128))
  have e1 : (⟨((win0_3.blk t).view.emb (ix4 u b r l) 0 : Fin 128).val / 32, by omega⟩ : Fin 4) = tl t := Fin.ext (by show _ / 32 = t.val % 4; omega)
  have e2 : (⟨((win0_3.blk t).view.emb (ix4 u b r l) 0 : Fin 128).val % 32, Nat.mod_lt _ (by decide)⟩ : Fin 32) = u := Fin.ext (by show _ % 32 = u.val; omega)
  rw [wordsOf_eq, e1, e2, h1, h2, h3]
end

variable (m : (ℓ : Loc nD τ sig) → Buf (Elt Ideal) ℓ)

theorem tsumOf_at (mn : FVec Ideal S160x128 .f32) (q : Fin 160) (l : Fin 128) :
    tsumOf mn (ix2 q l) = ∑ g : Fin 128, (mn (ix2 q g) : EReal) := by
  pointwise [tsumOf, k0_pay210]

/-- THE SUMS of the minima. -/
theorem tsum_final (c : Dev nD) (hf : Fin' m c) (q : Fin 160) (l : Fin 128) :
    ((dats m 0 c).arrAt 7 (cfgs 0).N : S160x128.Idx → EReal) (ix2 q l) = ∑ g : Fin 128, TabSpec.lo (xs m c) (rs m c) (ss m c) q g :=
  (congrFun (final7 m c) (ix2 q l)).trans ((tsumOf_at _ q l).trans (Finset.sum_congr rfl fun g _ => MN_at m c hf q g))

/-- THE WORDS. -/
theorem words_at (c : Dev nD) (hf : Fin' m c) (g : Fin 128) (u : Fin 2) (r : Fin 40) (l : Fin 128) :
    ((dats m 0 c).arrAt 3 (cfgs 0).N : S128x2x40x128.Idx → BitVec 32) (ix4 g u r l)
      = TabSpec.pack fun j => TabSpec.code (xs m c) (rs m c) (ss m c) (MX m c 4 (ix2 (⟨40 * j.val + r.val, by omega⟩ : Fin 160) (0 : Fin 128)))
          ⟨40 * j.val + r.val, by omega⟩ g ⟨128 * u.val + l.val, by omega⟩ := by
  refine (congrFun (final3 m c) (ix4 g u r l)).trans ?_
  refine (wordOf_apply (CC m c ⟨g.val / 32, by omega⟩ (⟨g.val % 32, Nat.mod_lt _ (by decide)⟩ : Fin 32)) r ⟨128 * u.val + l.val, by omega⟩).trans ?_
  refine congrArg TabSpec.pack (funext fun j => ?_)
  rw [CC_at m c hf]
  exact congrArg (fun g : Fin 128 => TabSpec.code (xs m c) (rs m c) (ss m c) (MX m c 4 (ix2 (⟨40 * j.val + r.val, by omega⟩ : Fin 160) (0 : Fin 128)))
    ⟨40 * j.val + r.val, by omega⟩ g ⟨128 * u.val + l.val, by omega⟩) (Fin.ext (by show 32 * (g.val / 32) + g.val % 32 = g.val; omega))

end Cert.TablesIdeal.Tab

end
-- ==== Proof.TabReferenceValue.lean ====
module

public import proofs.«01_k».proof.Proof.Gen.TablesReferenceIdeal.Run
public import proofs.«01_k».proof.Proof.Gen.TablesReferenceIdeal.Read
public import proofs.«01_k».proof.Proof.TabSpec
public import Idealize.ShloMosaic.Lib.Pointwise
public import Idealize.ShloMosaic.Lib.Pipeline.ValueKit

/-!
What the reference of the tables computes, value by value
-/
@[expose] public section

set_option maxRecDepth 16384

noncomputable section

namespace Cert.TablesReferenceIdeal.Value

open Cert.TablesReferenceIdeal Cert.TablesReferenceIdeal.Gen Cert.TablesReferenceIdeal.Read Idealize.ShloMosaic Idealize.ShloMosaic.TcCoe

variable (x0 : (⟨S160x1024, .bf16⟩ : BufTy).Contents (Elt Ideal)) (x2 : (⟨S128, .f32⟩ : BufTy).Contents (Elt Ideal)) (r0 : (⟨S128x256x8, .f32⟩ : BufTy).Contents (Elt Ideal))

abbrev xs : Fin 160 → Fin 1024 → EReal := fun q e => x0 (ix2 q e)
abbrev ss : Fin 128 → EReal := fun g => x2 (ix1 g)
abbrev rs : Fin 128 → Fin 256 → Fin 8 → EReal := fun g k d => r0 (ix3 g k d)

theorem v24_at (q : Fin 160) (g : Fin 128) (k : Fin 256) : val_main_v24 (F := Ideal) x0 x2 r0 (ix3 q g k) = TabSpec.tv (xs x0) (rs r0) (ss x2) q g k := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  unfold TabSpec.tv
  have e : ∀ d : Fin 8, (⟨g.val * 8 + d.val, by omega⟩ : Fin 1024) = TabSpec.at8 g d := fun d => Fin.ext (by show g.val * 8 + d.val = 8 * g.val + d.val; omega)
  simp only [e, zero_add]
  refine congrArg (fun z : EReal => _ - Ideal.ofBits .f32 0x40000000#32 * (z * _)) (Finset.sum_congr rfl fun d _ => ?_)
  exact mul_comm _ _

theorem v25_at (q : Fin 160) (g : Fin 128) : val_main_v25 (F := Ideal) x0 x2 r0 (ix2 q g) = TabSpec.lo (xs x0) (rs r0) (ss x2) q g := by
  have h := v24_at x0 x2 r0 q g
  unfold val_main_v25
  generalize val_main_v24 (F := Ideal) x0 x2 r0 = z at h ⊢
  pointwise [val_main_cst_2]
  unfold TabSpec.lo
  exact congrArg (fun f => Finset.fold min (Ideal.ofBits .f32 0x7F800000#32) f Finset.univ) (funext h)

theorem v28_at (q : Fin 160) (g : Fin 128) (k : Fin 256) : val_main_v28 (F := Ideal) x0 x2 r0 (ix3 q g k)
    = TabSpec.tv (xs x0) (rs r0) (ss x2) q g k - TabSpec.lo (xs x0) (rs r0) (ss x2) q g := by
  rw [← v24_at, ← v25_at]
  unfold val_main_v28 val_main_v27 val_main_v26
  generalize val_main_v24 (F := Ideal) x0 x2 r0 = z
  generalize val_main_v25 (F := Ideal) x0 x2 r0 = y
  pointwise

theorem v29_le (q : Fin 160) (c : EReal) : val_main_v29 (F := Ideal) x0 x2 r0 (ix1 q) ≤ c
    ↔ ∀ (g : Fin 128) (k : Fin 256), TabSpec.tv (xs x0) (rs r0) (ss x2) q g k - TabSpec.lo (xs x0) (rs r0) (ss x2) q g ≤ c := by
  have h := v28_at x0 x2 r0 q
  unfold val_main_v29
  generalize val_main_v28 (F := Ideal) x0 x2 r0 = z at h ⊢
  rw [Host.reduce_eq_fold]
  refine (Finset.fold_max_le (α := S160x128x256.Idx) (β := EReal) (f := z) c).trans ?_
  constructor
  · intro hc g k
    rw [← h]
    refine hc.2 (ix3 q g k) (Finset.mem_filter.2 ⟨Finset.mem_univ _, funext fun a => Fin.ext ?_⟩)
    fin_cases a
    exact Shape.ReducesTo.drop_apply_val_of_eq reducesTo_S160x128x256_S160_d1_2 (ix3 q g k) 0 0
  · intro hc
    refine ⟨?_, fun i hi => ?_⟩
    · show Ideal.ofBits .f32 0xFF800000#32 ≤ c
      rw [TabSpec.neg_inf]; exact bot_le
    · have hd := (Finset.mem_filter.1 hi).2
      obtain ⟨q', g, k, rfl⟩ : ∃ (q' : Fin 160) (g : Fin 128) (k : Fin 256), i = ix3 q' g k := ⟨i 0, i 1, i 2, eq_ix3 (n0 := 160) (n1 := 128) (n2 := 256) i⟩
      have hq : q' = q := Fin.ext ((Shape.ReducesTo.drop_apply_val_of_eq reducesTo_S160x128x256_S160_d1_2 (ix3 q' g k) 0 0).symm.trans (congrArg (fun j : S160.Idx => (j 0).val) hd))
      subst hq
      exact (h g k).le.trans (hc g k)

/-- The reference's largest spread. -/
theorem v31_top (q : Fin 160) : TabSpec.IsTop (xs x0) (rs r0) (ss x2) q (val_main_v31 (F := Ideal) x0 x2 r0 (ix1 q)) := by
  intro c
  have h := v29_le x0 x2 r0 q c
  have e : (val_main_v30 (F := Ideal) (ix1 q) : EReal) = 0 := by
    rw [val_main_v30_apply, val_main_cst_4_apply]; exact Ideal.ofBits_zero_f32
  rw [val_main_v31_apply]
  generalize val_main_v29 (F := Ideal) x0 x2 r0 = z at h ⊢
  rw [e]
  exact max_le_iff.trans (and_congr Iff.rfl h)

theorem v33_at (q : Fin 160) : val_main_v33 (F := Ideal) x0 x2 r0 (ix1 q)
    = Ideal.div (val_main_v31 (F := Ideal) x0 x2 r0 (ix1 q)) (Ideal.ofBits .f32 0x437F0000#32) := by
  rw [val_main_v33_apply, val_main_v32_apply, val_main_cst_5_apply]
  rfl

theorem v42_at (q : Fin 160) (l : Fin 128) : val_main_v42 (F := Ideal) x0 x2 r0 (ix2 q l)
    = Ideal.div (val_main_v31 (F := Ideal) x0 x2 r0 (ix1 q)) (Ideal.ofBits .f32 0x437F0000#32) := by
  rw [← v33_at]
  unfold val_main_v42 val_main_v41
  generalize val_main_v33 (F := Ideal) x0 x2 r0 = z
  pointwise

theorem v35_at (q : Fin 160) (g : Fin 128) (k : Fin 256) : val_main_v35 (F := Ideal) x0 x2 r0 (ix3 q g k)
    = Ideal.div (val_main_v31 (F := Ideal) x0 x2 r0 (ix1 q)) (Ideal.ofBits .f32 0x437F0000#32) := by
  rw [← v33_at]
  unfold val_main_v35 val_main_v34
  generalize val_main_v33 (F := Ideal) x0 x2 r0 = z
  pointwise

theorem c0_at (i : S160x128x256.Idx) : (val_main_call1_v1 (F := Ideal) i : EReal) = Ideal.ofBits .f32 0x00000000#32 := by
  rw [val_main_call1_v1_apply, val_main_call1_v0_apply, val_main_c_apply, Ideal.ofBits_zero_f32]
  show (((0#32 : BitVec 32).toInt : ℝ) : EReal) = 0
  simp

theorem c255_at (i : S160x128x256.Idx) : (val_main_call1_v4 (F := Ideal) i : EReal) = Ideal.ofBits .f32 0x437F0000#32 := by
  rw [val_main_call1_v4_apply, val_main_call1_v3_apply, val_main_c_6_apply, TabSpec.ofBits_255]
  show (((255#32 : BitVec 32).toInt : ℝ) : EReal) = _
  rw [show (255#32 : BitVec 32).toInt = 255 by decide]
  norm_num

theorem v39_at (q : Fin 160) (g : Fin 128) (k : Fin 256) : val_main_v39 (F := Ideal) x0 x2 r0 (ix3 q g k)
    = TabSpec.code (xs x0) (rs r0) (ss x2) (val_main_v31 (F := Ideal) x0 x2 r0 (ix1 q)) q g k := by
  rw [val_main_v39_apply, val_main_v38_apply, val_main_call1_v2_apply, val_main_v37_apply, val_main_v36_apply,
    c0_at, c255_at, v35_at, v28_at]
  rfl

/-- A word packs the codes of four queries. -/
theorem v61_at (g : Fin 128) (u : Fin 2) (r : Fin 40) (l : Fin 128) : val_main_v61 (F := Ideal) x0 x2 r0 (ix4 g u r l)
    = TabSpec.pack fun j => val_main_v39 (F := Ideal) x0 x2 r0 (ix3 (⟨40 * j.val + r.val, by omega⟩ : Fin 160) g (⟨128 * u.val + l.val, by omega⟩ : Fin 256)) := by
  have h43 : ∀ j : Fin 4, val_main_v43 (F := Ideal) x0 x2 r0 (ix5 j r g u l)
      = val_main_v39 (F := Ideal) x0 x2 r0 (ix3 (⟨40 * j.val + r.val, by omega⟩ : Fin 160) g (⟨128 * u.val + l.val, by omega⟩ : Fin 256)) := fun j =>
    (val_main_v43_apply x0 x2 r0 _).trans (congrArg (val_main_v39 (F := Ideal) x0 x2 r0) (funext fun a => Fin.ext (by
      match a with
      | ⟨0, _⟩ => show ((((j.val * 40 + r.val) * 128 + g.val) * 2 + u.val) * 128 + l.val) / 32768 = 40 * j.val + r.val; omega
      | ⟨1, _⟩ => show ((((j.val * 40 + r.val) * 128 + g.val) * 2 + u.val) * 128 + l.val) / 256 % 128 = g.val; omega
      | ⟨2, _⟩ => show ((((j.val * 40 + r.val) * 128 + g.val) * 2 + u.val) * 128 + l.val) % 256 = 128 * u.val + l.val; omega)))
  simp only [← h43]
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44
  generalize val_main_v43 (F := Ideal) x0 x2 r0 = z
  pointwise [val_main_c_7, val_main_c_8, val_main_c_9]
  unfold TabSpec.pack
  all_goals (try simp (discharger := decide) only [TabSpec.shl_const])
  all_goals (try rfl)

/-- The sums of the minima. -/
theorem v64_at (q : Fin 160) (l : Fin 128) : val_main_v64 (F := Ideal) x0 x2 r0 (ix2 q l)
    = ∑ g : Fin 128, TabSpec.lo (xs x0) (rs r0) (ss x2) q g := by
  have e : val_main_v64 (F := Ideal) x0 x2 r0 (ix2 q l) = val_main_v62 (F := Ideal) x0 x2 r0 (ix1 q) := by
    unfold val_main_v64 val_main_v63
    generalize val_main_v62 (F := Ideal) x0 x2 r0 = z
    pointwise
  rw [e, val_main_v62_apply, val_main_cst_10_apply]
  refine (congrArg (fun z : EReal => z + _) Ideal.ofBits_zero_f32).trans ((zero_add _).trans (Finset.sum_congr rfl fun g _ => ?_))
  exact (congrArg (val_main_v25 (F := Ideal) x0 x2 r0) (funext fun a => Fin.ext (by
    match a with
    | ⟨0, _⟩ => rfl
    | ⟨1, _⟩ => rfl) : idx_main_v62 (ix1 q) g = ix2 q g)).trans (v25_at x0 x2 r0 q g)

theorem v40_at (q : Fin 160) (g : Fin 128) (k : Fin 256) : val_main_v40 (F := Ideal) x0 x2 r0 (ix3 q g k)
    = BitVec.setWidth 8 (TabSpec.code (xs x0) (rs r0) (ss x2) (val_main_v31 (F := Ideal) x0 x2 r0 (ix1 q)) q g k) := by
  rw [val_main_v40_apply, val_main_v39_apply, val_main_v38_apply, val_main_call1_v2_apply, val_main_v37_apply, val_main_v36_apply,
    c0_at, c255_at, v35_at, v28_at]
  rfl

end Cert.TablesReferenceIdeal.Value

end
-- ==== Proof.TabReferenceRegion.lean ====
module

public import proofs.«01_k».proof.Proof.Gen.TablesReferenceIdeal.Run
public import Idealize.ShloMosaic.Lib.Pointwise
public import Idealize.ShloMosaic.Lib.Pipeline.ValueKit

/-!
The centroids the reference decodes
-/
@[expose] public section

set_option maxRecDepth 16384

noncomputable section

namespace Cert.TablesReferenceIdeal.Value

open Cert.TablesReferenceIdeal Cert.TablesReferenceIdeal.Gen Idealize.ShloMosaic Idealize.ShloMosaic.TcCoe

variable (m : (ℓ : Loc nD τ sig) → Buf (Elt Ideal) ℓ)

theorem idx : ∀ t : Fin cfg0.N, win0_0.index t = ![0, 0, 0] ∧ win0_1.index t = ![0, 0, 0] :=
  (by decide +kernel : ∀ t : Fin grid0.N, _)

theorem iblk0 (c : Dev nD) (t : Fin cfg0.N) : iblk m c 0 t = m ((c : Thread nD τ).loc main_arg1) := by
  blk_ext! [iblk, V, idx t]

theorem reg_at (c : Dev nD) : (reg_main_v0 m c : S128x256x8.Idx → EReal) = (m ((c : Thread nD τ).loc main_arg1) : S128x256x8.Idx → EReal) := by
  unfold reg_main_v0
  have key : ∀ t : Fin cfg0.N, out0_1 (iblk m c 0 t) = (m ((c : Thread nD τ).loc main_arg1) : S128x256x8.Idx → EReal) := by
    intro t
    rw [iblk0]
    unfold out0_1
    rw [View.canon_cons_unit_lit _ _ _ (by decide), View.ld_unit_lit _ _ (by decide)]
    rfl
  refine (dats m 0 c).arrAt_eq_of_covers 1 _ (by decide +kernel) fun t _ y => ?_
  have h0 : ((win0_1.blk t).view.emb y : S128x256x8.Idx) = y := funext fun a => Fin.ext (by fin_cases a <;> blk_simp [idx t])
  blk_simp
  rw [after0_1, key]
  exact (congrArg (m ((c : Thread nD τ).loc main_arg1) : S128x256x8.Idx → EReal) h0).symm

end Cert.TablesReferenceIdeal.Value

end
-- ==== Proof.TabEqual.lean ====
/- The tables kernel and its reference end with the same codes, scales, minima, packed words and sums over the extended reals. -/
module

public import proofs.«01_k».proof.Defs
public import proofs.«01_k».proof.Proof.Gen.Pre_x_finite
public import proofs.«01_k».proof.Proof.TabIdealWords
public import proofs.«01_k».proof.Proof.TabReferenceValue
public import proofs.«01_k».proof.Proof.TabReferenceRegion
public import Idealize.ShloMosaic.Lib.ReduceAll

@[expose] public section

set_option maxRecDepth 16384

noncomputable section

namespace Cert.TabEqual

open Idealize.ShloMosaic Idealize.ShloMosaic.TcCoe Idealize.SL.Sem
open Cert.TablesIdeal

variable (m : (ℓ : Loc nD τ sig) → Buf (Elt Ideal) ℓ)

/-- What the precondition says: every query coordinate is a real number. -/
theorem finite (hpre : Cert.Pre_TablesIdeal_x_finite (hPre_x_finite := Cert.Pre_x_finite.Gen.facts) m) (c : Dev nD) :
    Tab.Fin' m c := by
  intro q e
  have h := congrFun (hpre c) (Shape.Idx.first Cert.Pre_x_finite.Gen.facts.h_S_)
  have : Subsingleton Cert.Pre_x_finite.S_.Idx := ⟨fun a b => funext fun i => i.elim0⟩
  have h2 := Host.reduce_andi_all _ _ _ _ _ h (ix2 q e)
  have h3 : Ideal.cmp .olt (max (Tab.xs m c q e) (-(Tab.xs m c q e))) (Ideal.ofBits .f32 0x7F800000#32) = 1#1 := h2
  have htop : Ideal.ofBits .f32 0x7F800000#32 = (⊤ : EReal) := by simp [Ideal.ofBits, Ideal.ieee]
  rw [htop] at h3
  generalize Tab.xs m c q e = z at h3 ⊢
  constructor
  · rintro rfl
    simp [Ideal.cmp] at h3
  · rintro rfl
    simp [Ideal.cmp] at h3

/-- The kernel's run with each result array named. -/
theorem run_blocks (ρ : Dev nD → PrngReg) : θ_run defs (onTc (τ := τ) (main (F := Ideal))) ⟨m, fun _ => 0, ρ⟩ fun r => ∀ c : Dev nD,
      r.2.mem ((c : Thread nD τ).loc main_v4_1) = (Tab.dats m 0 c).arrAt 4 cfg0.N
      ∧ r.2.mem ((c : Thread nD τ).loc main_v4_2) = (Tab.dats m 0 c).arrAt 5 cfg0.N
      ∧ r.2.mem ((c : Thread nD τ).loc main_v4_3) = (Tab.dats m 0 c).arrAt 6 cfg0.N
      ∧ r.2.mem ((c : Thread nD τ).loc main_v4_0) = (Tab.dats m 0 c).arrAt 3 cfg0.N
      ∧ r.2.mem ((c : Thread nD τ).loc main_v4_4) = (Tab.dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 4, (h.1 c).1 5, (h.1 c).1 6, (h.1 c).1 3, (h.1 c).1 7, h.2 c⟩) (θ_run_and (Tab.run_main m ρ) (Tab.unchanged m ρ))

variable (m' : (ℓ : Loc Cert.TablesReferenceIdeal.nD Cert.TablesReferenceIdeal.τ Cert.TablesReferenceIdeal.sig) → Buf (Elt Ideal) ℓ)

open Cert.TablesReferenceIdeal.Read in
/-- The five results. -/
theorem equal (c : Dev nD) (hf : Tab.Fin' m c)
    (x0 : S160x1024.Idx → EReal) (r0 : S128x256x8.Idx → EReal) (x2 : S128.Idx → EReal)
    (h0 : x0 = m ((c : Thread nD τ).loc main_arg0)) (h1 : r0 = m ((c : Thread nD τ).loc main_arg1)) (h2 : x2 = m ((c : Thread nD τ).loc main_arg2)) :
    (val_main_v40 (F := Ideal) x0 x2 r0 = ((Tab.dats m 0 c).arrAt 4 cfg0.N : S160x128x256.Idx → BitVec 8))
    ∧ (val_main_v42 (F := Ideal) x0 x2 r0 = ((Tab.dats m 0 c).arrAt 5 cfg0.N : S160x128.Idx → EReal))
    ∧ (val_main_v25 (F := Ideal) x0 x2 r0 = ((Tab.dats m 0 c).arrAt 6 cfg0.N : S160x128.Idx → EReal))
    ∧ (val_main_v61 (F := Ideal) x0 x2 r0 = ((Tab.dats m 0 c).arrAt 3 cfg0.N : S128x2x40x128.Idx → BitVec 32))
    ∧ (val_main_v64 (F := Ideal) x0 x2 r0 = ((Tab.dats m 0 c).arrAt 7 cfg0.N : S160x128.Idx → EReal)) := by
  subst h0 h1 h2
  have top : ∀ (q : Fin 160) (l : Fin 128), val_main_v31 (F := Ideal) (m ((c : Thread nD τ).loc main_arg0)) (m ((c : Thread nD τ).loc main_arg2)) (m ((c : Thread nD τ).loc main_arg1)) (ix1 q)
      = Tab.MX m c 4 (ix2 q l) := fun q l =>
    TabSpec.IsTop.unique _ _ _ (Cert.TablesReferenceIdeal.Value.v31_top _ _ _ q) (Tab.MX_top m c hf q l)
  refine ⟨funext fun i => ?_, funext fun i => ?_, funext fun i => ?_, funext fun i => ?_, funext fun i => ?_⟩
  · obtain ⟨q, g, k, rfl⟩ : ∃ (q : Fin 160) (g : Fin 128) (k : Fin 256), i = ix3 q g k := ⟨i 0, i 1, i 2, eq_ix3 (n0 := 160) (n1 := 128) (n2 := 256) i⟩
    refine (Cert.TablesReferenceIdeal.Value.v40_at _ _ _ q g k).trans (Eq.trans ?_ (Tab.codes_at m c hf q g k).symm)
    rw [top q 0]
  · obtain ⟨q, l, rfl⟩ : ∃ (q : Fin 160) (l : Fin 128), i = ix2 q l := ⟨i 0, i 1, eq_ix2 (n0 := 160) (n1 := 128) i⟩
    refine (Cert.TablesReferenceIdeal.Value.v42_at _ _ _ q l).trans (Eq.trans ?_ (Tab.delta_final m c q l).symm)
    rw [top q l]
  · obtain ⟨q, g, rfl⟩ : ∃ (q : Fin 160) (g : Fin 128), i = ix2 q g := ⟨i 0, i 1, eq_ix2 (n0 := 160) (n1 := 128) i⟩
    exact (Cert.TablesReferenceIdeal.Value.v25_at _ _ _ q g).trans (Tab.tmin_final m c hf q g).symm
  · obtain ⟨g, u, r, l, rfl⟩ : ∃ (g : Fin 128) (u : Fin 2) (r : Fin 40) (l : Fin 128), i = ix4 g u r l := ⟨i 0, i 1, i 2, i 3, eq_ix4 (n0 := 128) (n1 := 2) (n2 := 40) (n3 := 128) i⟩
    refine (Cert.TablesReferenceIdeal.Value.v61_at _ _ _ g u r l).trans (Eq.trans ?_ (Tab.words_at m c hf g u r l).symm)
    refine congrArg TabSpec.pack (funext fun j => ?_)
    refine (Cert.TablesReferenceIdeal.Value.v39_at _ _ _ _ _ _).trans ?_
    rw [top _ 0]
  · obtain ⟨q, l, rfl⟩ : ∃ (q : Fin 160) (l : Fin 128), i = ix2 q l := ⟨i 0, i 1, eq_ix2 (n0 := 160) (n1 := 128) i⟩
    exact (Cert.TablesReferenceIdeal.Value.v64_at _ _ _ q l).trans (Tab.tsum_final m c hf q l).symm

end Cert.TabEqual

end
-- ==== Proof.TabReferenceRun.lean ====
/- The run of the tables' reference, its results as the stages of what its later operations start from. -/
module

public import proofs.«01_k».proof.Proof.Gen.TablesReferenceIdeal.Run
public import proofs.«01_k».proof.Proof.Gen.TablesReferenceIdeal.Read

@[expose] public section

set_option maxRecDepth 16384

noncomputable section

namespace Cert.TablesReferenceIdeal.Value

open Cert.TablesReferenceIdeal Cert.TablesReferenceIdeal.Read Idealize.ShloMosaic Idealize.ShloMosaic.TcCoe Idealize.SL.Sem

variable (m : (ℓ : Loc nD τ sig) → Buf (Elt Ideal) ℓ)

abbrev in0 (c : Dev nD) : (⟨S160x1024, .bf16⟩ : BufTy).Contents (Elt Ideal) := exitV m c (Proc.devRef .tc main_arg0)
abbrev in2 (c : Dev nD) : (⟨S128, .f32⟩ : BufTy).Contents (Elt Ideal) := exitV m c (Proc.devRef .tc main_arg2)
abbrev inr (c : Dev nD) : (⟨S128x256x8, .f32⟩ : BufTy).Contents (Elt Ideal) := exitV m c (Proc.devRef .tc main_v0)

/-- Every run ends with each result at its stage, and the arguments unchanged. -/
theorem run_stages (ρ : Dev nD → PrngReg) :
    θ_run defs (onTc (τ := τ) (main (F := Ideal))) ⟨m, fun _ => 0, ρ⟩ fun r => ∀ c : Dev nD,
      r.2.mem ((c.tc : Thread nD τ).loc main_v40) = val_main_v40 (F := Ideal) (in0 m c) (in2 m c) (inr m c)
      ∧ r.2.mem ((c.tc : Thread nD τ).loc main_v42) = val_main_v42 (F := Ideal) (in0 m c) (in2 m c) (inr m c)
      ∧ r.2.mem ((c.tc : Thread nD τ).loc main_v25) = val_main_v25 (F := Ideal) (in0 m c) (in2 m c) (inr m c)
      ∧ r.2.mem ((c.tc : Thread nD τ).loc main_v61) = val_main_v61 (F := Ideal) (in0 m c) (in2 m c) (inr m c)
      ∧ r.2.mem ((c.tc : Thread nD τ).loc main_v64) = val_main_v64 (F := Ideal) (in0 m c) (in2 m c) (inr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v40_eq (exitV m c)), (h c).2.1.trans (val_main_v42_eq (exitV m c)),
    (h c).2.2.1.trans (val_main_v25_eq (exitV m c)), (h c).2.2.2.1.trans (val_main_v61_eq (exitV m c)),
    (h c).2.2.2.2.1.trans (val_main_v64_eq (exitV m c)), (h c).2.2.2.2.2⟩) (run m ρ)

end Cert.TablesReferenceIdeal.Value

end
-- ==== Proof.lean ====
/- The claims about the two calls, scan and tables: the frame of each as it runs, the frame of its ideal reading and of its
   reference, and that call and reference end with the same results over the extended reals. -/
module

public import proofs.«01_k».proof.Defs
public import proofs.«01_k».proof.Proof.Gen.Scan
public import proofs.«01_k».proof.Proof.Gen.ScanIdeal
public import proofs.«01_k».proof.Proof.Gen.ScanReferenceIdeal
public import proofs.«01_k».proof.Proof.Gen.ScanReferenceIdeal.Run
public import proofs.«01_k».proof.Proof.Gen.ScanReferenceIdeal.Read
public import proofs.«01_k».proof.Proof.ScanFrame
public import proofs.«01_k».proof.Proof.ScanIdealFrame
public import proofs.«01_k».proof.Proof.ScanIdealBlocks
public import proofs.«01_k».proof.Proof.ScanEqual
public import proofs.«01_k».proof.Proof.Gen.Tables
public import proofs.«01_k».proof.Proof.TabKernelFrame
public import proofs.«01_k».proof.Proof.Gen.TablesIdeal
public import proofs.«01_k».proof.Proof.Gen.TablesReferenceIdeal
public import proofs.«01_k».proof.Proof.Gen.TablesReferenceIdeal.Frame
public import proofs.«01_k».proof.Proof.Gen.TablesReferenceIdeal.Run
public import proofs.«01_k».proof.Proof.Gen.TablesReferenceIdeal.Read
public import proofs.«01_k».proof.Proof.Gen.Pre_x_finite
public import proofs.«01_k».proof.Proof.TabIdealFrame
public import proofs.«01_k».proof.Proof.TabEqual
public import proofs.«01_k».proof.Proof.TabReferenceRun
public import proofs.«01_k».proof.Proof.TabReferenceRegion
public import Idealize.ShloMosaic.Lib.Claim
public import Idealize.ShloMosaic.Adequacy
public import Idealize.ShloMosaic.Init

@[expose] public section

noncomputable section

namespace Cert.Proof

open Idealize.ShloMosaic Idealize.SL.Sem

/-- The reference of the scan terminates, keeps its arguments and declares no semaphore. -/
theorem frame_ScanReference : Cert.quiescent_ScanReferenceIdeal (hScanReferenceIdeal := Cert.ScanReferenceIdeal.Gen.facts) := fun m ρ _ =>
  (θ_run Cert.ScanReferenceIdeal.defs _ _).mono
    (fun r h => ⟨fun c => ⟨(h c).2.1, (h c).2.2.1, (h c).2.2.2.1, (h c).2.2.2.2⟩, sem_eq_zero_of_no_sems (by decide) r.2⟩)
    (Cert.ScanReferenceIdeal.Value.run (F := Ideal) m ρ)

/-- The scan and its reference end with the same scores: both hold `scanAt` of the four arguments. -/
theorem algebraic_Scan : Cert.algebraic_ScanIdeal_ScanReferenceIdeal (hScanIdeal := Cert.ScanIdeal.Gen.facts)
    (hScanReferenceIdeal := Cert.ScanReferenceIdeal.Gen.facts) := by
  intro m g m' g' _ hargs
  refine ⟨fun c => (Cert.ScanIdeal.Run.dats m 0 c).arrAt 4 Cert.ScanIdeal.cfg0.N, Cert.ScanIdeal.Value.run_blocks m g, ?_⟩
  refine (θ_run Cert.ScanReferenceIdeal.defs _ _).mono (fun r h c => ⟨?_, (h c).2⟩) (Cert.ScanReferenceIdeal.Value.run (F := Ideal) m' g')
  obtain ⟨h0, h1, h2, h3⟩ := hargs c
  refine (h c).1.trans ?_
  refine Eq.trans ?_ (Cert.ScanIdeal.Value.final m c).symm
  refine (Cert.ScanReferenceIdeal.Read.val_main_v51_eq ..).trans ?_
  rw [h0, h1, h2, h3]
  exact Cert.ScanEqual.equal ..

/-- The tables and their reference end with the same codes, scales, minima, packed words and sums, for finite queries. -/
theorem algebraic_Tables : Cert.algebraic_TablesIdeal_TablesReferenceIdeal_pre_x_finite (hTablesIdeal := Cert.TablesIdeal.Gen.facts)
    (hTablesReferenceIdeal := Cert.TablesReferenceIdeal.Gen.facts) (hPre_x_finite := Cert.Pre_x_finite.Gen.facts) := by
  intro m g m' g' hpre hargs
  refine ⟨fun c => (Cert.TablesIdeal.Tab.dats m 0 c).arrAt 4 Cert.TablesIdeal.cfg0.N, fun c => (Cert.TablesIdeal.Tab.dats m 0 c).arrAt 5 Cert.TablesIdeal.cfg0.N,
    fun c => (Cert.TablesIdeal.Tab.dats m 0 c).arrAt 6 Cert.TablesIdeal.cfg0.N, fun c => (Cert.TablesIdeal.Tab.dats m 0 c).arrAt 3 Cert.TablesIdeal.cfg0.N,
    fun c => (Cert.TablesIdeal.Tab.dats m 0 c).arrAt 7 Cert.TablesIdeal.cfg0.N, Cert.TabEqual.run_blocks m g, ?_⟩
  refine (θ_run Cert.TablesReferenceIdeal.defs _ _).mono (fun r h c => ?_) (Cert.TablesReferenceIdeal.Value.run_stages m' g')
  obtain ⟨h0, h1, h2⟩ := hargs c
  obtain ⟨e4, e5, e6, e3, e7⟩ := Cert.TabEqual.equal m c (Cert.TabEqual.finite m hpre c)
    (Cert.TablesReferenceIdeal.Value.in0 m' c) (Cert.TablesReferenceIdeal.Value.inr m' c) (Cert.TablesReferenceIdeal.Value.in2 m' c)
    ((Cert.TablesReferenceIdeal.Value.exit_main_arg0 m' c).trans h0)
    ((Cert.TablesReferenceIdeal.Value.exit_main_v0 m' c).trans ((Cert.TablesReferenceIdeal.Value.reg_at m' c).trans h1))
    ((Cert.TablesReferenceIdeal.Value.exit_main_arg2 m' c).trans h2)
  exact ⟨(h c).1.trans e4, (h c).2.1.trans e5, (h c).2.2.1.trans e6, (h c).2.2.2.1.trans e3, (h c).2.2.2.2.1.trans e7, (h c).2.2.2.2.2⟩

theorem claim : Cert.Claim := ⟨Cert.Scan.Gen.facts, Cert.ScanIdeal.Gen.facts, Cert.ScanReferenceIdeal.Gen.facts,
  Cert.Tables.Gen.facts, Cert.TablesIdeal.Gen.facts, Cert.TablesReferenceIdeal.Gen.facts, Cert.Pre_x_finite.Gen.facts,
  fun m ρ _ => Cert.Scan.Run.frame m ρ, fun m ρ _ => Cert.ScanIdeal.Run.frame m ρ, frame_ScanReference,
  fun m ρ _ => Cert.Tables.Tab.frame m ρ, fun m ρ _ => Cert.TablesIdeal.Tab.frame m ρ, fun m ρ _ => Cert.TablesIdeal.Tab.frame m ρ,
  fun m ρ _ => Cert.TablesReferenceIdeal.Gen.frame m ρ, fun m ρ _ => Cert.TablesReferenceIdeal.Gen.frame m ρ,
  trivial, algebraic_Scan, trivial, algebraic_Tables⟩

end Cert.Proof

end
